-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "cap_scale" .f32 0x3AA3D70A#32 ((1 / 800 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x1x32x256 : Shape := ⟨4, ![4, 1, 32, 256]⟩
abbrev S4x1x8x256 : Shape := ⟨4, ![4, 1, 8, 256]⟩
abbrev S4x8192x8x256 : Shape := ⟨4, ![4, 8192, 8, 256]⟩
abbrev S4x8192x8x8 : Shape := ⟨4, ![4, 8192, 8, 8]⟩
abbrev S4 : Shape := ⟨1, ![4]⟩
abbrev S4x1x8x8x32 : Shape := ⟨5, ![4, 1, 8, 8, 32]⟩
abbrev S_ : Shape := ⟨0, ![]⟩
abbrev S4x1x8x8 : Shape := ⟨4, ![4, 1, 8, 8]⟩

class Facts : Prop where
  bitsLt_bf16_f32 : FTy.bits .bf16 < FTy.bits .f32
  shapeCasts_S4x1x8x256_S4x1x8x8x32 : S4x1x8x256.ShapeCasts S4x1x8x8x32
  reducesTo_S4x1x8x8x32_S4x1x8x8_d4 : S4x1x8x8x32.ReducesTo [4] S4x1x8x8
  h_S_ : 0 < S_.numel
  bcast_S_S4x1x8x8 : S_.BroadcastsInDim S4x1x8x8 (![] : Fin 0 → Fin S4x1x8x8.rank)
  reducesTo_S4x1x8x8_S_d0_1_2_3 : S4x1x8x8.ReducesTo [0, 1, 2, 3] S_

variable [Facts]

def fn_part1 {F : FTy → Type} [FloatOps F] (main_v12 : IVec S_ 1) (main_v16 : FVec F S4x1x8x8 .f32) (main_cst_4 : FVec F S_ .f32) : IVec S_ 1 :=
  let main_v17 : FVec F S4x1x8x8 .f32 := broadcastInDim S4x1x8x8 ![] bcast_S_S4x1x8x8 main_cst_4
  let main_v18 : IVec S4x1x8x8 1 := cmpf .oeq main_v16 main_v17
  let main_cst_5 : FVec F S_ .f32 := constant S_ .f32 0x05000000#32
  let main_v19 : FVec F S4x1x8x8 .f32 := broadcastInDim S4x1x8x8 ![] bcast_S_S4x1x8x8 main_cst_5
  let main_v20 : IVec S4x1x8x8 1 := cmpf .oge main_v16 main_v19
  let main_cst_6 : FVec F S_ .f32 := constant S_ .f32 0x7E800000#32
  let main_v21 : FVec F S4x1x8x8 .f32 := broadcastInDim S4x1x8x8 ![] bcast_S_S4x1x8x8 main_cst_6
  let main_v22 : IVec S4x1x8x8 1 := cmpf .ole main_v16 main_v21
  let main_v23 : IVec S4x1x8x8 1 := andi main_v20 main_v22
  let main_v24 : IVec S4x1x8x8 1 := ori main_v18 main_v23
  let main_c_7 : IVec S_ 1 := constantI S_ 1 1#1
  let main_v25 : IVec S_ 1 := (fun x v => Host.reduce IntOp.andi x v reducesTo_S4x1x8x8_S_d0_1_2_3 h_S_) main_v24 main_c_7
  let main_v26 : IVec S_ 1 := andi main_v12 main_v25
  main_v26

def fn {F : FTy → Type} [FloatOps F] (main_arg0 : FVec F S4x1x32x256 .bf16) (main_arg1 : FVec F S4x1x8x256 .bf16) (main_arg2 : FVec F S4x1x8x256 .bf16) (main_arg3 : FVec F S4x8192x8x256 .fp8e4m3) (main_arg4 : FVec F S4x8192x8x8 .f32) (main_arg5 : FVec F S4x8192x8x256 .fp8e4m3) (main_arg6 : FVec F S4x8192x8x8 .f32) (main_arg7 : IVec S4 32) : IVec S_ 1 :=
  let main_v0 : FVec F S4x1x8x256 .f32 := (extf .f32 · bitsLt_bf16_f32) main_arg1
  let main_v1 : FVec F S4x1x8x8x32 .f32 := shapeCast S4x1x8x8x32 main_v0 shapeCasts_S4x1x8x256_S4x1x8x8x32
  let main_v2 : FVec F S4x1x8x8x32 .f32 := Host.absf main_v1
  let main_cst : FVec F S_ .f32 := constant S_ .f32 0xFF800000#32
  let main_v3 : FVec F S4x1x8x8 .f32 := (fun x v => Host.reduce FloatOps.maximumf x v reducesTo_S4x1x8x8x32_S4x1x8x8_d4 h_S_) main_v2 main_cst
  let main_cst_0 : FVec F S_ .f32 := constant S_ .f32 0x00000000#32
  let main_v4 : FVec F S4x1x8x8 .f32 := broadcastInDim S4x1x8x8 ![] bcast_S_S4x1x8x8 main_cst_0
  let main_v5 : IVec S4x1x8x8 1 := cmpf .oeq main_v3 main_v4
  let main_cst_1 : FVec F S_ .f32 := constant S_ .f32 0x05000000#32
  let main_v6 : FVec F S4x1x8x8 .f32 := broadcastInDim S4x1x8x8 ![] bcast_S_S4x1x8x8 main_cst_1
  let main_v7 : IVec S4x1x8x8 1 := cmpf .oge main_v3 main_v6
  let main_cst_2 : FVec F S_ .f32 := constant S_ .f32 0x7E800000#32
  let main_v8 : FVec F S4x1x8x8 .f32 := broadcastInDim S4x1x8x8 ![] bcast_S_S4x1x8x8 main_cst_2
  let main_v9 : IVec S4x1x8x8 1 := cmpf .ole main_v3 main_v8
  let main_v10 : IVec S4x1x8x8 1 := andi main_v7 main_v9
  let main_v11 : IVec S4x1x8x8 1 := ori main_v5 main_v10
  let main_c : IVec S_ 1 := constantI S_ 1 1#1
  let main_v12 : IVec S_ 1 := (fun x v => Host.reduce IntOp.andi x v reducesTo_S4x1x8x8_S_d0_1_2_3 h_S_) main_v11 main_c
  let main_v13 : FVec F S4x1x8x256 .f32 := (extf .f32 · bitsLt_bf16_f32) main_arg2
  let main_v14 : FVec F S4x1x8x8x32 .f32 := shapeCast S4x1x8x8x32 main_v13 shapeCasts_S4x1x8x256_S4x1x8x8x32
  let main_v15 : FVec F S4x1x8x8x32 .f32 := Host.absf main_v14
  let main_cst_3 : FVec F S_ .f32 := constant S_ .f32 0xFF800000#32
  let main_v16 : FVec F S4x1x8x8 .f32 := (fun x v => Host.reduce FloatOps.maximumf x v reducesTo_S4x1x8x8x32_S4x1x8x8_d4 h_S_) main_v15 main_cst_3
  let main_cst_4 : FVec F S_ .f32 := constant S_ .f32 0x00000000#32
  fn_part1 (F := F) main_v12 main_v16 main_cst_4
-- ==== Kernel.lean ====
abbrev S4x1x32x256 : Shape := ⟨4, ![4, 1, 32, 256]⟩
abbrev S4x1x8x256 : Shape := ⟨4, ![4, 1, 8, 256]⟩
abbrev S4x8192x8x256 : Shape := ⟨4, ![4, 8192, 8, 256]⟩
abbrev S4x8192x8x8 : Shape := ⟨4, ![4, 8192, 8, 8]⟩
abbrev S4 : Shape := ⟨1, ![4]⟩
abbrev S4x8192x8x2x128 : Shape := ⟨5, ![4, 8192, 8, 2, 128]⟩
abbrev S4x8192x2x8x128 : Shape := ⟨5, ![4, 8192, 2, 8, 128]⟩
abbrev S4x131072x128 : Shape := ⟨3, ![4, 131072, 128]⟩
abbrev S4x8x8x8192 : Shape := ⟨4, ![4, 8, 8, 8192]⟩
abbrev S4x1x8x8 : Shape := ⟨4, ![4, 1, 8, 8]⟩
abbrev S4x16384x128 : Shape := ⟨3, ![4, 16384, 128]⟩
abbrev S4x8x8x1152 : Shape := ⟨4, ![4, 8, 8, 1152]⟩
abbrev S2x256x128 : Shape := ⟨3, ![2, 256, 128]⟩
abbrev S4x4 : Shape := ⟨2, ![4, 4]⟩
abbrev S1 : Shape := ⟨1, ![1]⟩
abbrev S1x1 : Shape := ⟨2, ![1, 1]⟩
abbrev S_ : Shape := ⟨0, ![]⟩
abbrev S1x8x8x1152 : Shape := ⟨4, ![1, 8, 8, 1152]⟩
abbrev S1x16384x128 : Shape := ⟨3, ![1, 16384, 128]⟩
abbrev S8x128 : Shape := ⟨2, ![8, 128]⟩
abbrev S1x1x8x256 : Shape := ⟨4, ![1, 1, 8, 256]⟩
abbrev S8x256 : Shape := ⟨2, ![8, 256]⟩
abbrev S32x256 : Shape := ⟨2, ![32, 256]⟩
abbrev S8x128x1 : Shape := ⟨3, ![8, 128, 1]⟩
abbrev S8x8 : Shape := ⟨2, ![8, 8]⟩
abbrev S1x1x8x8 : Shape := ⟨4, ![1, 1, 8, 8]⟩
abbrev S1x1x32x256 : Shape := ⟨4, ![1, 1, 32, 256]⟩
abbrev S128x256 : Shape := ⟨2, ![128, 256]⟩
abbrev S128x32 : Shape := ⟨2, ![128, 32]⟩
abbrev S128 : Shape := ⟨1, ![128]⟩
abbrev S128x1 : Shape := ⟨2, ![128, 1]⟩
abbrev S64x128 : Shape := ⟨2, ![64, 128]⟩
abbrev S1x8x8x128 : Shape := ⟨4, ![1, 8, 8, 128]⟩
abbrev S8x8x128 : Shape := ⟨3, ![8, 8, 128]⟩
abbrev S16x1024 : Shape := ⟨2, ![16, 1024]⟩
abbrev S16x256 : Shape := ⟨2, ![16, 256]⟩
abbrev S16x256x1 : Shape := ⟨3, ![16, 256, 1]⟩
abbrev S16x256x4 : Shape := ⟨3, ![16, 256, 4]⟩
abbrev S4x8x128 : Shape := ⟨3, ![4, 8, 128]⟩
abbrev S8x4x128 : Shape := ⟨3, ![8, 4, 128]⟩
abbrev S8x1x4x128 : Shape := ⟨4, ![8, 1, 4, 128]⟩
abbrev S8x32x4x128 : Shape := ⟨4, ![8, 32, 4, 128]⟩
abbrev S1024x128 : Shape := ⟨2, ![1024, 128]⟩
abbrev S1x2048x128 : Shape := ⟨3, ![1, 2048, 128]⟩
abbrev S2048x128 : Shape := ⟨2, ![2048, 128]⟩
abbrev S128x16x128 : Shape := ⟨3, ![128, 16, 128]⟩
abbrev S128x4x128 : Shape := ⟨3, ![128, 4, 128]⟩
abbrev S512x128 : Shape := ⟨2, ![512, 128]⟩
abbrev S1024x256 : Shape := ⟨2, ![1024, 256]⟩
abbrev S16 : Shape := ⟨1, ![16]⟩
abbrev S16x1 : Shape := ⟨2, ![16, 1]⟩
abbrev S4x8x64 : Shape := ⟨3, ![4, 8, 64]⟩
abbrev S4x128x64 : Shape := ⟨3, ![4, 128, 64]⟩
abbrev S64x4x128 : Shape := ⟨3, ![64, 4, 128]⟩
abbrev S256x128 : Shape := ⟨2, ![256, 128]⟩
abbrev S1x256x128 : Shape := ⟨3, ![1, 256, 128]⟩
abbrev S16x4096 : Shape := ⟨2, ![16, 4096]⟩
abbrev S16x1024x1 : Shape := ⟨3, ![16, 1024, 1]⟩
abbrev S16x1024x4 : Shape := ⟨3, ![16, 1024, 4]⟩
abbrev S1x1024x128 : Shape := ⟨3, ![1, 1024, 128]⟩
abbrev S64x16x128 : Shape := ⟨3, ![64, 16, 128]⟩
abbrev S256x8 : Shape := ⟨2, ![256, 8]⟩
abbrev S256x8x1 : Shape := ⟨3, ![256, 8, 1]⟩
abbrev S256x8x32 : Shape := ⟨3, ![256, 8, 32]⟩
abbrev S256x256 : Shape := ⟨2, ![256, 256]⟩
abbrev S1x1x16x256 : Shape := ⟨4, ![1, 1, 16, 256]⟩

abbrev nBuf : Space → Nat
  | .hbm => 21
  | .vmem => 13
  | .smem => 1
  | _ => 0

abbrev bufTy : (tb : Table) → Fin (tcTables nBuf tb) → BufTy
  | .hbm, ⟨0, _⟩ => ⟨S4x1x32x256, .bf16⟩
  | .hbm, ⟨1, _⟩ => ⟨S4x1x8x256, .bf16⟩
  | .hbm, ⟨2, _⟩ => ⟨S4x1x8x256, .bf16⟩
  | .hbm, ⟨3, _⟩ => ⟨S4x8192x8x256, .fp8e4m3⟩
  | .hbm, ⟨4, _⟩ => ⟨S4x8192x8x8, .f32⟩
  | .hbm, ⟨5, _⟩ => ⟨S4x8192x8x256, .fp8e4m3⟩
  | .hbm, ⟨6, _⟩ => ⟨S4x8192x8x8, .f32⟩
  | .hbm, ⟨7, _⟩ => ⟨S4, .i32⟩
  | .hbm, ⟨8, _⟩ => ⟨S4x8192x8x2x128, .fp8e4m3⟩
  | .hbm, ⟨9, _⟩ => ⟨S4x8192x2x8x128, .fp8e4m3⟩
  | .hbm, ⟨10, _⟩ => ⟨S4x131072x128, .fp8e4m3⟩
  | .hbm, ⟨11, _⟩ => ⟨S4x8x8x8192, .f32⟩
  | .hbm, ⟨12, _⟩ => ⟨S4x8192x8x2x128, .fp8e4m3⟩
  | .hbm, ⟨13, _⟩ => ⟨S4x8192x2x8x128, .fp8e4m3⟩
  | .hbm, ⟨14, _⟩ => ⟨S4x131072x128, .fp8e4m3⟩
  | .hbm, ⟨15, _⟩ => ⟨S4x8x8x8192, .f32⟩
  | .hbm, ⟨16, _⟩ => ⟨S4x1x32x256, .bf16⟩
  | .hbm, ⟨17, _⟩ => ⟨S4x1x8x256, .fp8e4m3⟩
  | .hbm, ⟨18, _⟩ => ⟨S4x1x8x8, .f32⟩
  | .hbm, ⟨19, _⟩ => ⟨S4x1x8x256, .fp8e4m3⟩
  | .hbm, ⟨20, _⟩ => ⟨S4x1x8x8, .f32⟩
  | .local _ .vmem, ⟨0, _⟩ => ⟨S4x1x32x256, .bf16⟩
  | .local _ .vmem, ⟨1, _⟩ => ⟨S4x1x8x256, .bf16⟩
  | .local _ .vmem, ⟨2, _⟩ => ⟨S4x1x8x256, .bf16⟩
  | .local _ .vmem, ⟨3, _⟩ => ⟨S4x1x32x256, .bf16⟩
  | .local _ .vmem, ⟨4, _⟩ => ⟨S4x1x8x256, .fp8e4m3⟩
  | .local _ .vmem, ⟨5, _⟩ => ⟨S4x1x8x8, .f32⟩
  | .local _ .vmem, ⟨6, _⟩ => ⟨S4x1x8x256, .fp8e4m3⟩
  | .local _ .vmem, ⟨7, _⟩ => ⟨S4x1x8x8, .f32⟩
  | .local _ .vmem, ⟨8, _⟩ => ⟨S4x16384x128, .fp8e4m3⟩
  | .local _ .vmem, ⟨9, _⟩ => ⟨S4x8x8x1152, .f32⟩
  | .local _ .vmem, ⟨10, _⟩ => ⟨S4x16384x128, .fp8e4m3⟩
  | .local _ .vmem, ⟨11, _⟩ => ⟨S4x8x8x1152, .f32⟩
  | .local _ .vmem, ⟨12, _⟩ => ⟨S2x256x128, .bf16⟩
  | .local _ .smem, ⟨0, _⟩ => ⟨S4, .i32⟩
  | _, _ => ⟨S4x1x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

def k0_mult1 (v0 : BitVec 32) : BitVec 32 :=
  let c7168_i32 : BitVec 32 := 7168#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c7168_i32 v2
  let c16_i32 : BitVec 32 := 16#32
  let v24 : BitVec 32 := Scalar.muli v3 c16_i32
  v24

def k0_mult2 (v0 : BitVec 32) : BitVec 32 :=
  let c7168_i32 : BitVec 32 := 7168#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c7168_i32 v2
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c55_i32 : BitVec 32 := 55#32
  let v21 : BitVec 32 := Scalar.minsi v20 c55_i32
  let c128_i32_5 : BitVec 32 := 128#32
  let v22 : BitVec 32 := Scalar.muli v21 c128_i32_5
  v22
def k0_off1 (v0 : BitVec 32) : Fin 4 → Nat :=
  let c0_i32_12 : BitVec 32 := 0#32
  let c0_i32_13 : BitVec 32 := 0#32
  let c0_i32_14 : BitVec 32 := 0#32
  let c7168_i32 : BitVec 32 := 7168#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c7168_i32 v2
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c55_i32 : BitVec 32 := 55#32
  let v21 : BitVec 32 := Scalar.minsi v20 c55_i32
  let c128_i32_5 : BitVec 32 := 128#32
  let v22 : BitVec 32 := Scalar.muli v21 c128_i32_5
  let v26 : BitVec 32 := v22
  ![0, 0, 0, v26.toNat]
def k0_off2 (v0 : BitVec 32) : Fin 3 → Nat :=
  let c0_i32_20 : BitVec 32 := 0#32
  let c7168_i32 : BitVec 32 := 7168#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c7168_i32 v2
  let c16_i32 : BitVec 32 := 16#32
  let v24 : BitVec 32 := Scalar.muli v3 c16_i32
  let v25 : BitVec 32 := v24
  let c0_i32_21 : BitVec 32 := 0#32
  ![0, v25.toNat, 0]
def k0_mult3 (v43 : BitVec 32) : BitVec 32 :=
  let c7168_i32_38 : BitVec 32 := 7168#32
  let c0_i32_37 : BitVec 32 := 0#32
  let c1024_i32_36 : BitVec 32 := 1024#32
  let v44 : BitVec 32 := Scalar.subi v43 c1024_i32_36
  let v45 : BitVec 32 := Scalar.maxsi c0_i32_37 v44
  let v46 : BitVec 32 := Scalar.minsi c7168_i32_38 v45
  let c16_i32_48 : BitVec 32 := 16#32
  let v67 : BitVec 32 := Scalar.muli v46 c16_i32_48
  v67

def k0_mult4 (v43 : BitVec 32) : BitVec 32 :=
  let c7168_i32_38 : BitVec 32 := 7168#32
  let c0_i32_37 : BitVec 32 := 0#32
  let c1024_i32_36 : BitVec 32 := 1024#32
  let v44 : BitVec 32 := Scalar.subi v43 c1024_i32_36
  let v45 : BitVec 32 := Scalar.maxsi c0_i32_37 v44
  let v46 : BitVec 32 := Scalar.minsi c7168_i32_38 v45
  let c0_i32_40 : BitVec 32 := 0#32
  let v48 : BitVec 1 := Scalar.cmpi .sgt v46 c0_i32_40
  let v49 : BitVec 32 := Scalar.extui v48
  let c0_i32_41 : BitVec 32 := 0#32
  let v50 : BitVec 1 := Scalar.cmpi .slt v46 c0_i32_41
  let v51 : BitVec 32 := Scalar.extui v50
  let v52 : BitVec 32 := Scalar.subi v49 v51
  let c128_i32_39 : BitVec 32 := 128#32
  let c0_i32_42 : BitVec 32 := 0#32
  let v53 : BitVec 1 := Scalar.cmpi .sgt c128_i32_39 c0_i32_42
  let v54 : BitVec 32 := Scalar.extui v53
  let c0_i32_43 : BitVec 32 := 0#32
  let v55 : BitVec 1 := Scalar.cmpi .slt c128_i32_39 c0_i32_43
  let v56 : BitVec 32 := Scalar.extui v55
  let v57 : BitVec 32 := Scalar.subi v54 v56
  let v58 : BitVec 1 := Scalar.cmpi .ne v52 v57
  let v59 : BitVec 32 := Scalar.remsi v46 c128_i32_39
  let c0_i32_44 : BitVec 32 := 0#32
  let v60 : BitVec 1 := Scalar.cmpi .ne v59 c0_i32_44
  let v61 : BitVec 1 := Scalar.andi v58 v60
  let v47 : BitVec 32 := Scalar.divsi v46 c128_i32_39
  let c1_i32_45 : BitVec 32 := 1#32
  let v62 : BitVec 32 := Scalar.subi v47 c1_i32_45
  let v63 : BitVec 32 := Scalar.select v61 v62 v47
  let c55_i32_46 : BitVec 32 := 55#32
  let v64 : BitVec 32 := Scalar.minsi v63 c55_i32_46
  let c128_i32_47 : BitVec 32 := 128#32
  let v65 : BitVec 32 := Scalar.muli v64 c128_i32_47
  v65
def k0_off3 (v43 : BitVec 32) : Fin 4 → Nat :=
  let c1_i32_55 : BitVec 32 := 1#32
  let c0_i32_56 : BitVec 32 := 0#32
  let c0_i32_57 : BitVec 32 := 0#32
  let c7168_i32_38 : BitVec 32 := 7168#32
  let c0_i32_37 : BitVec 32 := 0#32
  let c1024_i32_36 : BitVec 32 := 1024#32
  let v44 : BitVec 32 := Scalar.subi v43 c1024_i32_36
  let v45 : BitVec 32 := Scalar.maxsi c0_i32_37 v44
  let v46 : BitVec 32 := Scalar.minsi c7168_i32_38 v45
  let c0_i32_40 : BitVec 32 := 0#32
  let v48 : BitVec 1 := Scalar.cmpi .sgt v46 c0_i32_40
  let v49 : BitVec 32 := Scalar.extui v48
  let c0_i32_41 : BitVec 32 := 0#32
  let v50 : BitVec 1 := Scalar.cmpi .slt v46 c0_i32_41
  let v51 : BitVec 32 := Scalar.extui v50
  let v52 : BitVec 32 := Scalar.subi v49 v51
  let c128_i32_39 : BitVec 32 := 128#32
  let c0_i32_42 : BitVec 32 := 0#32
  let v53 : BitVec 1 := Scalar.cmpi .sgt c128_i32_39 c0_i32_42
  let v54 : BitVec 32 := Scalar.extui v53
  let c0_i32_43 : BitVec 32 := 0#32
  let v55 : BitVec 1 := Scalar.cmpi .slt c128_i32_39 c0_i32_43
  let v56 : BitVec 32 := Scalar.extui v55
  let v57 : BitVec 32 := Scalar.subi v54 v56
  let v58 : BitVec 1 := Scalar.cmpi .ne v52 v57
  let v59 : BitVec 32 := Scalar.remsi v46 c128_i32_39
  let c0_i32_44 : BitVec 32 := 0#32
  let v60 : BitVec 1 := Scalar.cmpi .ne v59 c0_i32_44
  let v61 : BitVec 1 := Scalar.andi v58 v60
  let v47 : BitVec 32 := Scalar.divsi v46 c128_i32_39
  let c1_i32_45 : BitVec 32 := 1#32
  let v62 : BitVec 32 := Scalar.subi v47 c1_i32_45
  let v63 : BitVec 32 := Scalar.select v61 v62 v47
  let c55_i32_46 : BitVec 32 := 55#32
  let v64 : BitVec 32 := Scalar.minsi v63 c55_i32_46
  let c128_i32_47 : BitVec 32 := 128#32
  let v65 : BitVec 32 := Scalar.muli v64 c128_i32_47
  let v69 : BitVec 32 := v65
  ![1, 0, 0, v69.toNat]
def k0_off4 (v43 : BitVec 32) : Fin 3 → Nat :=
  let c1_i32_63 : BitVec 32 := 1#32
  let c7168_i32_38 : BitVec 32 := 7168#32
  let c0_i32_37 : BitVec 32 := 0#32
  let c1024_i32_36 : BitVec 32 := 1024#32
  let v44 : BitVec 32 := Scalar.subi v43 c1024_i32_36
  let v45 : BitVec 32 := Scalar.maxsi c0_i32_37 v44
  let v46 : BitVec 32 := Scalar.minsi c7168_i32_38 v45
  let c16_i32_48 : BitVec 32 := 16#32
  let v67 : BitVec 32 := Scalar.muli v46 c16_i32_48
  let v68 : BitVec 32 := v67
  let c0_i32_64 : BitVec 32 := 0#32
  ![1, v68.toNat, 0]
def k0_mult5 (v86 : BitVec 32) : BitVec 32 :=
  let c7168_i32_83 : BitVec 32 := 7168#32
  let c0_i32_82 : BitVec 32 := 0#32
  let c1024_i32_81 : BitVec 32 := 1024#32
  let v87 : BitVec 32 := Scalar.subi v86 c1024_i32_81
  let v88 : BitVec 32 := Scalar.maxsi c0_i32_82 v87
  let v89 : BitVec 32 := Scalar.minsi c7168_i32_83 v88
  let c16_i32_93 : BitVec 32 := 16#32
  let v110 : BitVec 32 := Scalar.muli v89 c16_i32_93
  v110

def k0_mult6 (v86 : BitVec 32) : BitVec 32 :=
  let c7168_i32_83 : BitVec 32 := 7168#32
  let c0_i32_82 : BitVec 32 := 0#32
  let c1024_i32_81 : BitVec 32 := 1024#32
  let v87 : BitVec 32 := Scalar.subi v86 c1024_i32_81
  let v88 : BitVec 32 := Scalar.maxsi c0_i32_82 v87
  let v89 : BitVec 32 := Scalar.minsi c7168_i32_83 v88
  let c0_i32_85 : BitVec 32 := 0#32
  let v91 : BitVec 1 := Scalar.cmpi .sgt v89 c0_i32_85
  let v92 : BitVec 32 := Scalar.extui v91
  let c0_i32_86 : BitVec 32 := 0#32
  let v93 : BitVec 1 := Scalar.cmpi .slt v89 c0_i32_86
  let v94 : BitVec 32 := Scalar.extui v93
  let v95 : BitVec 32 := Scalar.subi v92 v94
  let c128_i32_84 : BitVec 32 := 128#32
  let c0_i32_87 : BitVec 32 := 0#32
  let v96 : BitVec 1 := Scalar.cmpi .sgt c128_i32_84 c0_i32_87
  let v97 : BitVec 32 := Scalar.extui v96
  let c0_i32_88 : BitVec 32 := 0#32
  let v98 : BitVec 1 := Scalar.cmpi .slt c128_i32_84 c0_i32_88
  let v99 : BitVec 32 := Scalar.extui v98
  let v100 : BitVec 32 := Scalar.subi v97 v99
  let v101 : BitVec 1 := Scalar.cmpi .ne v95 v100
  let v102 : BitVec 32 := Scalar.remsi v89 c128_i32_84
  let c0_i32_89 : BitVec 32 := 0#32
  let v103 : BitVec 1 := Scalar.cmpi .ne v102 c0_i32_89
  let v104 : BitVec 1 := Scalar.andi v101 v103
  let v90 : BitVec 32 := Scalar.divsi v89 c128_i32_84
  let c1_i32_90 : BitVec 32 := 1#32
  let v105 : BitVec 32 := Scalar.subi v90 c1_i32_90
  let v106 : BitVec 32 := Scalar.select v104 v105 v90
  let c55_i32_91 : BitVec 32 := 55#32
  let v107 : BitVec 32 := Scalar.minsi v106 c55_i32_91
  let c128_i32_92 : BitVec 32 := 128#32
  let v108 : BitVec 32 := Scalar.muli v107 c128_i32_92
  v108
def k0_off5 (v86 : BitVec 32) : Fin 4 → Nat :=
  let c2_i32_100 : BitVec 32 := 2#32
  let c0_i32_101 : BitVec 32 := 0#32
  let c0_i32_102 : BitVec 32 := 0#32
  let c7168_i32_83 : BitVec 32 := 7168#32
  let c0_i32_82 : BitVec 32 := 0#32
  let c1024_i32_81 : BitVec 32 := 1024#32
  let v87 : BitVec 32 := Scalar.subi v86 c1024_i32_81
  let v88 : BitVec 32 := Scalar.maxsi c0_i32_82 v87
  let v89 : BitVec 32 := Scalar.minsi c7168_i32_83 v88
  let c0_i32_85 : BitVec 32 := 0#32
  let v91 : BitVec 1 := Scalar.cmpi .sgt v89 c0_i32_85
  let v92 : BitVec 32 := Scalar.extui v91
  let c0_i32_86 : BitVec 32 := 0#32
  let v93 : BitVec 1 := Scalar.cmpi .slt v89 c0_i32_86
  let v94 : BitVec 32 := Scalar.extui v93
  let v95 : BitVec 32 := Scalar.subi v92 v94
  let c128_i32_84 : BitVec 32 := 128#32
  let c0_i32_87 : BitVec 32 := 0#32
  let v96 : BitVec 1 := Scalar.cmpi .sgt c128_i32_84 c0_i32_87
  let v97 : BitVec 32 := Scalar.extui v96
  let c0_i32_88 : BitVec 32 := 0#32
  let v98 : BitVec 1 := Scalar.cmpi .slt c128_i32_84 c0_i32_88
  let v99 : BitVec 32 := Scalar.extui v98
  let v100 : BitVec 32 := Scalar.subi v97 v99
  let v101 : BitVec 1 := Scalar.cmpi .ne v95 v100
  let v102 : BitVec 32 := Scalar.remsi v89 c128_i32_84
  let c0_i32_89 : BitVec 32 := 0#32
  let v103 : BitVec 1 := Scalar.cmpi .ne v102 c0_i32_89
  let v104 : BitVec 1 := Scalar.andi v101 v103
  let v90 : BitVec 32 := Scalar.divsi v89 c128_i32_84
  let c1_i32_90 : BitVec 32 := 1#32
  let v105 : BitVec 32 := Scalar.subi v90 c1_i32_90
  let v106 : BitVec 32 := Scalar.select v104 v105 v90
  let c55_i32_91 : BitVec 32 := 55#32
  let v107 : BitVec 32 := Scalar.minsi v106 c55_i32_91
  let c128_i32_92 : BitVec 32 := 128#32
  let v108 : BitVec 32 := Scalar.muli v107 c128_i32_92
  let v112 : BitVec 32 := v108
  ![2, 0, 0, v112.toNat]
def k0_off6 (v86 : BitVec 32) : Fin 3 → Nat :=
  let c2_i32_108 : BitVec 32 := 2#32
  let c7168_i32_83 : BitVec 32 := 7168#32
  let c0_i32_82 : BitVec 32 := 0#32
  let c1024_i32_81 : BitVec 32 := 1024#32
  let v87 : BitVec 32 := Scalar.subi v86 c1024_i32_81
  let v88 : BitVec 32 := Scalar.maxsi c0_i32_82 v87
  let v89 : BitVec 32 := Scalar.minsi c7168_i32_83 v88
  let c16_i32_93 : BitVec 32 := 16#32
  let v110 : BitVec 32 := Scalar.muli v89 c16_i32_93
  let v111 : BitVec 32 := v110
  let c0_i32_109 : BitVec 32 := 0#32
  ![2, v111.toNat, 0]
def k0_mult7 (v129 : BitVec 32) : BitVec 32 :=
  let c7168_i32_128 : BitVec 32 := 7168#32
  let c0_i32_127 : BitVec 32 := 0#32
  let c1024_i32_126 : BitVec 32 := 1024#32
  let v130 : BitVec 32 := Scalar.subi v129 c1024_i32_126
  let v131 : BitVec 32 := Scalar.maxsi c0_i32_127 v130
  let v132 : BitVec 32 := Scalar.minsi c7168_i32_128 v131
  let c16_i32_138 : BitVec 32 := 16#32
  let v153 : BitVec 32 := Scalar.muli v132 c16_i32_138
  v153

def k0_mult8 (v129 : BitVec 32) : BitVec 32 :=
  let c7168_i32_128 : BitVec 32 := 7168#32
  let c0_i32_127 : BitVec 32 := 0#32
  let c1024_i32_126 : BitVec 32 := 1024#32
  let v130 : BitVec 32 := Scalar.subi v129 c1024_i32_126
  let v131 : BitVec 32 := Scalar.maxsi c0_i32_127 v130
  let v132 : BitVec 32 := Scalar.minsi c7168_i32_128 v131
  let c0_i32_130 : BitVec 32 := 0#32
  let v134 : BitVec 1 := Scalar.cmpi .sgt v132 c0_i32_130
  let v135 : BitVec 32 := Scalar.extui v134
  let c0_i32_131 : BitVec 32 := 0#32
  let v136 : BitVec 1 := Scalar.cmpi .slt v132 c0_i32_131
  let v137 : BitVec 32 := Scalar.extui v136
  let v138 : BitVec 32 := Scalar.subi v135 v137
  let c128_i32_129 : BitVec 32 := 128#32
  let c0_i32_132 : BitVec 32 := 0#32
  let v139 : BitVec 1 := Scalar.cmpi .sgt c128_i32_129 c0_i32_132
  let v140 : BitVec 32 := Scalar.extui v139
  let c0_i32_133 : BitVec 32 := 0#32
  let v141 : BitVec 1 := Scalar.cmpi .slt c128_i32_129 c0_i32_133
  let v142 : BitVec 32 := Scalar.extui v141
  let v143 : BitVec 32 := Scalar.subi v140 v142
  let v144 : BitVec 1 := Scalar.cmpi .ne v138 v143
  let v145 : BitVec 32 := Scalar.remsi v132 c128_i32_129
  let c0_i32_134 : BitVec 32 := 0#32
  let v146 : BitVec 1 := Scalar.cmpi .ne v145 c0_i32_134
  let v147 : BitVec 1 := Scalar.andi v144 v146
  let v133 : BitVec 32 := Scalar.divsi v132 c128_i32_129
  let c1_i32_135 : BitVec 32 := 1#32
  let v148 : BitVec 32 := Scalar.subi v133 c1_i32_135
  let v149 : BitVec 32 := Scalar.select v147 v148 v133
  let c55_i32_136 : BitVec 32 := 55#32
  let v150 : BitVec 32 := Scalar.minsi v149 c55_i32_136
  let c128_i32_137 : BitVec 32 := 128#32
  let v151 : BitVec 32 := Scalar.muli v150 c128_i32_137
  v151
def k0_off7 (v129 : BitVec 32) : Fin 4 → Nat :=
  let c3_i32_145 : BitVec 32 := 3#32
  let c0_i32_146 : BitVec 32 := 0#32
  let c0_i32_147 : BitVec 32 := 0#32
  let c7168_i32_128 : BitVec 32 := 7168#32
  let c0_i32_127 : BitVec 32 := 0#32
  let c1024_i32_126 : BitVec 32 := 1024#32
  let v130 : BitVec 32 := Scalar.subi v129 c1024_i32_126
  let v131 : BitVec 32 := Scalar.maxsi c0_i32_127 v130
  let v132 : BitVec 32 := Scalar.minsi c7168_i32_128 v131
  let c0_i32_130 : BitVec 32 := 0#32
  let v134 : BitVec 1 := Scalar.cmpi .sgt v132 c0_i32_130
  let v135 : BitVec 32 := Scalar.extui v134
  let c0_i32_131 : BitVec 32 := 0#32
  let v136 : BitVec 1 := Scalar.cmpi .slt v132 c0_i32_131
  let v137 : BitVec 32 := Scalar.extui v136
  let v138 : BitVec 32 := Scalar.subi v135 v137
  let c128_i32_129 : BitVec 32 := 128#32
  let c0_i32_132 : BitVec 32 := 0#32
  let v139 : BitVec 1 := Scalar.cmpi .sgt c128_i32_129 c0_i32_132
  let v140 : BitVec 32 := Scalar.extui v139
  let c0_i32_133 : BitVec 32 := 0#32
  let v141 : BitVec 1 := Scalar.cmpi .slt c128_i32_129 c0_i32_133
  let v142 : BitVec 32 := Scalar.extui v141
  let v143 : BitVec 32 := Scalar.subi v140 v142
  let v144 : BitVec 1 := Scalar.cmpi .ne v138 v143
  let v145 : BitVec 32 := Scalar.remsi v132 c128_i32_129
  let c0_i32_134 : BitVec 32 := 0#32
  let v146 : BitVec 1 := Scalar.cmpi .ne v145 c0_i32_134
  let v147 : BitVec 1 := Scalar.andi v144 v146
  let v133 : BitVec 32 := Scalar.divsi v132 c128_i32_129
  let c1_i32_135 : BitVec 32 := 1#32
  let v148 : BitVec 32 := Scalar.subi v133 c1_i32_135
  let v149 : BitVec 32 := Scalar.select v147 v148 v133
  let c55_i32_136 : BitVec 32 := 55#32
  let v150 : BitVec 32 := Scalar.minsi v149 c55_i32_136
  let c128_i32_137 : BitVec 32 := 128#32
  let v151 : BitVec 32 := Scalar.muli v150 c128_i32_137
  let v155 : BitVec 32 := v151
  ![3, 0, 0, v155.toNat]
def k0_off8 (v129 : BitVec 32) : Fin 3 → Nat :=
  let c3_i32_153 : BitVec 32 := 3#32
  let c7168_i32_128 : BitVec 32 := 7168#32
  let c0_i32_127 : BitVec 32 := 0#32
  let c1024_i32_126 : BitVec 32 := 1024#32
  let v130 : BitVec 32 := Scalar.subi v129 c1024_i32_126
  let v131 : BitVec 32 := Scalar.maxsi c0_i32_127 v130
  let v132 : BitVec 32 := Scalar.minsi c7168_i32_128 v131
  let c16_i32_138 : BitVec 32 := 16#32
  let v153 : BitVec 32 := Scalar.muli v132 c16_i32_138
  let v154 : BitVec 32 := v153
  let c0_i32_154 : BitVec 32 := 0#32
  ![3, v154.toNat, 0]

def k0_chk4 (v129 : BitVec 32) : Prop :=
  (16 ∣ (k0_mult7 v129).toNat) ∧
  (128 ∣ (k0_mult8 v129).toNat) ∧
  (∀ a, (k0_off7 v129) a + S1x8x8x1152.size a ≤ S4x8x8x8192.size a) ∧
  (∀ a, (k0_off8 v129) a + S1x16384x128.size a ≤ S4x131072x128.size a) ∧
  (∀ (hinb : ∀ a, (k0_off8 v129) a + S1x16384x128.size a ≤ S4x131072x128.size a), (Rect.unit (s := S4x131072x128) (k0_off8 v129) S1x16384x128.size hinb).WholeWords (EltTy.packing .fp8e4m3))
theorem k0_mult7_dvd : ∀ (v129 : BitVec 32) (k0_hw4 : k0_chk4 v129), 16 ∣ (k0_mult7 v129).toNat := fun v129 k0_hw4 => k0_hw4.1
theorem k0_mult8_dvd : ∀ (v129 : BitVec 32) (k0_hw4 : k0_chk4 v129), 128 ∣ (k0_mult8 v129).toNat := fun v129 k0_hw4 => k0_hw4.2.1
theorem k0_off7_inb : ∀ (v129 : BitVec 32) (k0_hw4 : k0_chk4 v129), ∀ a, (k0_off7 v129) a + S1x8x8x1152.size a ≤ S4x8x8x8192.size a := fun v129 k0_hw4 => k0_hw4.2.2.1
theorem k0_off8_inb : ∀ (v129 : BitVec 32) (k0_hw4 : k0_chk4 v129), ∀ a, (k0_off8 v129) a + S1x16384x128.size a ≤ S4x131072x128.size a := fun v129 k0_hw4 => k0_hw4.2.2.2.1
theorem k0_off8_wordsfp8e4m3 : ∀ (v129 : BitVec 32) (k0_hw4 : k0_chk4 v129), (Rect.unit (s := S4x131072x128) (k0_off8 v129) S1x16384x128.size (k0_off8_inb v129 k0_hw4)).WholeWords (EltTy.packing .fp8e4m3) := fun v129 k0_hw4 => k0_hw4.2.2.2.2 (k0_off8_inb v129 k0_hw4)

def k0_off9 (v0 : BitVec 32) : Fin 4 → Nat :=
  let c0_i32_1246 : BitVec 32 := 0#32
  let c0_i32_1247 : BitVec 32 := 0#32
  let c0_i32_1248 : BitVec 32 := 0#32
  let c7168_i32 : BitVec 32 := 7168#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c7168_i32 v2
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c55_i32 : BitVec 32 := 55#32
  let v21 : BitVec 32 := Scalar.minsi v20 c55_i32
  let c128_i32_5 : BitVec 32 := 128#32
  let v22 : BitVec 32 := Scalar.muli v21 c128_i32_5
  let v26 : BitVec 32 := v22
  ![0, 0, 0, v26.toNat]
def k0_off10 (v0 : BitVec 32) : Fin 3 → Nat :=
  let c0_i32_1254 : BitVec 32 := 0#32
  let c7168_i32 : BitVec 32 := 7168#32
  let c0_i32 : BitVec 32 := 0#32
  let c1024_i32 : BitVec 32 := 1024#32
  let v1 : BitVec 32 := Scalar.subi v0 c1024_i32
  let v2 : BitVec 32 := Scalar.maxsi c0_i32 v1
  let v3 : BitVec 32 := Scalar.minsi c7168_i32 v2
  let c16_i32 : BitVec 32 := 16#32
  let v24 : BitVec 32 := Scalar.muli v3 c16_i32
  let v25 : BitVec 32 := v24
  let c0_i32_1255 : BitVec 32 := 0#32
  ![0, v25.toNat, 0]

def k0_chk1 (v0 : BitVec 32) : Prop :=
  (16 ∣ (k0_mult1 v0).toNat) ∧
  (128 ∣ (k0_mult2 v0).toNat) ∧
  (∀ a, (k0_off1 v0) a + S1x8x8x1152.size a ≤ S4x8x8x8192.size a) ∧
  (∀ a, (k0_off2 v0) a + S1x16384x128.size a ≤ S4x131072x128.size a) ∧
  (∀ (hinb : ∀ a, (k0_off2 v0) a + S1x16384x128.size a ≤ S4x131072x128.size a), (Rect.unit (s := S4x131072x128) (k0_off2 v0) S1x16384x128.size hinb).WholeWords (EltTy.packing .fp8e4m3)) ∧
  (∀ a, (k0_off9 v0) a + S1x8x8x1152.size a ≤ S4x8x8x8192.size a) ∧
  (∀ a, (k0_off10 v0) a + S1x16384x128.size a ≤ S4x131072x128.size a) ∧
  (∀ (hinb : ∀ a, (k0_off10 v0) a + S1x16384x128.size a ≤ S4x131072x128.size a), (Rect.unit (s := S4x131072x128) (k0_off10 v0) S1x16384x128.size hinb).WholeWords (EltTy.packing .fp8e4m3))
theorem k0_mult1_dvd : ∀ (v0 : BitVec 32) (k0_hw1 : k0_chk1 v0), 16 ∣ (k0_mult1 v0).toNat := fun v0 k0_hw1 => k0_hw1.1
theorem k0_mult2_dvd : ∀ (v0 : BitVec 32) (k0_hw1 : k0_chk1 v0), 128 ∣ (k0_mult2 v0).toNat := fun v0 k0_hw1 => k0_hw1.2.1
theorem k0_off1_inb : ∀ (v0 : BitVec 32) (k0_hw1 : k0_chk1 v0), ∀ a, (k0_off1 v0) a + S1x8x8x1152.size a ≤ S4x8x8x8192.size a := fun v0 k0_hw1 => k0_hw1.2.2.1
theorem k0_off2_inb : ∀ (v0 : BitVec 32) (k0_hw1 : k0_chk1 v0), ∀ a, (k0_off2 v0) a + S1x16384x128.size a ≤ S4x131072x128.size a := fun v0 k0_hw1 => k0_hw1.2.2.2.1
theorem k0_off2_wordsfp8e4m3 : ∀ (v0 : BitVec 32) (k0_hw1 : k0_chk1 v0), (Rect.unit (s := S4x131072x128) (k0_off2 v0) S1x16384x128.size (k0_off2_inb v0 k0_hw1)).WholeWords (EltTy.packing .fp8e4m3) := fun v0 k0_hw1 => k0_hw1.2.2.2.2.1 (k0_off2_inb v0 k0_hw1)
theorem k0_off9_inb : ∀ (v0 : BitVec 32) (k0_hw1 : k0_chk1 v0), ∀ a, (k0_off9 v0) a + S1x8x8x1152.size a ≤ S4x8x8x8192.size a := fun v0 k0_hw1 => k0_hw1.2.2.2.2.2.1
theorem k0_off10_inb : ∀ (v0 : BitVec 32) (k0_hw1 : k0_chk1 v0), ∀ a, (k0_off10 v0) a + S1x16384x128.size a ≤ S4x131072x128.size a := fun v0 k0_hw1 => k0_hw1.2.2.2.2.2.2.1
theorem k0_off10_wordsfp8e4m3 : ∀ (v0 : BitVec 32) (k0_hw1 : k0_chk1 v0), (Rect.unit (s := S4x131072x128) (k0_off10 v0) S1x16384x128.size (k0_off10_inb v0 k0_hw1)).WholeWords (EltTy.packing .fp8e4m3) := fun v0 k0_hw1 => k0_hw1.2.2.2.2.2.2.2 (k0_off10_inb v0 k0_hw1)

def k0_off11 (v43 : BitVec 32) : Fin 4 → Nat :=
  let c1_i32_1661 : BitVec 32 := 1#32
  let c0_i32_1662 : BitVec 32 := 0#32
  let c0_i32_1663 : BitVec 32 := 0#32
  let c7168_i32_38 : BitVec 32 := 7168#32
  let c0_i32_37 : BitVec 32 := 0#32
  let c1024_i32_36 : BitVec 32 := 1024#32
  let v44 : BitVec 32 := Scalar.subi v43 c1024_i32_36
  let v45 : BitVec 32 := Scalar.maxsi c0_i32_37 v44
  let v46 : BitVec 32 := Scalar.minsi c7168_i32_38 v45
  let c0_i32_40 : BitVec 32 := 0#32
  let v48 : BitVec 1 := Scalar.cmpi .sgt v46 c0_i32_40
  let v49 : BitVec 32 := Scalar.extui v48
  let c0_i32_41 : BitVec 32 := 0#32
  let v50 : BitVec 1 := Scalar.cmpi .slt v46 c0_i32_41
  let v51 : BitVec 32 := Scalar.extui v50
  let v52 : BitVec 32 := Scalar.subi v49 v51
  let c128_i32_39 : BitVec 32 := 128#32
  let c0_i32_42 : BitVec 32 := 0#32
  let v53 : BitVec 1 := Scalar.cmpi .sgt c128_i32_39 c0_i32_42
  let v54 : BitVec 32 := Scalar.extui v53
  let c0_i32_43 : BitVec 32 := 0#32
  let v55 : BitVec 1 := Scalar.cmpi .slt c128_i32_39 c0_i32_43
  let v56 : BitVec 32 := Scalar.extui v55
  let v57 : BitVec 32 := Scalar.subi v54 v56
  let v58 : BitVec 1 := Scalar.cmpi .ne v52 v57
  let v59 : BitVec 32 := Scalar.remsi v46 c128_i32_39
  let c0_i32_44 : BitVec 32 := 0#32
  let v60 : BitVec 1 := Scalar.cmpi .ne v59 c0_i32_44
  let v61 : BitVec 1 := Scalar.andi v58 v60
  let v47 : BitVec 32 := Scalar.divsi v46 c128_i32_39
  let c1_i32_45 : BitVec 32 := 1#32
  let v62 : BitVec 32 := Scalar.subi v47 c1_i32_45
  let v63 : BitVec 32 := Scalar.select v61 v62 v47
  let c55_i32_46 : BitVec 32 := 55#32
  let v64 : BitVec 32 := Scalar.minsi v63 c55_i32_46
  let c128_i32_47 : BitVec 32 := 128#32
  let v65 : BitVec 32 := Scalar.muli v64 c128_i32_47
  let v69 : BitVec 32 := v65
  ![1, 0, 0, v69.toNat]
def k0_off12 (v43 : BitVec 32) : Fin 3 → Nat :=
  let c1_i32_1669 : BitVec 32 := 1#32
  let c7168_i32_38 : BitVec 32 := 7168#32
  let c0_i32_37 : BitVec 32 := 0#32
  let c1024_i32_36 : BitVec 32 := 1024#32
  let v44 : BitVec 32 := Scalar.subi v43 c1024_i32_36
  let v45 : BitVec 32 := Scalar.maxsi c0_i32_37 v44
  let v46 : BitVec 32 := Scalar.minsi c7168_i32_38 v45
  let c16_i32_48 : BitVec 32 := 16#32
  let v67 : BitVec 32 := Scalar.muli v46 c16_i32_48
  let v68 : BitVec 32 := v67
  let c0_i32_1670 : BitVec 32 := 0#32
  ![1, v68.toNat, 0]

def k0_chk2 (v43 : BitVec 32) : Prop :=
  (16 ∣ (k0_mult3 v43).toNat) ∧
  (128 ∣ (k0_mult4 v43).toNat) ∧
  (∀ a, (k0_off3 v43) a + S1x8x8x1152.size a ≤ S4x8x8x8192.size a) ∧
  (∀ a, (k0_off4 v43) a + S1x16384x128.size a ≤ S4x131072x128.size a) ∧
  (∀ (hinb : ∀ a, (k0_off4 v43) a + S1x16384x128.size a ≤ S4x131072x128.size a), (Rect.unit (s := S4x131072x128) (k0_off4 v43) S1x16384x128.size hinb).WholeWords (EltTy.packing .fp8e4m3)) ∧
  (∀ a, (k0_off11 v43) a + S1x8x8x1152.size a ≤ S4x8x8x8192.size a) ∧
  (∀ a, (k0_off12 v43) a + S1x16384x128.size a ≤ S4x131072x128.size a) ∧
  (∀ (hinb : ∀ a, (k0_off12 v43) a + S1x16384x128.size a ≤ S4x131072x128.size a), (Rect.unit (s := S4x131072x128) (k0_off12 v43) S1x16384x128.size hinb).WholeWords (EltTy.packing .fp8e4m3))
theorem k0_mult3_dvd : ∀ (v43 : BitVec 32) (k0_hw2 : k0_chk2 v43), 16 ∣ (k0_mult3 v43).toNat := fun v43 k0_hw2 => k0_hw2.1
theorem k0_mult4_dvd : ∀ (v43 : BitVec 32) (k0_hw2 : k0_chk2 v43), 128 ∣ (k0_mult4 v43).toNat := fun v43 k0_hw2 => k0_hw2.2.1
theorem k0_off3_inb : ∀ (v43 : BitVec 32) (k0_hw2 : k0_chk2 v43), ∀ a, (k0_off3 v43) a + S1x8x8x1152.size a ≤ S4x8x8x8192.size a := fun v43 k0_hw2 => k0_hw2.2.2.1
theorem k0_off4_inb : ∀ (v43 : BitVec 32) (k0_hw2 : k0_chk2 v43), ∀ a, (k0_off4 v43) a + S1x16384x128.size a ≤ S4x131072x128.size a := fun v43 k0_hw2 => k0_hw2.2.2.2.1
theorem k0_off4_wordsfp8e4m3 : ∀ (v43 : BitVec 32) (k0_hw2 : k0_chk2 v43), (Rect.unit (s := S4x131072x128) (k0_off4 v43) S1x16384x128.size (k0_off4_inb v43 k0_hw2)).WholeWords (EltTy.packing .fp8e4m3) := fun v43 k0_hw2 => k0_hw2.2.2.2.2.1 (k0_off4_inb v43 k0_hw2)
theorem k0_off11_inb : ∀ (v43 : BitVec 32) (k0_hw2 : k0_chk2 v43), ∀ a, (k0_off11 v43) a + S1x8x8x1152.size a ≤ S4x8x8x8192.size a := fun v43 k0_hw2 => k0_hw2.2.2.2.2.2.1
theorem k0_off12_inb : ∀ (v43 : BitVec 32) (k0_hw2 : k0_chk2 v43), ∀ a, (k0_off12 v43) a + S1x16384x128.size a ≤ S4x131072x128.size a := fun v43 k0_hw2 => k0_hw2.2.2.2.2.2.2.1
theorem k0_off12_wordsfp8e4m3 : ∀ (v43 : BitVec 32) (k0_hw2 : k0_chk2 v43), (Rect.unit (s := S4x131072x128) (k0_off12 v43) S1x16384x128.size (k0_off12_inb v43 k0_hw2)).WholeWords (EltTy.packing .fp8e4m3) := fun v43 k0_hw2 => k0_hw2.2.2.2.2.2.2.2 (k0_off12_inb v43 k0_hw2)

def k0_off13 (v86 : BitVec 32) : Fin 4 → Nat :=
  let c2_i32_2099 : BitVec 32 := 2#32
  let c0_i32_2100 : BitVec 32 := 0#32
  let c0_i32_2101 : BitVec 32 := 0#32
  let c7168_i32_83 : BitVec 32 := 7168#32
  let c0_i32_82 : BitVec 32 := 0#32
  let c1024_i32_81 : BitVec 32 := 1024#32
  let v87 : BitVec 32 := Scalar.subi v86 c1024_i32_81
  let v88 : BitVec 32 := Scalar.maxsi c0_i32_82 v87
  let v89 : BitVec 32 := Scalar.minsi c7168_i32_83 v88
  let c0_i32_85 : BitVec 32 := 0#32
  let v91 : BitVec 1 := Scalar.cmpi .sgt v89 c0_i32_85
  let v92 : BitVec 32 := Scalar.extui v91
  let c0_i32_86 : BitVec 32 := 0#32
  let v93 : BitVec 1 := Scalar.cmpi .slt v89 c0_i32_86
  let v94 : BitVec 32 := Scalar.extui v93
  let v95 : BitVec 32 := Scalar.subi v92 v94
  let c128_i32_84 : BitVec 32 := 128#32
  let c0_i32_87 : BitVec 32 := 0#32
  let v96 : BitVec 1 := Scalar.cmpi .sgt c128_i32_84 c0_i32_87
  let v97 : BitVec 32 := Scalar.extui v96
  let c0_i32_88 : BitVec 32 := 0#32
  let v98 : BitVec 1 := Scalar.cmpi .slt c128_i32_84 c0_i32_88
  let v99 : BitVec 32 := Scalar.extui v98
  let v100 : BitVec 32 := Scalar.subi v97 v99
  let v101 : BitVec 1 := Scalar.cmpi .ne v95 v100
  let v102 : BitVec 32 := Scalar.remsi v89 c128_i32_84
  let c0_i32_89 : BitVec 32 := 0#32
  let v103 : BitVec 1 := Scalar.cmpi .ne v102 c0_i32_89
  let v104 : BitVec 1 := Scalar.andi v101 v103
  let v90 : BitVec 32 := Scalar.divsi v89 c128_i32_84
  let c1_i32_90 : BitVec 32 := 1#32
  let v105 : BitVec 32 := Scalar.subi v90 c1_i32_90
  let v106 : BitVec 32 := Scalar.select v104 v105 v90
  let c55_i32_91 : BitVec 32 := 55#32
  let v107 : BitVec 32 := Scalar.minsi v106 c55_i32_91
  let c128_i32_92 : BitVec 32 := 128#32
  let v108 : BitVec 32 := Scalar.muli v107 c128_i32_92
  let v112 : BitVec 32 := v108
  ![2, 0, 0, v112.toNat]
def k0_off14 (v86 : BitVec 32) : Fin 3 → Nat :=
  let c2_i32_2107 : BitVec 32 := 2#32
  let c7168_i32_83 : BitVec 32 := 7168#32
  let c0_i32_82 : BitVec 32 := 0#32
  let c1024_i32_81 : BitVec 32 := 1024#32
  let v87 : BitVec 32 := Scalar.subi v86 c1024_i32_81
  let v88 : BitVec 32 := Scalar.maxsi c0_i32_82 v87
  let v89 : BitVec 32 := Scalar.minsi c7168_i32_83 v88
  let c16_i32_93 : BitVec 32 := 16#32
  let v110 : BitVec 32 := Scalar.muli v89 c16_i32_93
  let v111 : BitVec 32 := v110
  let c0_i32_2108 : BitVec 32 := 0#32
  ![2, v111.toNat, 0]

def k0_chk3 (v86 : BitVec 32) : Prop :=
  (16 ∣ (k0_mult5 v86).toNat) ∧
  (128 ∣ (k0_mult6 v86).toNat) ∧
  (∀ a, (k0_off5 v86) a + S1x8x8x1152.size a ≤ S4x8x8x8192.size a) ∧
  (∀ a, (k0_off6 v86) a + S1x16384x128.size a ≤ S4x131072x128.size a) ∧
  (∀ (hinb : ∀ a, (k0_off6 v86) a + S1x16384x128.size a ≤ S4x131072x128.size a), (Rect.unit (s := S4x131072x128) (k0_off6 v86) S1x16384x128.size hinb).WholeWords (EltTy.packing .fp8e4m3)) ∧
  (∀ a, (k0_off13 v86) a + S1x8x8x1152.size a ≤ S4x8x8x8192.size a) ∧
  (∀ a, (k0_off14 v86) a + S1x16384x128.size a ≤ S4x131072x128.size a) ∧
  (∀ (hinb : ∀ a, (k0_off14 v86) a + S1x16384x128.size a ≤ S4x131072x128.size a), (Rect.unit (s := S4x131072x128) (k0_off14 v86) S1x16384x128.size hinb).WholeWords (EltTy.packing .fp8e4m3))
theorem k0_mult5_dvd : ∀ (v86 : BitVec 32) (k0_hw3 : k0_chk3 v86), 16 ∣ (k0_mult5 v86).toNat := fun v86 k0_hw3 => k0_hw3.1
theorem k0_mult6_dvd : ∀ (v86 : BitVec 32) (k0_hw3 : k0_chk3 v86), 128 ∣ (k0_mult6 v86).toNat := fun v86 k0_hw3 => k0_hw3.2.1
theorem k0_off5_inb : ∀ (v86 : BitVec 32) (k0_hw3 : k0_chk3 v86), ∀ a, (k0_off5 v86) a + S1x8x8x1152.size a ≤ S4x8x8x8192.size a := fun v86 k0_hw3 => k0_hw3.2.2.1
theorem k0_off6_inb : ∀ (v86 : BitVec 32) (k0_hw3 : k0_chk3 v86), ∀ a, (k0_off6 v86) a + S1x16384x128.size a ≤ S4x131072x128.size a := fun v86 k0_hw3 => k0_hw3.2.2.2.1
theorem k0_off6_wordsfp8e4m3 : ∀ (v86 : BitVec 32) (k0_hw3 : k0_chk3 v86), (Rect.unit (s := S4x131072x128) (k0_off6 v86) S1x16384x128.size (k0_off6_inb v86 k0_hw3)).WholeWords (EltTy.packing .fp8e4m3) := fun v86 k0_hw3 => k0_hw3.2.2.2.2.1 (k0_off6_inb v86 k0_hw3)
theorem k0_off13_inb : ∀ (v86 : BitVec 32) (k0_hw3 : k0_chk3 v86), ∀ a, (k0_off13 v86) a + S1x8x8x1152.size a ≤ S4x8x8x8192.size a := fun v86 k0_hw3 => k0_hw3.2.2.2.2.2.1
theorem k0_off14_inb : ∀ (v86 : BitVec 32) (k0_hw3 : k0_chk3 v86), ∀ a, (k0_off14 v86) a + S1x16384x128.size a ≤ S4x131072x128.size a := fun v86 k0_hw3 => k0_hw3.2.2.2.2.2.2.1
theorem k0_off14_wordsfp8e4m3 : ∀ (v86 : BitVec 32) (k0_hw3 : k0_chk3 v86), (Rect.unit (s := S4x131072x128) (k0_off14 v86) S1x16384x128.size (k0_off14_inb v86 k0_hw3)).WholeWords (EltTy.packing .fp8e4m3) := fun v86 k0_hw3 => k0_hw3.2.2.2.2.2.2.2 (k0_off14_inb v86 k0_hw3)

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1x32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x8x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1x8x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1x32x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1x8x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x8x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1x8x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1x8x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "cap_scale" => some ((1 / 800 : ℝ) : EReal)
  | _ => none
-- ==== ReferenceIdeal.lean ====
abbrev S4x1x32x256 : Shape := ⟨4, ![4, 1, 32, 256]⟩
abbrev S4x1x8x256 : Shape := ⟨4, ![4, 1, 8, 256]⟩
abbrev S4x8192x8x256 : Shape := ⟨4, ![4, 8192, 8, 256]⟩
abbrev S4x8192x8x8 : Shape := ⟨4, ![4, 8192, 8, 8]⟩
abbrev S4 : Shape := ⟨1, ![4]⟩
abbrev S4x1x8x8 : Shape := ⟨4, ![4, 1, 8, 8]⟩
abbrev S4x8x256 : Shape := ⟨3, ![4, 8, 256]⟩
abbrev S4x8x8x32 : Shape := ⟨4, ![4, 8, 8, 32]⟩
abbrev S4x8x8 : Shape := ⟨3, ![4, 8, 8]⟩
abbrev S4x8x8x1 : Shape := ⟨4, ![4, 8, 8, 1]⟩
abbrev S1 : Shape := ⟨1, ![1]⟩
abbrev S1x1024x8x256 : Shape := ⟨4, ![1, 1024, 8, 256]⟩
abbrev S1024x8x256 : Shape := ⟨3, ![1024, 8, 256]⟩
abbrev S1x1024x8x8 : Shape := ⟨4, ![1, 1024, 8, 8]⟩
abbrev S1024x8x8 : Shape := ⟨3, ![1024, 8, 8]⟩
abbrev S1024x8x8x32 : Shape := ⟨4, ![1024, 8, 8, 32]⟩
abbrev S1024x8x8x1 : Shape := ⟨4, ![1024, 8, 8, 1]⟩
abbrev S1x8x256 : Shape := ⟨3, ![1, 8, 256]⟩
abbrev S8x256 : Shape := ⟨2, ![8, 256]⟩
abbrev S1x1x32x256 : Shape := ⟨4, ![1, 1, 32, 256]⟩
abbrev S32x256 : Shape := ⟨2, ![32, 256]⟩
abbrev S8x4x256 : Shape := ⟨3, ![8, 4, 256]⟩
abbrev S8x1024x256 : Shape := ⟨3, ![8, 1024, 256]⟩
abbrev S8x4x1024 : Shape := ⟨3, ![8, 4, 1024]⟩
abbrev S8x1x256 : Shape := ⟨3, ![8, 1, 256]⟩
abbrev S8x4x1 : Shape := ⟨3, ![8, 4, 1]⟩
abbrev S8x4x1025 : Shape := ⟨3, ![8, 4, 1025]⟩
abbrev S8x4 : Shape := ⟨2, ![8, 4]⟩

abbrev nBuf : Space → Nat
  | .hbm => 13
  | .vmem => 12
  | .smem => 1
  | _ => 0

abbrev bufTy : (tb : Table) → Fin (tcTables nBuf tb) → BufTy
  | .hbm, ⟨0, _⟩ => ⟨S4x1x32x256, .bf16⟩
  | .hbm, ⟨1, _⟩ => ⟨S4x1x8x256, .bf16⟩
  | .hbm, ⟨2, _⟩ => ⟨S4x1x8x256, .bf16⟩
  | .hbm, ⟨3, _⟩ => ⟨S4x8192x8x256, .fp8e4m3⟩
  | .hbm, ⟨4, _⟩ => ⟨S4x8192x8x8, .f32⟩
  | .hbm, ⟨5, _⟩ => ⟨S4x8192x8x256, .fp8e4m3⟩
  | .hbm, ⟨6, _⟩ => ⟨S4x8192x8x8, .f32⟩
  | .hbm, ⟨7, _⟩ => ⟨S4, .i32⟩
  | .hbm, ⟨8, _⟩ => ⟨S4x1x32x256, .bf16⟩
  | .hbm, ⟨9, _⟩ => ⟨S4x1x8x256, .fp8e4m3⟩
  | .hbm, ⟨10, _⟩ => ⟨S4x1x8x8, .f32⟩
  | .hbm, ⟨11, _⟩ => ⟨S4x1x8x256, .fp8e4m3⟩
  | .hbm, ⟨12, _⟩ => ⟨S4x1x8x8, .f32⟩
  | .local _ .vmem, ⟨0, _⟩ => ⟨S4x1x32x256, .bf16⟩
  | .local _ .vmem, ⟨1, _⟩ => ⟨S4x1x8x256, .bf16⟩
  | .local _ .vmem, ⟨2, _⟩ => ⟨S4x1x8x256, .bf16⟩
  | .local _ .vmem, ⟨3, _⟩ => ⟨S4x8192x8x256, .fp8e4m3⟩
  | .local _ .vmem, ⟨4, _⟩ => ⟨S4x8192x8x8, .f32⟩
  | .local _ .vmem, ⟨5, _⟩ => ⟨S4x8192x8x256, .fp8e4m3⟩
  | .local _ .vmem, ⟨6, _⟩ => ⟨S4x8192x8x8, .f32⟩
  | .local _ .vmem, ⟨7, _⟩ => ⟨S4x1x32x256, .bf16⟩
  | .local _ .vmem, ⟨8, _⟩ => ⟨S4x1x8x256, .fp8e4m3⟩
  | .local _ .vmem, ⟨9, _⟩ => ⟨S4x1x8x8, .f32⟩
  | .local _ .vmem, ⟨10, _⟩ => ⟨S4x1x8x256, .fp8e4m3⟩
  | .local _ .vmem, ⟨11, _⟩ => ⟨S4x1x8x8, .f32⟩
  | .local _ .smem, ⟨0, _⟩ => ⟨S4, .i32⟩
  | _, _ => ⟨S4x1x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

def k0_off1 (v90 : BitVec 32) : Fin 4 → Nat :=
  let c0_41 : Index := 0#32
  let c7168_i32 : BitVec 32 := 7168#32
  let c0_i32 : BitVec 32 := 0#32
  let c1024_i32 : BitVec 32 := 1024#32
  let v91 : BitVec 32 := Scalar.subi v90 c1024_i32
  let v92 : BitVec 32 := Scalar.maxsi c0_i32 v91
  let v93 : BitVec 32 := Scalar.minsi c7168_i32 v92
  let v94 : Index := Scalar.indexCast v93
  let c0_42 : Index := 0#32
  let c0_43 : Index := 0#32
  ![0, v94.toNat, 0, 0]

def k0_off2 (v90 : BitVec 32) : Fin 4 → Nat :=
  let c0_44 : Index := 0#32
  let c7168_i32 : BitVec 32 := 7168#32
  let c0_i32 : BitVec 32 := 0#32
  let c1024_i32 : BitVec 32 := 1024#32
  let v91 : BitVec 32 := Scalar.subi v90 c1024_i32
  let v92 : BitVec 32 := Scalar.maxsi c0_i32 v91
  let v93 : BitVec 32 := Scalar.minsi c7168_i32 v92
  let v97 : Index := Scalar.indexCast v93
  let c0_45 : Index := 0#32
  let c0_46 : Index := 0#32
  ![0, v97.toNat, 0, 0]

def k0_chk1 (v90 : BitVec 32) : Prop :=
  (∀ a, (k0_off1 v90) a + S1x1024x8x256.size a ≤ S4x8192x8x256.size a) ∧
  (∀ a, (k0_off2 v90) a + S1x1024x8x8.size a ≤ S4x8192x8x8.size a)
theorem k0_off1_inb : ∀ (v90 : BitVec 32) (k0_hw1 : k0_chk1 v90), ∀ a, (k0_off1 v90) a + S1x1024x8x256.size a ≤ S4x8192x8x256.size a := fun v90 k0_hw1 => k0_hw1.1
theorem k0_off2_inb : ∀ (v90 : BitVec 32) (k0_hw1 : k0_chk1 v90), ∀ a, (k0_off2 v90) a + S1x1024x8x8.size a ≤ S4x8192x8x8.size a := fun v90 k0_hw1 => k0_hw1.2

def k0_off3 (v182 : BitVec 32) : Fin 4 → Nat :=
  let c1_79 : Index := 1#32
  let c7168_i32_78 : BitVec 32 := 7168#32
  let c0_i32_77 : BitVec 32 := 0#32
  let c1024_i32_76 : BitVec 32 := 1024#32
  let v183 : BitVec 32 := Scalar.subi v182 c1024_i32_76
  let v184 : BitVec 32 := Scalar.maxsi c0_i32_77 v183
  let v185 : BitVec 32 := Scalar.minsi c7168_i32_78 v184
  let v186 : Index := Scalar.indexCast v185
  let c0_80 : Index := 0#32
  let c0_81 : Index := 0#32
  ![1, v186.toNat, 0, 0]

def k0_off4 (v182 : BitVec 32) : Fin 4 → Nat :=
  let c1_82 : Index := 1#32
  let c7168_i32_78 : BitVec 32 := 7168#32
  let c0_i32_77 : BitVec 32 := 0#32
  let c1024_i32_76 : BitVec 32 := 1024#32
  let v183 : BitVec 32 := Scalar.subi v182 c1024_i32_76
  let v184 : BitVec 32 := Scalar.maxsi c0_i32_77 v183
  let v185 : BitVec 32 := Scalar.minsi c7168_i32_78 v184
  let v189 : Index := Scalar.indexCast v185
  let c0_83 : Index := 0#32
  let c0_84 : Index := 0#32
  ![1, v189.toNat, 0, 0]

def k0_chk2 (v182 : BitVec 32) : Prop :=
  (∀ a, (k0_off3 v182) a + S1x1024x8x256.size a ≤ S4x8192x8x256.size a) ∧
  (∀ a, (k0_off4 v182) a + S1x1024x8x8.size a ≤ S4x8192x8x8.size a)
theorem k0_off3_inb : ∀ (v182 : BitVec 32) (k0_hw2 : k0_chk2 v182), ∀ a, (k0_off3 v182) a + S1x1024x8x256.size a ≤ S4x8192x8x256.size a := fun v182 k0_hw2 => k0_hw2.1
theorem k0_off4_inb : ∀ (v182 : BitVec 32) (k0_hw2 : k0_chk2 v182), ∀ a, (k0_off4 v182) a + S1x1024x8x8.size a ≤ S4x8192x8x8.size a := fun v182 k0_hw2 => k0_hw2.2

def k0_off5 (v274 : BitVec 32) : Fin 4 → Nat :=
  let c2_117 : Index := 2#32
  let c7168_i32_116 : BitVec 32 := 7168#32
  let c0_i32_115 : BitVec 32 := 0#32
  let c1024_i32_114 : BitVec 32 := 1024#32
  let v275 : BitVec 32 := Scalar.subi v274 c1024_i32_114
  let v276 : BitVec 32 := Scalar.maxsi c0_i32_115 v275
  let v277 : BitVec 32 := Scalar.minsi c7168_i32_116 v276
  let v278 : Index := Scalar.indexCast v277
  let c0_118 : Index := 0#32
  let c0_119 : Index := 0#32
  ![2, v278.toNat, 0, 0]

def k0_off6 (v274 : BitVec 32) : Fin 4 → Nat :=
  let c2_120 : Index := 2#32
  let c7168_i32_116 : BitVec 32 := 7168#32
  let c0_i32_115 : BitVec 32 := 0#32
  let c1024_i32_114 : BitVec 32 := 1024#32
  let v275 : BitVec 32 := Scalar.subi v274 c1024_i32_114
  let v276 : BitVec 32 := Scalar.maxsi c0_i32_115 v275
  let v277 : BitVec 32 := Scalar.minsi c7168_i32_116 v276
  let v281 : Index := Scalar.indexCast v277
  let c0_121 : Index := 0#32
  let c0_122 : Index := 0#32
  ![2, v281.toNat, 0, 0]

def k0_chk3 (v274 : BitVec 32) : Prop :=
  (∀ a, (k0_off5 v274) a + S1x1024x8x256.size a ≤ S4x8192x8x256.size a) ∧
  (∀ a, (k0_off6 v274) a + S1x1024x8x8.size a ≤ S4x8192x8x8.size a)
theorem k0_off5_inb : ∀ (v274 : BitVec 32) (k0_hw3 : k0_chk3 v274), ∀ a, (k0_off5 v274) a + S1x1024x8x256.size a ≤ S4x8192x8x256.size a := fun v274 k0_hw3 => k0_hw3.1
theorem k0_off6_inb : ∀ (v274 : BitVec 32) (k0_hw3 : k0_chk3 v274), ∀ a, (k0_off6 v274) a + S1x1024x8x8.size a ≤ S4x8192x8x8.size a := fun v274 k0_hw3 => k0_hw3.2

def k0_off7 (v366 : BitVec 32) : Fin 4 → Nat :=
  let c3_155 : Index := 3#32
  let c7168_i32_154 : BitVec 32 := 7168#32
  let c0_i32_153 : BitVec 32 := 0#32
  let c1024_i32_152 : BitVec 32 := 1024#32
  let v367 : BitVec 32 := Scalar.subi v366 c1024_i32_152
  let v368 : BitVec 32 := Scalar.maxsi c0_i32_153 v367
  let v369 : BitVec 32 := Scalar.minsi c7168_i32_154 v368
  let v370 : Index := Scalar.indexCast v369
  let c0_156 : Index := 0#32
  let c0_157 : Index := 0#32
  ![3, v370.toNat, 0, 0]

def k0_off8 (v366 : BitVec 32) : Fin 4 → Nat :=
  let c3_158 : Index := 3#32
  let c7168_i32_154 : BitVec 32 := 7168#32
  let c0_i32_153 : BitVec 32 := 0#32
  let c1024_i32_152 : BitVec 32 := 1024#32
  let v367 : BitVec 32 := Scalar.subi v366 c1024_i32_152
  let v368 : BitVec 32 := Scalar.maxsi c0_i32_153 v367
  let v369 : BitVec 32 := Scalar.minsi c7168_i32_154 v368
  let v373 : Index := Scalar.indexCast v369
  let c0_159 : Index := 0#32
  let c0_160 : Index := 0#32
  ![3, v373.toNat, 0, 0]

def k0_chk4 (v366 : BitVec 32) : Prop :=
  (∀ a, (k0_off7 v366) a + S1x1024x8x256.size a ≤ S4x8192x8x256.size a) ∧
  (∀ a, (k0_off8 v366) a + S1x1024x8x8.size a ≤ S4x8192x8x8.size a)
theorem k0_off7_inb : ∀ (v366 : BitVec 32) (k0_hw4 : k0_chk4 v366), ∀ a, (k0_off7 v366) a + S1x1024x8x256.size a ≤ S4x8192x8x256.size a := fun v366 k0_hw4 => k0_hw4.1
theorem k0_off8_inb : ∀ (v366 : BitVec 32) (k0_hw4 : k0_chk4 v366), ∀ a, (k0_off8 v366) a + S1x1024x8x8.size a ≤ S4x8192x8x8.size a := fun v366 k0_hw4 => k0_hw4.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1x32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x8x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1x8x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x8x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8192x8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192x8x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8192x8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1x32x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1x8x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x1x8x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x1x8x256 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x1x8x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Model.lean ====
module
public import proofs.«01_k».proof.Proof.Gen.KernelIdeal
public import Idealize.ShloMosaic.Lib.Pointwise

@[expose] public section

/-!
The kernel's vector program, stage by stage.

The kernel repeats the same few stages for every block of rows, every sequence of the batch and both
halves of the heads. Each stage is written here once, as a function of the vectors it reads, with the
kernel's own operations; the other modules say what a stage computes at an index, and that the
kernel's stored pieces are these stages applied to its loads.
-/

noncomputable section

namespace Cert.Proof.Model

open Idealize.ShloMosaic Idealize.SL.Sem
open Cert.KernelIdeal Cert.KernelIdeal.Gen

variable {F : FTy → Type} [FloatOps F]

/-! ### The quantiser -/

/-- The lane number of every element. -/
def lane : IVec S8x128 32 := iota .tc S8x128 32 [1] iota_S8x128_d1_w32

/-- Lane numbers as the gather takes them: a negative one counts from the end. -/
def wrap (i : IVec S8x128 32) : IVec S8x128 32 :=
  shapeCast S8x128 (shapeCast S8x128x1
    (select (cmpi .slt i (broadcast S8x128 0#32)) (addi i (broadcast S8x128 128#32)) i)
    shapeCasts_S8x128_S8x128x1) shapeCasts_S8x128x1_S8x128

/-- One step of the largest magnitude: against the lane whose number differs in bit `k`. -/
def gstep (x : FVec F S8x128 .f32) (k : BitVec 32) : FVec F S8x128 .f32 :=
  maximumf x (dynamicGather 1 x (wrap (xori lane (broadcast S8x128 k))))

/-- The largest magnitude of every group of 32 lanes, at each of its lanes. -/
def gmax (x : FVec F S8x128 .f32) : FVec F S8x128 .f32 :=
  gstep (gstep (gstep (gstep (gstep (absf x) 1#32) 2#32) 4#32) 8#32) 16#32

/-- One step of the search for the exponent field. -/
def estep (y : FVec F S8x128 .f32) (e : IVec S8x128 32) (k : BitVec 32) : IVec S8x128 32 :=
  select (cmpf .olt y (bitcastToFloat .f32 (shli (addi e (broadcast S8x128 k)) (broadcast S8x128 23#32))))
    e (addi e (broadcast S8x128 k))

/-- The eight steps of the search. -/
def esearch (y : FVec F S8x128 .f32) : IVec S8x128 32 :=
  estep y (estep y (estep y (estep y (estep y (estep y (estep y (estep y (broadcast S8x128 0#32)
    128#32) 64#32) 32#32) 16#32) 8#32) 4#32) 2#32) 1#32

/-- The largest magnitude over 448. -/
def over448 (x : FVec F S8x128 .f32) : FVec F S8x128 .f32 :=
  mulf (gmax x) (broadcast S8x128 (Scalar.ofBits .f32 0x3B124925#32))

/-- The exponent of the scale. -/
def expo (x : FVec F S8x128 .f32) : IVec S8x128 32 :=
  select (cmpf .oeq (over448 x) (broadcast S8x128 (Scalar.ofBits .f32 0x00000000#32)))
    (broadcast S8x128 0#32) (subi (esearch (over448 x)) (broadcast S8x128 126#32))

/-- The scale of every lane's group. -/
def scaleBlk (x : FVec F S8x128 .f32) : FVec F S8x128 .f32 :=
  bitcastToFloat .f32 (shli (addi (expo x) (broadcast S8x128 127#32)) (broadcast S8x128 23#32))

/-- The reciprocal of the scale. -/
def invBlk (x : FVec F S8x128 .f32) : FVec F S8x128 .f32 :=
  bitcastToFloat .f32 (shli (subi (broadcast S8x128 127#32) (expo x)) (broadcast S8x128 23#32))

/-- The clipped codes. -/
def codeBlk (x : FVec F S8x128 .f32) : FVec F S8x128 .f32 :=
  minimumf (broadcast S8x128 (Scalar.ofBits .f32 0x43E00000#32))
    (maximumf (broadcast S8x128 (Scalar.ofBits .f32 0xC3E00000#32)) (mulf x (invBlk x)))

/-- An 8 by 128 block of the 32 rows. -/
def blk (v : FVec F S32x256 .f32) (o : Fin 2 → ℕ) (h : S32x256.Slices o S8x128) : FVec F S8x128 .f32 :=
  extractStridedSlice S8x128 o v h

/-- A function of blocks over all the 32 rows. -/
def overBlocks (f : FVec F S8x128 .f32 → FVec F S8x128 .f32) (v : FVec F S32x256 .f32) : FVec F S32x256 .f32 :=
  concatenate S32x256 0
    [⟨S8x256, concatenate S8x256 1
        [⟨S8x128, f (blk v ![0, 0] slices_S32x256_o0_0_S8x128)⟩, ⟨S8x128, f (blk v ![0, 128] slices_S32x256_o0_128_S8x128)⟩]
        concatenates_S8x128_S8x128_S8x256_d1⟩,
     ⟨S8x256, concatenate S8x256 1
        [⟨S8x128, f (blk v ![8, 0] slices_S32x256_o8_0_S8x128)⟩, ⟨S8x128, f (blk v ![8, 128] slices_S32x256_o8_128_S8x128)⟩]
        concatenates_S8x128_S8x128_S8x256_d1⟩,
     ⟨S8x256, concatenate S8x256 1
        [⟨S8x128, f (blk v ![16, 0] slices_S32x256_o16_0_S8x128)⟩, ⟨S8x128, f (blk v ![16, 128] slices_S32x256_o16_128_S8x128)⟩]
        concatenates_S8x128_S8x128_S8x256_d1⟩,
     ⟨S8x256, concatenate S8x256 1
        [⟨S8x128, f (blk v ![24, 0] slices_S32x256_o24_0_S8x128)⟩, ⟨S8x128, f (blk v ![24, 128] slices_S32x256_o24_128_S8x128)⟩]
        concatenates_S8x128_S8x128_S8x256_d1⟩]
    concatenates_S8x256_S8x256_S8x256_S8x256_S32x256_d0

/-- The new rows of all four sequences, widened. -/
def newRows (x0 x1 x2 x3 : Vec F S1x1x8x256 .bf16) : FVec F S32x256 .f32 :=
  extf .f32 (concatenate S32x256 0
    [⟨S8x256, shapeCast S8x256 x0 shapeCasts_S1x1x8x256_S8x256⟩, ⟨S8x256, shapeCast S8x256 x1 shapeCasts_S1x1x8x256_S8x256⟩,
     ⟨S8x256, shapeCast S8x256 x2 shapeCasts_S1x1x8x256_S8x256⟩, ⟨S8x256, shapeCast S8x256 x3 shapeCasts_S1x1x8x256_S8x256⟩]
    concatenates_S8x256_S8x256_S8x256_S8x256_S32x256_d0) bitsLt_bf16_f32

/-- All codes. -/
def codes (v : FVec F S32x256 .f32) : FVec F S32x256 .fp8e4m3 :=
  truncf .fp8e4m3 (overBlocks codeBlk v) bitsLt_fp8e4m3_f32

/-- All scales. -/
def scales (v : FVec F S32x256 .f32) : FVec F S32x256 .f32 := overBlocks scaleBlk v

/-- The new rows as they are read back: code times scale. -/
def widened (v : FVec F S32x256 .f32) : FVec F S32x256 .bf16 :=
  mulf (extf .bf16 (codes v) bitsLt_fp8e4m3_bf16) (truncf .bf16 (scales v) bitsLt_bf16_f32)

/-- The piece of the codes stored for one sequence. -/
def codePiece (v : FVec F S32x256 .f32) (o : ℕ) (h : S32x256.Slices ![o, 0] S8x256) : FVec F S1x1x8x256 .fp8e4m3 :=
  shapeCast S1x1x8x256 (extractStridedSlice S8x256 ![o, 0] (codes v) h) shapeCasts_S8x256_S1x1x8x256

/-- The first lane of every group, modulo the width. -/
def firstLane : IVec S8x128 32 :=
  let r := remsi (muli lane (broadcast S8x128 32#32)) (broadcast S8x128 128#32)
  select (andi (xori (cmpi .slt r (broadcast S8x128 0#32)) (broadcastTo S8x128 (broadcast S8x128 0#1) broadcasts_S8x128_S8x128))
      (cmpi .ne r (broadcast S8x128 0#32)))
    (addi r (broadcast S8x128 128#32)) r

/-- The piece of the scales stored for one sequence: one lane per group. -/
def scalePiece (v : FVec F S32x256 .f32) (o : ℕ) (h : S32x256.Slices ![o, 0] S8x128)
    (h' : S32x256.Slices ![o, 128] S8x128) : FVec F S1x1x8x8 .f32 :=
  shapeCast S1x1x8x8 (extractStridedSlice S8x8 ![0, 0]
    (select (cmpi .slt lane (broadcast S8x128 4#32))
      (dynamicGather 1 (extractStridedSlice S8x128 ![o, 0] (scales v) h) (wrap firstLane))
      (dynamicGather 1 (extractStridedSlice S8x128 ![o, 128] (scales v) h') (wrap firstLane)))
    slices_S8x128_o0_0_S8x8) shapeCasts_S8x8_S1x1x8x8

/-! ### The queries and the new row's score -/

/-- The queries of all four sequences. -/
def queries (x0 x1 x2 x3 : Vec F S1x1x32x256 .bf16) : FVec F S128x256 .bf16 :=
  concatenate S128x256 0
    [⟨S32x256, shapeCast S32x256 x0 shapeCasts_S1x1x32x256_S32x256⟩, ⟨S32x256, shapeCast S32x256 x1 shapeCasts_S1x1x32x256_S32x256⟩,
     ⟨S32x256, shapeCast S32x256 x2 shapeCasts_S1x1x32x256_S32x256⟩, ⟨S32x256, shapeCast S32x256 x3 shapeCasts_S1x1x32x256_S32x256⟩]
    concatenates_S32x256_S32x256_S32x256_S32x256_S128x256_d0

/-- Which new row belongs to a query row: a quarter of the row number, rounded down. -/
def own : IVec S128x32 1 :=
  let i := iota .tc S128x32 32 [0] iota_S128x32_d0_w32
  let d := divsi i (broadcast S128x32 4#32)
  let s := subi (extui 32 (cmpi .sgt i (broadcast S128x32 0#32)) natLt_1_32)
    (extui 32 (cmpi .slt i (broadcast S128x32 0#32)) natLt_1_32)
  cmpi .eq
    (select (andi (cmpi .ne s (broadcast S128x32 1#32))
        (cmpi .ne (remsi i (broadcast S128x32 4#32)) (broadcast S128x32 0#32)))
      (subi d (broadcast S128x32 1#32)) d)
    (iota .tc S128x32 32 [1] iota_S128x32_d1_w32)

/-- The score of every query row against its own new row. -/
def newScore (q : FVec F S128x256 .bf16) (kw : FVec F S32x256 .bf16) : FVec F S128x1 .f32 :=
  shapeCast S128x1 (multiReduction .add [1] S128
    (select own (matmul dot_S128x256_S32x256_S128x32_1_1_0_0_n_n none q kw (constant S128x32 .f32 0x00000000#32))
      (broadcast S128x32 (Scalar.ofBits .f32 0x00000000#32)))
    0x00000000#32 reduces_S128x32_S128 (.inl rfl) rfl) shapeCasts_S128_S128x1

/-- The weight of the new row. -/
def newWeight (cap : F .f32) (q : FVec F S128x256 .bf16) (kw : FVec F S32x256 .bf16) : FVec F S128x1 .f32 :=
  exp (mulf (broadcast S128x1 (Scalar.ofBits .f32 0x42480000#32)) (tanh (mulf (newScore q kw) (broadcast S128x1 cap))))

/-- The new value row of every query row. -/
def newValue (vw : FVec F S32x256 .bf16) : FVec F S128x256 .f32 :=
  matmul dot_S128x32_S32x256_S128x256_1_0_0_1_n_n none
    (truncf .bf16 (sitofp .f32 (extui 32 own natLt_1_32)) bitsLt_bf16_f32) vw
    (constant S128x256 .f32 0x00000000#32)

/-! ### The scales of the window -/

/-- Sixty-four rows of scales, moved along the lanes. -/
def rotated (sh : BitVec 32) (x : Vec F S1x8x8x128 .f32) : FVec F S64x128 .f32 :=
  dynamicRotate 1 sh none (shapeCast S64x128 (shapeCast S8x8x128 x shapeCasts_S1x8x8x128_S8x8x128) shapeCasts_S8x8x128_S64x128)
    rotates_S64x128_d1

/-- The scales of 128 consecutive tokens, from the two blocks they lie in. -/
def scaleTile (lim sh : BitVec 32) (x y : Vec F S1x8x8x128 .f32) : FVec F S8x8x128 .bf16 :=
  shapeCast S8x8x128 (truncf .bf16
    (select (cmpi .slt (iota .tc S64x128 32 [1] iota_S64x128_d1_w32) (broadcast S64x128 lim)) (rotated sh x) (rotated sh y))
    bitsLt_bf16_f32) shapeCasts_S64x128_S8x8x128

/-! ### The scores -/

/-- The queries of four heads, spread over four times the columns: a row keeps the columns of its head. -/
def spreadQ (q : FVec F S16x256 .bf16) : FVec F S16x1024 .bf16 :=
  select (cmpi .eq (remsi (iota .tc S16x1024 32 [1] iota_S16x1024_d1_w32) (broadcast S16x1024 4#32))
      (divsi (iota .tc S16x1024 32 [0] iota_S16x1024_d0_w32) (broadcast S16x1024 4#32)))
    (shapeCast S16x1024 (broadcastTo S16x256x4
      (shapeCast S16x256x1 (shapeCast S16x256x1 q shapeCasts_S16x256_S16x256x1) shapeCasts_S16x256x1_S16x256x1)
      broadcasts_S16x256x1_S16x256x4) shapeCasts_S16x256x4_S16x1024)
    (broadcast S16x1024 (Scalar.ofBits .bf16 0x0000#16))

/-- The scales of four heads, one row per dimension and head. -/
def scaleCols (o : ℕ) (h : S8x8x128.Slices ![o, 0, 0] S4x8x128) (s : FVec F S8x8x128 .bf16) : FVec F S1024x128 .bf16 :=
  shapeCast S1024x128 (broadcastTo S8x32x4x128
    (shapeCast S8x1x4x128 (shapeCast S8x1x4x128
      (transpose S8x4x128 [1, 0, 2] (extractStridedSlice S4x8x128 ![o, 0, 0] s h) transposes_S4x8x128_p1_0_2_S8x4x128)
      shapeCasts_S8x4x128_S8x1x4x128) shapeCasts_S8x1x4x128_S8x1x4x128)
    broadcasts_S8x1x4x128_S8x32x4x128) shapeCasts_S8x32x4x128_S1024x128

/-- The key codes of 128 tokens, widened. -/
def kRows (c : Vec F S1x2048x128 .fp8e4m3) : FVec F S128x16x128 .bf16 :=
  shapeCast S128x16x128 (extf .bf16 (shapeCast S2048x128 c shapeCasts_S1x2048x128_S2048x128) bitsLt_fp8e4m3_bf16)
    shapeCasts_S2048x128_S128x16x128

/-- Half of the dimensions of four heads, one row per dimension and head. -/
def kCols (o : ℕ) (h : S128x16x128.Slices ![0, o, 0] S128x4x128) (c : Vec F S1x2048x128 .fp8e4m3) : FVec F S512x128 .bf16 :=
  shapeCast S512x128 (transpose S128x4x128 [2, 1, 0] (extractStridedSlice S128x4x128 ![0, o, 0] (kRows c) h)
    transposes_S128x4x128_p2_1_0_S128x4x128) shapeCasts_S128x4x128_S512x128

/-- The keys of 128 tokens, dequantised, one row per dimension and head. -/
def kTile (o : ℕ) (h : S8x8x128.Slices ![o, 0, 0] S4x8x128) (o1 : ℕ) (h1 : S128x16x128.Slices ![0, o1, 0] S128x4x128)
    (o2 : ℕ) (h2 : S128x16x128.Slices ![0, o2, 0] S128x4x128)
    (s : FVec F S8x8x128 .bf16) (c : Vec F S1x2048x128 .fp8e4m3) : FVec F S1024x128 .bf16 :=
  mulf (concatenate S1024x128 0 [⟨S512x128, kCols o1 h1 c⟩, ⟨S512x128, kCols o2 h2 c⟩] concatenates_S512x128_S512x128_S1024x128_d0)
    (scaleCols o h s)

/-- The scores of 256 tokens. -/
def scorePair (qm : FVec F S16x1024 .bf16) (t0 t1 : FVec F S1024x128 .bf16) : FVec F S16x256 .f32 :=
  matmul dot_S16x1024_S1024x256_S16x256_1_0_0_1_n_n none qm
    (concatenate S1024x256 1 [⟨S1024x128, t0⟩, ⟨S1024x128, t1⟩] concatenates_S1024x128_S1024x128_S1024x256_d1)
    (constant S16x256 .f32 0x00000000#32)

/-- The scores of the window. -/
def scoresAll (qm : FVec F S16x1024 .bf16) (t : Fin 8 → FVec F S1024x128 .bf16) : FVec F S16x1024 .f32 :=
  concatenate S16x1024 1
    [⟨S16x256, scorePair qm (t 0) (t 1)⟩, ⟨S16x256, scorePair qm (t 2) (t 3)⟩,
     ⟨S16x256, scorePair qm (t 4) (t 5)⟩, ⟨S16x256, scorePair qm (t 6) (t 7)⟩]
    concatenates_S16x256_S16x256_S16x256_S16x256_S16x1024_d1

/-- Which tokens of the window count. -/
def valid (start len low : BitVec 32) : IVec S16x1024 1 :=
  andi (cmpi .slt (addi (broadcast S16x1024 start) (iota .tc S16x1024 32 [1] iota_S16x1024_d1_w32)) (broadcast S16x1024 len))
    (cmpi .sgt (addi (broadcast S16x1024 start) (iota .tc S16x1024 32 [1] iota_S16x1024_d1_w32)) (broadcast S16x1024 low))

/-- The weights of the window. -/
def weights (cap : F .f32) (ok : IVec S16x1024 1) (s : FVec F S16x1024 .f32) : FVec F S16x1024 .f32 :=
  select ok
    (exp (mulf (broadcast S16x1024 (Scalar.ofBits .f32 0x42480000#32)) (tanh (mulf s (broadcast S16x1024 cap)))))
    (broadcast S16x1024 (Scalar.ofBits .f32 0x00000000#32))

/-- One over the sum of all weights. -/
def invSum (e : FVec F S16x1024 .f32) (en : FVec F S16x1 .f32) : FVec F S16x1 .f32 :=
  divf (broadcast S16x1 (Scalar.ofBits .f32 0x3F800000#32))
    (addf (shapeCast S16x1 (multiReduction .add [1] S16 e 0x00000000#32 reduces_S16x1024_S16 (.inl rfl) rfl)
      shapeCasts_S16_S16x1) en)

/-- The probabilities of the window. -/
def probs (e : FVec F S16x1024 .f32) (en : FVec F S16x1 .f32) : FVec F S16x1024 .bf16 :=
  truncf .bf16 (mulf e (broadcastTo S16x1024 (invSum e en) broadcasts_S16x1_S16x1024)) bitsLt_bf16_f32

/-- The probability of the new row. -/
def probNew (e : FVec F S16x1024 .f32) (en : FVec F S16x1 .f32) : FVec F S16x1 .f32 :=
  extf .f32 (truncf .bf16 (mulf en (invSum e en)) bitsLt_bf16_f32) bitsLt_bf16_f32

/-! ### The values -/

/-- The scales of 64 tokens and four heads. -/
def scaleHalf (o p : ℕ) (h : S8x8x128.Slices ![o, 0, p] S4x8x64) (s : FVec F S8x8x128 .bf16) : FVec F S4x8x64 .bf16 :=
  extractStridedSlice S4x8x64 ![o, 0, p] s h

/-- The value scales of the window, one row per token of a chunk and head. -/
def scaleRows (o : ℕ) (h : S8x8x128.Slices ![o, 0, 0] S4x8x64) (h' : S8x8x128.Slices ![o, 0, 64] S4x8x64)
    (s : Fin 8 → FVec F S8x8x128 .bf16) : FVec F S1x256x128 .bf16 :=
  shapeCast S1x256x128 (shapeCast S256x128 (transpose S64x4x128 [2, 0, 1] (concatenate S4x128x64 1
    [⟨S4x8x64, scaleHalf o 0 h (s 0)⟩, ⟨S4x8x64, scaleHalf o 64 h' (s 0)⟩,
     ⟨S4x8x64, scaleHalf o 0 h (s 1)⟩, ⟨S4x8x64, scaleHalf o 64 h' (s 1)⟩,
     ⟨S4x8x64, scaleHalf o 0 h (s 2)⟩, ⟨S4x8x64, scaleHalf o 64 h' (s 2)⟩,
     ⟨S4x8x64, scaleHalf o 0 h (s 3)⟩, ⟨S4x8x64, scaleHalf o 64 h' (s 3)⟩,
     ⟨S4x8x64, scaleHalf o 0 h (s 4)⟩, ⟨S4x8x64, scaleHalf o 64 h' (s 4)⟩,
     ⟨S4x8x64, scaleHalf o 0 h (s 5)⟩, ⟨S4x8x64, scaleHalf o 64 h' (s 5)⟩,
     ⟨S4x8x64, scaleHalf o 0 h (s 6)⟩, ⟨S4x8x64, scaleHalf o 64 h' (s 6)⟩,
     ⟨S4x8x64, scaleHalf o 0 h (s 7)⟩, ⟨S4x8x64, scaleHalf o 64 h' (s 7)⟩]
    concatenates_S4x8x64_S4x8x64_S4x8x64_S4x8x64_S4x8x64_S4x8x64_S4x8x64_S4x8x64_S4x8x64_S4x8x64_S4x8x64_S4x8x64_S4x8x64_S4x8x64_S4x8x64_S4x8x64_S4x128x64_d1) transposes_S4x128x64_p2_0_1_S64x4x128) shapeCasts_S64x4x128_S256x128) shapeCasts_S256x128_S1x256x128

/-- The probabilities spread over four times the columns. -/
def spreadP (p : FVec F S16x1024 .bf16) : FVec F S16x4096 .bf16 :=
  select (cmpi .eq (remsi (iota .tc S16x4096 32 [1] iota_S16x4096_d1_w32) (broadcast S16x4096 4#32))
      (divsi (iota .tc S16x4096 32 [0] iota_S16x4096_d0_w32) (broadcast S16x4096 4#32)))
    (shapeCast S16x4096 (broadcastTo S16x1024x4
      (shapeCast S16x1024x1 (shapeCast S16x1024x1 p shapeCasts_S16x1024_S16x1024x1) shapeCasts_S16x1024x1_S16x1024x1)
      broadcasts_S16x1024x1_S16x1024x4) shapeCasts_S16x1024x4_S16x4096)
    (broadcast S16x4096 (Scalar.ofBits .bf16 0x0000#16))

/-- The value codes of 64 tokens, widened. -/
def vRows (c : Vec F S1x1024x128 .fp8e4m3) : FVec F S64x16x128 .bf16 :=
  shapeCast S64x16x128 (extf .bf16 (shapeCast S1024x128 c shapeCasts_S1x1024x128_S1024x128) bitsLt_fp8e4m3_bf16)
    shapeCasts_S1024x128_S64x16x128

/-- Half of the dimensions of four heads, one row per token and head. -/
def vCols (o : ℕ) (h : S64x16x128.Slices ![0, o, 0] S64x4x128) (c : Vec F S1x1024x128 .fp8e4m3) : FVec F S256x128 .bf16 :=
  shapeCast S256x128 (extractStridedSlice S64x4x128 ![0, o, 0] (vRows c) h) shapeCasts_S64x4x128_S256x128

/-- The scales of one chunk, over the dimensions. -/
def vScale (p : ℕ) (h : S256x128.Slices ![0, p] S256x8) (s : Vec F S1x256x128 .bf16) : FVec F S256x256 .bf16 :=
  shapeCast S256x256 (broadcastTo S256x8x32
    (shapeCast S256x8x1 (shapeCast S256x8x1
      (extractStridedSlice S256x8 ![0, p] (shapeCast S256x128 s shapeCasts_S1x256x128_S256x128) h)
      shapeCasts_S256x8_S256x8x1) shapeCasts_S256x8x1_S256x8x1)
    broadcasts_S256x8x1_S256x8x32) shapeCasts_S256x8x32_S256x256

/-- The values of 64 tokens, dequantised, one row per token and head. -/
def vTile (o1 : ℕ) (h1 : S64x16x128.Slices ![0, o1, 0] S64x4x128) (o2 : ℕ) (h2 : S64x16x128.Slices ![0, o2, 0] S64x4x128)
    (p : ℕ) (h : S256x128.Slices ![0, p] S256x8) (c : Vec F S1x1024x128 .fp8e4m3) (s : Vec F S1x256x128 .bf16) :
    FVec F S256x256 .bf16 :=
  mulf (concatenate S256x256 1 [⟨S256x128, vCols o1 h1 c⟩, ⟨S256x128, vCols o2 h2 c⟩] concatenates_S256x128_S256x128_S256x256_d1)
    (vScale p h s)

/-- One chunk's part of the weighted sum. -/
def vPart (p : ℕ) (h : S16x4096.Slices ![0, p] S16x256) (pm : FVec F S16x4096 .bf16) (t : FVec F S256x256 .bf16) :
    FVec F S16x256 .f32 :=
  matmul dot_S16x256_S256x256_S16x256_1_0_0_1_n_n none (extractStridedSlice S16x256 ![0, p] pm h) t
    (constant S16x256 .f32 0x00000000#32)

/-! ### The scalars of a window, from the length -/

/-- The first token of the window. -/
def start (n : BitVec 32) : BitVec 32 := Scalar.minsi 7168#32 (Scalar.maxsi 0#32 (Scalar.subi n 1024#32))

/-- The block of 128 tokens the window starts in. -/
def block (n : BitVec 32) : BitVec 32 :=
  Scalar.select
    (Scalar.andi
      (Scalar.cmpi .ne (Scalar.subi (Scalar.extui (Scalar.cmpi .sgt (start n) 0#32)) (Scalar.extui (Scalar.cmpi .slt (start n) 0#32))) 1#32)
      (Scalar.cmpi .ne (Scalar.remsi (start n) 128#32) 0#32))
    (Scalar.subi (Scalar.divsi (start n) 128#32) 1#32) (Scalar.divsi (start n) 128#32)

/-- The first column of scales that is fetched. -/
def column (n : BitVec 32) : BitVec 32 := Scalar.muli (Scalar.minsi (block n) 55#32) 128#32

/-- How many lanes of a block lie in the window's first half of it. -/
def limit (n : BitVec 32) : BitVec 32 := Scalar.subi 128#32 (Scalar.subi (start n) (column n))

/-- How far the scales move along the lanes. -/
def shift (n : BitVec 32) : BitVec 32 :=
  Scalar.select
    (Scalar.andi (Scalar.xori (Scalar.cmpi .slt (Scalar.remsi (limit n) 128#32) 0#32) 0#1)
      (Scalar.cmpi .ne (Scalar.remsi (limit n) 128#32) 0#32))
    (Scalar.addi (Scalar.remsi (limit n) 128#32) 128#32) (Scalar.remsi (limit n) 128#32)

/-! ### One sequence and half of the heads -/

theorem sl_q (b : Fin 4) (q : Fin 2) : S128x256.Slices ![32 * b.val + 16 * q.val, 0] S16x256 := by
  revert b q; decide
theorem sl_e (b : Fin 4) (q : Fin 2) : S128x1.Slices ![32 * b.val + 16 * q.val, 0] S16x1 := by
  revert b q; decide
theorem sl_s (q : Fin 2) : S8x8x128.Slices ![4 * q.val, 0, 0] S4x8x128 := by revert q; decide
theorem sl_k (q : Fin 2) : S128x16x128.Slices ![0, 4 * q.val, 0] S128x4x128 := by revert q; decide
theorem sl_k' (q : Fin 2) : S128x16x128.Slices ![0, 8 + 4 * q.val, 0] S128x4x128 := by revert q; decide
theorem sl_v (q : Fin 2) : S64x16x128.Slices ![0, 4 * q.val, 0] S64x4x128 := by revert q; decide
theorem sl_v' (q : Fin 2) : S64x16x128.Slices ![0, 8 + 4 * q.val, 0] S64x4x128 := by revert q; decide
theorem sl_h (q : Fin 2) : S8x8x128.Slices ![4 * q.val, 0, 0] S4x8x64 := by revert q; decide
theorem sl_h' (q : Fin 2) : S8x8x128.Slices ![4 * q.val, 0, 64] S4x8x64 := by revert q; decide
theorem sl_c (c : Fin 16) : S256x128.Slices ![0, 8 * c.val] S256x8 := by revert c; decide
theorem sl_p (c : Fin 16) : S16x4096.Slices ![0, 256 * c.val] S16x256 := by revert c; decide

/-- The queries of one sequence and half of the heads. -/
def quadQ (b : Fin 4) (q : Fin 2) (x : FVec F S128x256 .bf16) : FVec F S16x256 .bf16 :=
  extractStridedSlice S16x256 ![32 * b.val + 16 * q.val, 0] x (sl_q b q)

/-- The new value rows likewise. -/
def quadV (b : Fin 4) (q : Fin 2) (x : FVec F S128x256 .f32) : FVec F S16x256 .f32 :=
  extractStridedSlice S16x256 ![32 * b.val + 16 * q.val, 0] x (sl_q b q)

/-- The new rows' weights likewise. -/
def quadE (b : Fin 4) (q : Fin 2) (x : FVec F S128x1 .f32) : FVec F S16x1 .f32 :=
  extractStridedSlice S16x1 ![32 * b.val + 16 * q.val, 0] x (sl_e b q)

/-- The scales of the window's eight blocks of tokens. -/
def tiles (n : BitVec 32) (ld : Fin 9 → Vec F S1x8x8x128 .f32) (i : Fin 8) : FVec F S8x8x128 .bf16 :=
  scaleTile (limit n) (shift n) (ld i.castSucc) (ld i.succ)

/-- The weights of one sequence's window and half of the heads. -/
def quadWeights (q : Fin 2) (cap : F .f32) (n : BitVec 32) (x : FVec F S16x256 .bf16)
    (ks : Fin 9 → Vec F S1x8x8x128 .f32) (kc : Fin 8 → Vec F S1x2048x128 .fp8e4m3) : FVec F S16x1024 .f32 :=
  weights cap (valid (start n) n (Scalar.subi n 1024#32))
    (scoresAll (spreadQ x) fun i =>
      kTile (4 * q.val) (sl_s q) (4 * q.val) (sl_k q) (8 + 4 * q.val) (sl_k' q) (tiles n ks i) (kc i))

/-- The value scales of the window and half of the heads. -/
def quadScales (q : Fin 2) (n : BitVec 32) (vs : Fin 9 → Vec F S1x8x8x128 .f32) : FVec F S1x256x128 .bf16 :=
  scaleRows (4 * q.val) (sl_h q) (sl_h' q) (tiles n vs)

/-- One chunk's part of the weighted sum of the values. -/
def chunk (q : Fin 2) (pm : FVec F S16x4096 .bf16) (vs : Vec F S1x256x128 .bf16) (vc : Fin 16 → Vec F S1x1024x128 .fp8e4m3)
    (c : Fin 16) : FVec F S16x256 .f32 :=
  vPart (256 * c.val) (sl_p c) pm
    (vTile (4 * q.val) (sl_v q) (8 + 4 * q.val) (sl_v' q) (8 * c.val) (sl_c c) (vc c) vs)

/-- The weighted sum of the values, chunk by chunk. -/
def vSum (t : Fin 16 → FVec F S16x256 .f32) : FVec F S16x256 .f32 :=
  addf (addf (addf (addf (addf (addf (addf (addf (addf (addf (addf (addf (addf (addf (addf (t 0) (t 1)) (t 2)) (t 3)) (t 4)) (t 5))
    (t 6)) (t 7)) (t 8)) (t 9)) (t 10)) (t 11)) (t 12)) (t 13)) (t 14)) (t 15)

/-- The piece of the output stored for one sequence and half of the heads. -/
def outPiece (q : Fin 2) (e : FVec F S16x1024 .f32) (en : FVec F S16x1 .f32) (vn : FVec F S16x256 .f32)
    (vs : Vec F S1x256x128 .bf16) (vc : Fin 16 → Vec F S1x1024x128 .fp8e4m3) : FVec F S1x1x16x256 .bf16 :=
  shapeCast S1x1x16x256 (truncf .bf16
    (addf (vSum (chunk q (spreadP (probs e en)) vs vc)) (mulf (broadcastTo S16x256 (probNew e en) broadcasts_S16x1_S16x256) vn))
    bitsLt_bf16_f32) shapeCasts_S16x256_S1x1x16x256

end Cert.Proof.Model
-- ==== Proof.PiecesNew.lean ====
module
public import proofs.«01_k».proof.Proof.Gen.KernelIdeal.Value
public import proofs.«01_k».proof.Proof.Model

@[expose] public section

/-!
The kernel's stored pieces of codes and scales are the quantiser's stages applied to the loaded rows.
-/

noncomputable section

namespace Cert.Proof.Pieces

open Idealize.ShloMosaic Idealize.SL.Sem
open Cert.KernelIdeal Cert.KernelIdeal.Gen Cert.Proof.Model

set_option maxRecDepth 16384

variable {F : FTy → Type} [FloatOps F]

/-- One sequence's new row, as loaded. -/
def ldNew (arg : Memref sig .tc .vmem S4x1x8x256 .bf16) (harg : arg.IsWhole) (x : Vec F S4x1x8x256 .bf16)
    (o : Fin 4 → ℕ) (h : ∀ a, o a + S1x1x8x256.size a ≤ S4x1x8x256.size a) : Vec F S1x1x8x256 .bf16 :=
  View.readAt (Elt F) arg.view (Rect.unit (s := S4x1x8x256) o S1x1x8x256.size h).toLoadRect (harg.unread x)

/-- The new rows of the four sequences, as loaded. -/
def rowsOf (arg : Memref sig .tc .vmem S4x1x8x256 .bf16) (harg : arg.IsWhole) (x : Vec F S4x1x8x256 .bf16) : FVec F S32x256 .f32 :=
  newRows (ldNew arg harg x ![0, 0, 0, 0] (by decide)) (ldNew arg harg x ![1, 0, 0, 0] (by decide))
    (ldNew arg harg x ![2, 0, 0, 0] (by decide)) (ldNew arg harg x ![3, 0, 0, 0] (by decide))

variable (c : Dev nD) (arg : Memref sig .tc .vmem S4x1x8x256 .bf16) (harg : arg.IsWhole) (x : Vec F S4x1x8x256 .bf16)

theorem kCodes_eq : kernelRun0_A.sl.v1417 c arg harg x = codes (rowsOf arg harg x) := (rfl)
theorem kScales_eq : kernelRun0_A.sl.v1418 c arg harg x = scales (rowsOf arg harg x) := (rfl)
theorem kWidened_eq : kernelRun0_A.sl.v1421 c arg harg x = widened (rowsOf arg harg x) := (rfl)
theorem vCodes_eq : kernelRun0_A.sl.v2926 c arg harg x = codes (rowsOf arg harg x) := (rfl)
theorem vScales_eq : kernelRun0_A.sl.v2927 c arg harg x = scales (rowsOf arg harg x) := (rfl)
theorem vWidened_eq : kernelRun0_A.sl.v2930 c arg harg x = widened (rowsOf arg harg x) := (rfl)

theorem kc_piece0 : kernelRun0_A.sl.v1425 c arg harg x = codePiece (rowsOf arg harg x) 0 slices_S32x256_o0_0_S8x256 := (rfl)
theorem kc_piece1 : kernelRun0_A.sl.v1490 c arg harg x = codePiece (rowsOf arg harg x) 8 slices_S32x256_o8_0_S8x256 := (rfl)
theorem kc_piece2 : kernelRun0_A.sl.v1555 c arg harg x = codePiece (rowsOf arg harg x) 16 slices_S32x256_o16_0_S8x256 := (rfl)
theorem kc_piece3 : kernelRun0_A.sl.v1620 c arg harg x = codePiece (rowsOf arg harg x) 24 slices_S32x256_o24_0_S8x256 := (rfl)
theorem vc_piece0 : kernelRun0_A.sl.v2934 c arg harg x = codePiece (rowsOf arg harg x) 0 slices_S32x256_o0_0_S8x256 := (rfl)
theorem vc_piece1 : kernelRun0_A.sl.v2999 c arg harg x = codePiece (rowsOf arg harg x) 8 slices_S32x256_o8_0_S8x256 := (rfl)
theorem vc_piece2 : kernelRun0_A.sl.v3064 c arg harg x = codePiece (rowsOf arg harg x) 16 slices_S32x256_o16_0_S8x256 := (rfl)
theorem vc_piece3 : kernelRun0_A.sl.v3129 c arg harg x = codePiece (rowsOf arg harg x) 24 slices_S32x256_o24_0_S8x256 := (rfl)
theorem ks_piece0 : kernelRun0_A.sl.v1486 c arg harg x =
    scalePiece (rowsOf arg harg x) 0 slices_S32x256_o0_0_S8x128 slices_S32x256_o0_128_S8x128 := (rfl)
theorem ks_piece1 : kernelRun0_A.sl.v1551 c arg harg x =
    scalePiece (rowsOf arg harg x) 8 slices_S32x256_o8_0_S8x128 slices_S32x256_o8_128_S8x128 := (rfl)
theorem ks_piece2 : kernelRun0_A.sl.v1616 c arg harg x =
    scalePiece (rowsOf arg harg x) 16 slices_S32x256_o16_0_S8x128 slices_S32x256_o16_128_S8x128 := (rfl)
theorem ks_piece3 : kernelRun0_A.sl.v1681 c arg harg x =
    scalePiece (rowsOf arg harg x) 24 slices_S32x256_o24_0_S8x128 slices_S32x256_o24_128_S8x128 := (rfl)
theorem vs_piece0 : kernelRun0_A.sl.v2995 c arg harg x =
    scalePiece (rowsOf arg harg x) 0 slices_S32x256_o0_0_S8x128 slices_S32x256_o0_128_S8x128 := (rfl)
theorem vs_piece1 : kernelRun0_A.sl.v3060 c arg harg x =
    scalePiece (rowsOf arg harg x) 8 slices_S32x256_o8_0_S8x128 slices_S32x256_o8_128_S8x128 := (rfl)
theorem vs_piece2 : kernelRun0_A.sl.v3125 c arg harg x =
    scalePiece (rowsOf arg harg x) 16 slices_S32x256_o16_0_S8x128 slices_S32x256_o16_128_S8x128 := (rfl)
theorem vs_piece3 : kernelRun0_A.sl.v3190 c arg harg x =
    scalePiece (rowsOf arg harg x) 24 slices_S32x256_o24_0_S8x128 slices_S32x256_o24_128_S8x128 := (rfl)

end Cert.Proof.Pieces
-- ==== Proof.Exponent.lean ====
module
public import Idealize.ShloMosaic.Lib.Pointwise

@[expose] public section

/-!
The quantiser's scale, as a function of one number.

A group of 32 numbers is quantised with a power of two: with `y` the largest magnitude divided by
448, the exponent is the `e` with `2 ^ (e - 1) ≤ y < 2 ^ e`. The kernel finds it by a search over
the eight bits of the exponent field of a float; the reference by the logarithm. Both are written
here as functions of the largest magnitude, and shown to agree where `y` is zero or in the range of
the format's normal numbers.
-/

namespace Cert.Proof.Exponent

open Idealize.ShloMosaic

/-- The float whose exponent field is `e` and whose fraction field is zero. -/
noncomputable def pow2 (e : BitVec 32) : EReal := Ideal.ofBits .f32 (e <<< 23)

/-- One step of the search: bit `k` stays out when the number is below the float it would make. -/
noncomputable def step (y : EReal) (e k : BitVec 32) : BitVec 32 :=
  if y < pow2 (e + k) then e else e + k

/-- The eight steps of the search. -/
noncomputable def search (y : EReal) : BitVec 32 :=
  step y (step y (step y (step y (step y (step y (step y (step y 0 128) 64) 32) 16) 8) 4) 2) 1

theorem ofBits_eq (b : BitVec 32) : Ideal.ofBits .f32 b = Ideal.ieee 8 23 b := rfl

/-- A positive normal float, by its two fields. -/
theorem normal_eq (b : BitVec 32) (ex fr : ℕ) (h0 : (b.extractLsb' 31 1 == 1#1) = false)
    (h1 : (b.extractLsb' 23 8).toNat = ex) (h2 : (b.extractLsb' 0 23).toNat = fr) (e0 : ex ≠ 0) (e1 : ex ≠ 255) :
    Ideal.ofBits .f32 b = ((((2 ^ 23 + fr : ℕ) : ℝ) * (2 : ℝ) ^ ((ex : ℤ) - 150) : ℝ) : EReal) := by
  rw [ofBits_eq]
  unfold Ideal.ieee
  have e1' : ¬ ex = 2 ^ 8 - 1 := by simpa using e1
  simp only [h0, h1, h2, Nat.reduceAdd, if_neg e1', if_neg e0]
  refine congrArg _ ?_
  have q : (ex : ℤ) - (2 ^ (8 - 1) - 1) - ((23 : ℕ) : ℤ) = (ex : ℤ) - 150 := by norm_num; omega
  rw [q]
  simp

/-- A normal power of two, by its exponent field. -/
theorem pow2_normal (n : ℕ) (h1 : 1 ≤ n) (h2 : n ≤ 254) :
    pow2 (BitVec.ofNat 32 n) = (((2 : ℝ) ^ ((n : ℤ) - 127) : ℝ) : EReal) := by
  have hx : ∀ n : Fin 255, ((BitVec.ofNat 32 n.1 <<< 23 : BitVec 32).extractLsb' 31 1 == 1#1) = false
      ∧ ((BitVec.ofNat 32 n.1 <<< 23 : BitVec 32).extractLsb' 23 8).toNat = n.1
      ∧ ((BitVec.ofNat 32 n.1 <<< 23 : BitVec 32).extractLsb' 0 23).toNat = 0 := by decide +kernel
  obtain ⟨a, b, c⟩ := hx ⟨n, by omega⟩
  unfold pow2
  rw [normal_eq _ n 0 a b c (by omega) (by omega)]
  refine congrArg _ ?_
  rw [show (n : ℤ) - 127 = 23 + ((n : ℤ) - 150) by omega, zpow_add₀ (by norm_num)]
  norm_num

/-- The field of all ones is infinity. -/
theorem pow2_top : pow2 (BitVec.ofNat 32 255) = ⊤ := by
  have a : ((BitVec.ofNat 32 255 <<< 23 : BitVec 32).extractLsb' 31 1 == 1#1) = false := by decide
  have b : ((BitVec.ofNat 32 255 <<< 23 : BitVec 32).extractLsb' 23 8).toNat = 255 := by decide
  have c : ((BitVec.ofNat 32 255 <<< 23 : BitVec 32).extractLsb' 0 23).toNat = 0 := by decide
  unfold pow2
  rw [ofBits_eq]
  unfold Ideal.ieee
  simp only [Nat.reduceAdd, a, b, c]
  simp

/-- Comparing a number of binade `n` with a power of two compares the exponent fields. -/
theorem lt_pow2_iff (y : ℝ) (n : ℕ) (hn : n ≤ 254)
    (hlo : (2 : ℝ) ^ ((n : ℤ) - 127) ≤ y) (hhi : y < (2 : ℝ) ^ ((n : ℤ) - 126))
    (m : ℕ) (h1 : 1 ≤ m) (h2 : m ≤ 255) :
    (y : EReal) < pow2 (BitVec.ofNat 32 m) ↔ n < m := by
  rcases Nat.lt_or_ge 254 m with h | h
  · have : m = 255 := by omega
    subst this
    rw [pow2_top]
    exact ⟨fun _ => by omega, fun _ => EReal.coe_lt_top y⟩
  · rw [pow2_normal m h1 h, EReal.coe_lt_coe_iff]
    constructor
    · intro hlt
      by_contra hc
      have : (2 : ℝ) ^ ((m : ℤ) - 127) ≤ 2 ^ ((n : ℤ) - 127) :=
        zpow_le_zpow_right₀ (by norm_num) (by omega)
      linarith
    · intro hlt
      have : (2 : ℝ) ^ ((n : ℤ) - 126) ≤ 2 ^ ((m : ℤ) - 127) :=
        zpow_le_zpow_right₀ (by norm_num) (by omega)
      linarith

/-- The step of the search on exponent fields alone. -/
def nstep (n e k : ℕ) : ℕ := if n < e + k then e else e + k

theorem step_eq (y : ℝ) (n : ℕ) (hn : n ≤ 254)
    (hlo : (2 : ℝ) ^ ((n : ℤ) - 127) ≤ y) (hhi : y < (2 : ℝ) ^ ((n : ℤ) - 126))
    (e k : ℕ) (h1 : 1 ≤ e + k) (h2 : e + k ≤ 255) :
    step y (BitVec.ofNat 32 e) (BitVec.ofNat 32 k) = BitVec.ofNat 32 (nstep n e k) := by
  have := lt_pow2_iff y n hn hlo hhi (e + k) h1 h2
  unfold step nstep
  rw [← BitVec.ofNat_add]
  by_cases hh : n < e + k
  · rw [if_pos (this.2 hh), if_pos hh]
  · rw [if_neg (fun q => hh (this.1 q)), if_neg hh]

theorem nstep_le (n e k : ℕ) (B : ℕ) (h : e + k ≤ B) : nstep n e k ≤ B := by
  unfold nstep; split <;> omega

/-- The search finds the exponent field. -/
theorem search_eq (y : ℝ) (n : ℕ) (hn : n ≤ 254)
    (hlo : (2 : ℝ) ^ ((n : ℤ) - 127) ≤ y) (hhi : y < (2 : ℝ) ^ ((n : ℤ) - 126)) :
    search y = BitVec.ofNat 32 n := by
  have s := step_eq y n hn hlo hhi
  have b1 := nstep_le n 0 128 128 (by omega)
  have b2 := nstep_le n _ 64 192 (Nat.add_le_add_right b1 64)
  have b3 := nstep_le n _ 32 224 (Nat.add_le_add_right b2 32)
  have b4 := nstep_le n _ 16 240 (Nat.add_le_add_right b3 16)
  have b5 := nstep_le n _ 8 248 (Nat.add_le_add_right b4 8)
  have b6 := nstep_le n _ 4 252 (Nat.add_le_add_right b5 4)
  have b7 := nstep_le n _ 2 254 (Nat.add_le_add_right b6 2)
  have hd : ∀ n : Fin 255, nstep n (nstep n (nstep n (nstep n (nstep n (nstep n (nstep n (nstep n 0 128) 64)
      32) 16) 8) 4) 2) 1 = n := by decide +kernel
  unfold search
  have s1 : step (y : EReal) 0 128 = _ := s 0 128 (by omega) (by omega)
  rw [s1]
  have s2 : step (y : EReal) _ 64 = _ := s (nstep n 0 128) 64 (by omega) (by omega)
  rw [s2]
  have s3 : step (y : EReal) _ 32 = _ := s (nstep n (nstep n 0 128) 64) 32 (by omega) (by omega)
  rw [s3]
  have s4 : step (y : EReal) _ 16 = _ := s (nstep n (nstep n (nstep n 0 128) 64) 32) 16 (by omega) (by omega)
  rw [s4]
  have s5 : step (y : EReal) _ 8 = _ := s (nstep n (nstep n (nstep n (nstep n 0 128) 64) 32) 16) 8 (by omega) (by omega)
  rw [s5]
  have s6 : step (y : EReal) _ 4 = _ := s (nstep n (nstep n (nstep n (nstep n (nstep n 0 128) 64) 32) 16) 8) 4 (by omega) (by omega)
  rw [s6]
  have s7 : step (y : EReal) _ 2 = _ := s (nstep n (nstep n (nstep n (nstep n (nstep n (nstep n 0 128) 64) 32) 16) 8) 4) 2 (by omega) (by omega)
  rw [s7]
  have s8 : step (y : EReal) _ 1 = _ := s (nstep n (nstep n (nstep n (nstep n (nstep n (nstep n (nstep n 0 128) 64) 32) 16) 8) 4) 2) 1 (by omega) (by omega)
  rw [s8]
  exact congrArg _ (hd ⟨n, by omega⟩)

/-- The kernel's exponent, from `y`. -/
noncomputable def kexp (y : EReal) : BitVec 32 := if y = 0 then 0 else search y - 126
/-- The kernel's scale. -/
noncomputable def kscale (y : EReal) : EReal := pow2 (kexp y + 127)
/-- The kernel's factor. -/
noncomputable def kinv (y : EReal) : EReal := pow2 (127 - kexp y)

/-- The constant `1 / 448`, as the float that both programs multiply with. -/
noncomputable def c448 : EReal := Ideal.ofBits .f32 0x3B124925#32

/-- The reference's exponent, from the largest magnitude `a`. -/
noncomputable def rexp (a : EReal) : EReal :=
  if a = 0 then Ideal.ofBits .f32 0x00000000#32 else
    Ideal.liftRound Int.floor (Ideal.div (Ideal.log (a * c448)) (Ideal.log (Ideal.ofBits .f32 0x40000000#32)))
      + Ideal.ofBits .f32 0x3F800000#32
/-- The reference's scale. -/
noncomputable def rscale (a : EReal) : EReal := Ideal.pow (Ideal.ofBits .f32 0x40000000#32) (rexp a)
/-- The reference's factor. -/
noncomputable def rinv (a : EReal) : EReal :=
  Ideal.pow (Ideal.ofBits .f32 0x40000000#32) (Ideal.ofBits .f32 0x00000000#32 - rexp a)

theorem two_eq : Ideal.ofBits .f32 0x40000000#32 = ((2 : ℝ) : EReal) := by
  have := pow2_normal 128 (by omega) (by omega)
  have e : pow2 (BitVec.ofNat 32 128) = Ideal.ofBits .f32 0x40000000#32 := rfl
  rw [← e, this]; norm_num

theorem one_eq : Ideal.ofBits .f32 0x3F800000#32 = ((1 : ℝ) : EReal) := by
  have := pow2_normal 127 (by omega) (by omega)
  have e : pow2 (BitVec.ofNat 32 127) = Ideal.ofBits .f32 0x3F800000#32 := rfl
  rw [← e, this]; norm_num

theorem zero_eq : Ideal.ofBits .f32 0x00000000#32 = ((0 : ℝ) : EReal) := by
  rw [ofBits_eq]
  unfold Ideal.ieee
  have a : ((0x00000000#32 : BitVec 32).extractLsb' 31 1 == 1#1) = false := by decide
  have b : ((0x00000000#32 : BitVec 32).extractLsb' 23 8).toNat = 0 := by decide
  have c : ((0x00000000#32 : BitVec 32).extractLsb' 0 23).toNat = 0 := by decide
  simp only [Nat.reduceAdd, a, b, c]
  simp

/-- The constant lies between `2 ^ (-9)` and `2 ^ (-8)`. -/
theorem c448_eq : ∃ r : ℝ, c448 = (r : EReal) ∧ (2 : ℝ) ^ (-9 : ℤ) ≤ r ∧ r ≤ (2 : ℝ) ^ (-8 : ℤ) := by
  refine ⟨((2 ^ 23 + 1198373 : ℕ) : ℝ) * 2 ^ (-32 : ℤ), ?_, ?_, ?_⟩
  · unfold c448
    rw [normal_eq 0x3B124925#32 118 1198373 (by decide) (by decide) (by decide) (by decide) (by decide)]
    refine congrArg _ ?_
    norm_num
  · rw [show (-9 : ℤ) = 23 + (-32) from rfl, zpow_add₀ (by norm_num)]
    gcongr; norm_num
  · rw [show (-8 : ℤ) = 24 + (-32) from rfl, zpow_add₀ (by norm_num)]
    gcongr; norm_num

/-- Every positive real lies in one binade. -/
theorem binade (y : ℝ) (hlo : (2 : ℝ) ^ (-126 : ℤ) ≤ y) (hhi : y < (2 : ℝ) ^ (125 : ℤ)) :
    ∃ n : ℕ, 1 ≤ n ∧ n ≤ 251 ∧ (2 : ℝ) ^ ((n : ℤ) - 127) ≤ y ∧ y < (2 : ℝ) ^ ((n : ℤ) - 126) := by
  have hy : 0 < y := lt_of_lt_of_le (by positivity) hlo
  have h2l : 0 < Real.log 2 := Real.log_pos (by norm_num)
  obtain ⟨k, hk⟩ : ∃ k : ℤ, k = ⌊Real.log y / Real.log 2⌋ := ⟨_, rfl⟩
  have hfl := (Int.floor_eq_iff (a := Real.log y / Real.log 2) (z := k)).1 hk.symm
  have h1 : (2 : ℝ) ^ k ≤ y := by
    rw [← Real.log_le_log_iff (by positivity) hy, Real.log_zpow, ← le_div_iff₀ h2l]; exact hfl.1
  have h2 : y < (2 : ℝ) ^ (k + 1) := by
    rw [← Real.log_lt_log_iff hy (by positivity), Real.log_zpow, ← div_lt_iff₀ h2l]; push_cast; exact hfl.2
  have l1 : (-126 : ℤ) < k + 1 := by
    by_contra hc
    have : (2 : ℝ) ^ (k + 1) ≤ 2 ^ (-126 : ℤ) := zpow_le_zpow_right₀ (by norm_num) (by omega)
    linarith
  have l2 : k < 125 := by
    by_contra hc
    have : (2 : ℝ) ^ (125 : ℤ) ≤ 2 ^ (k) := zpow_le_zpow_right₀ (by norm_num) (by omega)
    linarith
  refine ⟨(k + 127).toNat, by omega, by omega, ?_, ?_⟩
  · rw [show (((k + 127).toNat : ℕ) : ℤ) - 127 = k by omega]; exact h1
  · rw [show (((k + 127).toNat : ℕ) : ℤ) - 126 = k + 1 by omega]; exact h2

/-- The logarithm's floor, in one binade. -/
theorem floor_log (y : ℝ) (k : ℤ) (hlo : (2 : ℝ) ^ k ≤ y) (hhi : y < (2 : ℝ) ^ (k + 1)) :
    ⌊Real.log y * (Real.log 2)⁻¹⌋ = k := by
  have h2 : 0 < Real.log 2 := Real.log_pos (by norm_num)
  have hp : (0 : ℝ) < 2 ^ k := by positivity
  have hy : 0 < y := lt_of_lt_of_le hp hlo
  rw [Int.floor_eq_iff, ← div_eq_mul_inv, le_div_iff₀ h2, div_lt_iff₀ h2, ← Real.log_zpow]
  refine ⟨Real.log_le_log hp hlo, ?_⟩
  have : ((k : ℝ) + 1) * Real.log 2 = Real.log (2 ^ (k + 1)) := by rw [Real.log_zpow]; push_cast; rfl
  rw [this]; exact Real.log_lt_log hy hhi

/-- The reference's exponent, in one binade. -/
theorem rexp_eq (a : EReal) (y : ℝ) (hy : a * c448 = (y : EReal)) (ha : a ≠ 0) (n : ℕ)
    (hlo : (2 : ℝ) ^ ((n : ℤ) - 127) ≤ y) (hhi : y < (2 : ℝ) ^ ((n : ℤ) - 126)) :
    rexp a = ((((n : ℤ) - 126 : ℤ) : ℝ) : EReal) := by
  have h2 : 0 < Real.log 2 := Real.log_pos (by norm_num)
  have hp : 0 < y := lt_of_lt_of_le (by positivity) hlo
  have hl2 : Ideal.log ((2 : ℝ) : EReal) = (Real.log 2 : EReal) := by
    show (if (2 : ℝ) ≤ 0 then ⊥ else (Real.log 2 : EReal)) = _
    rw [if_neg (by norm_num)]
  have hly : Ideal.log (y : EReal) = (Real.log y : EReal) := by
    show (if y ≤ 0 then ⊥ else (Real.log y : EReal)) = _
    rw [if_neg (by linarith)]
  have hf := floor_log y ((n : ℤ) - 127) hlo (by rw [show (n : ℤ) - 127 + 1 = n - 126 by omega]; exact hhi)
  unfold rexp
  rw [if_neg ha, hy, two_eq, one_eq, hly, hl2]
  unfold Ideal.div
  rw [if_neg (by exact_mod_cast h2.ne'), ← EReal.coe_inv, ← EReal.coe_mul]
  show (((⌊Real.log y * (Real.log 2)⁻¹⌋ : ℤ) : ℝ) : EReal) + ((1 : ℝ) : EReal) = _
  rw [hf, ← EReal.coe_add]; congr 1; push_cast; ring

theorem pow_two (k : ℤ) : Ideal.pow ((2 : ℝ) : EReal) (((k : ℝ)) : EReal) = (((2 : ℝ) ^ k : ℝ) : EReal) := by
  show ((Real.rpow 2 (k : ℝ) : ℝ) : EReal) = _
  congr 1; exact Real.rpow_intCast 2 k

/-- Where the largest magnitude of the group is zero, or neither too small nor too large, the
    kernel's scale and factor are the reference's. -/
theorem agree (a : EReal)
    (h : a = 0 ∨ ((((2 : ℝ) ^ (-117 : ℤ) : ℝ) : EReal) ≤ a ∧ a ≤ (((2 : ℝ) ^ (126 : ℤ) : ℝ) : EReal))) :
    kscale (a * c448) = rscale a ∧ kinv (a * c448) = rinv a := by
  rcases h with rfl | ⟨hlo, hhi⟩
  · have e1 : pow2 127 = ((1 : ℝ) : EReal) := by
      have := pow2_normal 127 (by omega) (by omega)
      simpa using this
    have p0 := pow_two 0
    have p1 : Ideal.pow ((2 : ℝ) : EReal) ((0 : ℝ) : EReal) = ((1 : ℝ) : EReal) := by simpa using p0
    constructor
    · unfold kscale kexp rscale rexp
      rw [zero_mul, if_pos rfl, if_pos rfl, two_eq, zero_eq, p1]
      simpa using e1
    · unfold kinv kexp rinv rexp
      rw [zero_mul, if_pos rfl, if_pos rfl, two_eq, zero_eq, ← EReal.coe_sub, sub_zero, p1]
      simpa using e1
  · obtain ⟨c, hc, hc1, hc2⟩ := c448_eq
    induction a using EReal.rec with
    | bot => exact absurd hlo (not_le.2 (EReal.bot_lt_coe _))
    | top => exact absurd hhi (not_le.2 (EReal.coe_lt_top _))
    | coe a =>
      rw [EReal.coe_le_coe_iff] at hlo hhi
      have hc0 : (0 : ℝ) < c := lt_of_lt_of_le (by positivity) hc1
      have ha0 : (0 : ℝ) < a := lt_of_lt_of_le (by positivity) hlo
      have y1 : (2 : ℝ) ^ (-126 : ℤ) ≤ a * c := by
        rw [show (-126 : ℤ) = -117 + -9 from rfl, zpow_add₀ (by norm_num)]
        exact mul_le_mul hlo hc1 (by positivity) ha0.le
      have y2 : a * c < (2 : ℝ) ^ (125 : ℤ) := by
        have : a * c ≤ (2 : ℝ) ^ (126 : ℤ) * 2 ^ (-8 : ℤ) := mul_le_mul hhi hc2 hc0.le (by positivity)
        rw [← zpow_add₀ (by norm_num)] at this
        exact lt_of_le_of_lt this (zpow_lt_zpow_right₀ (by norm_num) (by norm_num))
      obtain ⟨n, n1, n2, l1, l2⟩ := binade (a * c) y1 y2
      have hy : (a : EReal) * c448 = ((a * c : ℝ) : EReal) := by rw [hc, EReal.coe_mul]
      have hne : (a : EReal) ≠ 0 := by exact_mod_cast ha0.ne'
      have hr := rexp_eq (a : EReal) (a * c) hy hne n l1 l2
      have hs := search_eq (a * c) n (by omega) l1 l2
      have hyne : ((a * c : ℝ) : EReal) ≠ 0 := by exact_mod_cast (mul_pos ha0 hc0).ne'
      have hk : kexp ((a : EReal) * c448) = BitVec.ofNat 32 n - 126 := by
        unfold kexp; rw [hy, if_neg hyne, hs]
      have q1 : (BitVec.ofNat 32 n - 126 : BitVec 32) + 127 = BitVec.ofNat 32 (n + 1) := by
        rw [BitVec.ofNat_add]; bv_omega
      have q2 : (127 : BitVec 32) - (BitVec.ofNat 32 n - 126) = BitVec.ofNat 32 (253 - n) := by
        have e127 : (127 : BitVec 32).toNat = 127 := rfl
        have e126 : (126 : BitVec 32).toNat = 126 := rfl
        apply BitVec.eq_of_toNat_eq
        simp only [BitVec.toNat_sub, BitVec.toNat_ofNat, e127, e126]
        omega
      constructor
      · unfold kscale rscale
        rw [hk, q1, hr, two_eq, pow_two, pow2_normal (n + 1) (by omega) (by omega)]
        congr 2; push_cast; omega
      · unfold kinv rinv
        rw [hk, q2, hr, two_eq, zero_eq, ← EReal.coe_sub, pow2_normal (253 - n) (by omega) (by omega)]
        have := pow_two (-((n : ℤ) - 126))
        rw [zero_sub, ← Int.cast_neg, this]
        congr 2; omega

end Cert.Proof.Exponent
-- ==== Proof.Quantise.lean ====
module
public import proofs.«01_k».proof.Proof.Model
public import proofs.«01_k».proof.Proof.Exponent

@[expose] public section

/-!
What the quantiser's stages compute at an index, over the reals.
-/

noncomputable section

namespace Cert.Proof.Quantise

open Idealize.ShloMosaic Idealize.ShloMosaic.Pointwise
open Cert.KernelIdeal Cert.KernelIdeal.Gen Cert.Proof.Model

set_option maxRecDepth 16384

/-- The lane whose number differs from a lane's in the bits of `k`. -/
def flip (l : Fin 128) (k : ℕ) : Fin 128 := ⟨(l.val ^^^ k) % 128, Nat.mod_lt _ (by decide)⟩

/-- The lane a step of the maximum compares with. -/
theorem wrap_xor (k : BitVec 32) (hk : k ∈ [1#32, 2#32, 4#32, 8#32, 16#32]) (r : Fin 8) (l : Fin 128) :
    (wrap (xori lane (broadcast S8x128 k)) (ix2 r l)).toNat % 128 = (flip l k.toNat).val := by
  have h : wrap (xori lane (broadcast S8x128 k)) (ix2 r l)
      = Scalar.select (Scalar.cmpi .slt (BitVec.ofNat 32 l.val ^^^ k) 0#32) ((BitVec.ofNat 32 l.val ^^^ k) + 128#32) (BitVec.ofNat 32 l.val ^^^ k) := by
    unfold wrap lane
    pointwise
    rfl
  rw [h]
  clear h
  simp only [List.mem_cons, List.not_mem_nil, or_false] at hk
  rcases hk with rfl | rfl | rfl | rfl | rfl <;> revert l <;> decide +kernel

/-- One step of the maximum at an index. -/
theorem gstep_apply (x : FVec Ideal S8x128 .f32) (k : BitVec 32) (hk : k ∈ [1#32, 2#32, 4#32, 8#32, 16#32]) (r : Fin 8) (l : Fin 128) :
    gstep x k (ix2 r l) = max (x (ix2 r l)) (x (ix2 r (flip l k.toNat))) := by
  show max (x (ix2 r l)) (dynamicGather 1 x (wrap (xori lane (broadcast S8x128 k))) (ix2 r l)) = _
  refine congrArg (max _) ?_
  unfold dynamicGather
  refine congrArg x (funext fun a => Fin.ext ?_)
  match a with
  | ⟨0, _⟩ => rfl
  | ⟨1, _⟩ => exact wrap_xor k hk r l

/-- The lanes that several steps of the maximum reach. -/
def orbit : List ℕ → Fin 128 → List (Fin 128)
  | [], l => [l]
  | k :: ks, l => orbit ks l ++ orbit ks (flip l k)

/-- Several steps of the maximum. -/
def steps (f : Fin 128 → EReal) : List ℕ → Fin 128 → EReal
  | [], l => f l
  | k :: ks, l => max (steps f ks l) (steps f ks (flip l k))

theorem steps_le (f : Fin 128 → EReal) (c : EReal) : ∀ (ks : List ℕ) (l : Fin 128), steps f ks l ≤ c ↔ ∀ m ∈ orbit ks l, f m ≤ c
  | [], l => by simp [steps, orbit]
  | k :: ks, l => by
    simp only [steps, orbit, max_le_iff, steps_le f c ks, List.mem_append]
    exact ⟨fun h m hm => hm.elim (h.1 m) (h.2 m), fun h => ⟨fun m hm => h m (.inl hm), fun m hm => h m (.inr hm)⟩⟩

theorem mem_step (k d : ℕ) (ks : List ℕ) (h : ∀ l m : Fin 128, m ∈ orbit ks l ↔ m.val / d = l.val / d)
    (hf : ∀ l : Fin 128, (flip l k).val / d ≠ l.val / d ∧ (flip l k).val / (d * 2) = l.val / (d * 2)) (l m : Fin 128) :
    m ∈ orbit (k :: ks) l ↔ m.val / (d * 2) = l.val / (d * 2) := by
  have h1 := hf l
  simp only [orbit, List.mem_append, h, ← Nat.div_div_eq_div_mul] at h1 ⊢
  omega

theorem mem_orbit : ∀ (l m : Fin 128), m ∈ orbit [16, 8, 4, 2, 1] l ↔ m.val / 32 = l.val / 32 :=
  mem_step 16 16 _ (mem_step 8 8 _ (mem_step 4 4 _ (mem_step 2 2 _ (mem_step 1 1 _
    (fun l m => by simp only [orbit, List.mem_singleton, Nat.div_one, Fin.ext_iff])
    (by decide +kernel)) (by decide +kernel)) (by decide +kernel)) (by decide +kernel)) (by decide +kernel)

/-- The largest of 32 values. -/
def top (f : Fin 32 → EReal) : EReal := Finset.univ.fold max ⊥ f

theorem top_le (f : Fin 32 → EReal) (c : EReal) : top f ≤ c ↔ ∀ k, f k ≤ c := by
  unfold top
  rw [Finset.fold_max_le]
  exact ⟨fun h k => h.2 k (Finset.mem_univ k), fun h => ⟨bot_le, fun k _ => h k⟩⟩

theorem gmax_apply (x : FVec Ideal S8x128 .f32) (r : Fin 8) (l : Fin 128) :
    gmax x (ix2 r l) = top fun k => max (x (ix2 r ⟨32 * (l.val / 32) + k.val, by omega⟩)) (-x (ix2 r ⟨32 * (l.val / 32) + k.val, by omega⟩)) := by
  have h : gmax x (ix2 r l) = steps (fun m => max (x (ix2 r m)) (-x (ix2 r m))) [16, 8, 4, 2, 1] l := by
    unfold gmax
    simp only [gstep_apply _ _ (show 1#32 ∈ [1#32, 2#32, 4#32, 8#32, 16#32] by simp), gstep_apply _ _ (show 2#32 ∈ [1#32, 2#32, 4#32, 8#32, 16#32] by simp),
      gstep_apply _ _ (show 4#32 ∈ [1#32, 2#32, 4#32, 8#32, 16#32] by simp), gstep_apply _ _ (show 8#32 ∈ [1#32, 2#32, 4#32, 8#32, 16#32] by simp),
      gstep_apply _ _ (show 16#32 ∈ [1#32, 2#32, 4#32, 8#32, 16#32] by simp)]
    rfl
  rw [h]
  refine eq_of_forall_ge_iff fun c => ?_
  rw [steps_le, top_le]
  refine ⟨fun h k => h _ ((mem_orbit l _).2 ?_), fun h m hm => ?_⟩
  · show (32 * (l.val / 32) + k.val) / 32 = l.val / 32
    omega
  · have hm' := (mem_orbit l m).1 hm
    have e : m = ⟨32 * (l.val / 32) + (m.val % 32), by omega⟩ := Fin.ext (by show m.val = 32 * (l.val / 32) + m.val % 32; omega)
    rw [e]
    exact h ⟨m.val % 32, by omega⟩

theorem estep_apply (y : FVec Ideal S8x128 .f32) (e : IVec S8x128 32) (k : BitVec 32) (i : S8x128.Idx) :
    estep y e k i = Exponent.step (y i) (e i) k := by
  unfold estep Exponent.step Exponent.pow2
  pointwise
  rfl

theorem esearch_apply (y : FVec Ideal S8x128 .f32) (i : S8x128.Idx) : esearch y i = Exponent.search (y i) := by
  unfold esearch
  simp only [estep_apply]
  rfl

theorem over448_apply (x : FVec Ideal S8x128 .f32) (i : S8x128.Idx) : over448 x i = gmax x i * Exponent.c448 := rfl

theorem expo_apply (x : FVec Ideal S8x128 .f32) (i : S8x128.Idx) : expo x i = Exponent.kexp (over448 x i) := by
  unfold expo Exponent.kexp
  rw [← esearch_apply]
  pointwise
  rfl

theorem scaleBlk_apply (x : FVec Ideal S8x128 .f32) (i : S8x128.Idx) : scaleBlk x i = Exponent.kscale (gmax x i * Exponent.c448) := by
  rw [← over448_apply]
  show Ideal.ofBits .f32 ((expo x i + 127#32) <<< (23#32)) = _
  rw [expo_apply]
  rfl

theorem invBlk_apply (x : FVec Ideal S8x128 .f32) (i : S8x128.Idx) : invBlk x i = Exponent.kinv (gmax x i * Exponent.c448) := by
  rw [← over448_apply]
  show Ideal.ofBits .f32 ((127#32 - expo x i) <<< (23#32)) = _
  rw [expo_apply]
  rfl

/-- The code of a value in a group with largest magnitude `a`. -/
def code (a v : EReal) : EReal :=
  min (Ideal.ofBits .f32 0x43E00000#32) (max (Ideal.ofBits .f32 0xC3E00000#32) (v * Exponent.rinv a))

/-- The quantiser's working range for a group's largest magnitude. -/
def InRange (a : EReal) : Prop := a = 0 ∨ ((((2:ℝ)^(-117:ℤ):ℝ):EReal) ≤ a ∧ a ≤ (((2:ℝ)^(126:ℤ):ℝ):EReal))

theorem codeBlk_apply (x : FVec Ideal S8x128 .f32) (i : S8x128.Idx) (h : InRange (gmax x i)) : codeBlk x i = code (gmax x i) (x i) := by
  show min (Ideal.ofBits .f32 0x43E00000#32) (max (Ideal.ofBits .f32 0xC3E00000#32) (x i * invBlk x i)) = _
  rw [invBlk_apply, (Exponent.agree _ h).2]
  rfl

theorem scaleBlk_apply' (x : FVec Ideal S8x128 .f32) (i : S8x128.Idx) (h : InRange (gmax x i)) : scaleBlk x i = Exponent.rscale (gmax x i) := by
  rw [scaleBlk_apply, (Exponent.agree _ h).1]

end Cert.Proof.Quantise
-- ==== Proof.QuantiseRows.lean ====
module
public import proofs.«01_k».proof.Proof.Quantise
@[expose] public section
noncomputable section
namespace Cert.Proof.Quantise

open Idealize.ShloMosaic Idealize.ShloMosaic.Pointwise
open Cert.KernelIdeal Cert.KernelIdeal.Gen Cert.Proof.Model

set_option maxRecDepth 16384

theorem slice_apply (v : FVec Ideal S32x256 .f32) (o p : ℕ) (ho : o + 8 ≤ 32) (hp : p + 128 ≤ 256) (h : S32x256.Slices ![o, p] S8x128)
    (a : Fin 8) (m : Fin 128) :
    extractStridedSlice S8x128 ![o, p] v h (ix2 a m) = v (ix2 ⟨o + a.val, by omega⟩ ⟨p + m.val, by omega⟩) :=
  congrArg v (funext fun d => Fin.ext (match d with | ⟨0, _⟩ => rfl | ⟨1, _⟩ => rfl))

theorem overBlocks_apply (f : FVec Ideal S8x128 .f32 → FVec Ideal S8x128 .f32) (H : (Fin 128 → EReal) → Fin 128 → EReal)
    (hf : ∀ x (a : Fin 8) (l : Fin 128), f x (ix2 a l) = H (fun m => x (ix2 a m)) l) (v : FVec Ideal S32x256 .f32)
    (r : Fin 32) (c : Fin 256) :
    overBlocks f v (ix2 r c) = H (fun m => v (ix2 r ⟨128 * (c.val / 128) + m.val, by omega⟩)) ⟨c.val % 128, by omega⟩ := by
  unfold overBlocks
  pointwise [blk]
  split_ifs
  all_goals
    rw [hf]
    refine congrArg₂ H (funext fun m => ?_) (Fin.ext ?_)
    · refine (slice_apply v _ _ (by omega) (by omega) _ _ m).trans (congrArg₂ (fun a b => v (ix2 a b)) (Fin.ext ?_) (Fin.ext ?_))
      · dsimp only; omega
      · dsimp only; omega
    · dsimp only; omega

def kcode (a v : EReal) : EReal :=
  min (Ideal.ofBits .f32 0x43E00000#32) (max (Ideal.ofBits .f32 0xC3E00000#32) (v * Exponent.kinv (a * Exponent.c448)))

/-- The largest magnitude of a row's group. -/
def rowTop (v : Fin 256 → EReal) (c : Fin 256) : EReal :=
  top fun k => max (v ⟨32 * (c.val / 32) + k.val, by omega⟩) (-v ⟨32 * (c.val / 32) + k.val, by omega⟩)

theorem rowTop_eq (v : Fin 256 → EReal) (c : Fin 256) :
    (top fun k : Fin 32 => max (v ⟨128 * (c.val / 128) + (32 * (c.val % 128 / 32) + k.val), by omega⟩) (-v ⟨128 * (c.val / 128) + (32 * (c.val % 128 / 32) + k.val), by omega⟩)) = rowTop v c := by
  unfold rowTop
  refine congrArg top (funext fun k => ?_)
  have e : (⟨128 * (c.val / 128) + (32 * (c.val % 128 / 32) + k.val), by omega⟩ : Fin 256) = ⟨32 * (c.val / 32) + k.val, by omega⟩ :=
    Fin.ext (by show 128 * (c.val / 128) + (32 * (c.val % 128 / 32) + k.val) = 32 * (c.val / 32) + k.val; omega)
  rw [e]

theorem codes_apply (v : FVec Ideal S32x256 .f32) (r : Fin 32) (c : Fin 256) (h : InRange (rowTop (fun m => v (ix2 r m)) c)) :
    codes v (ix2 r c) = code (rowTop (fun m => v (ix2 r m)) c) (v (ix2 r c)) := by
  show overBlocks codeBlk v (ix2 r c) = _
  rw [overBlocks_apply codeBlk (fun row l => kcode (top fun k => max (row ⟨32 * (l.val / 32) + k.val, by omega⟩) (-row ⟨32 * (l.val / 32) + k.val, by omega⟩)) (row l))
    (fun x a l => by
      show min (Ideal.ofBits .f32 0x43E00000#32) (max (Ideal.ofBits .f32 0xC3E00000#32) (x (ix2 a l) * invBlk x (ix2 a l))) = _
      rw [invBlk_apply, gmax_apply]; rfl)]
  show kcode (top _) (v _) = _
  rw [rowTop_eq (fun m => v (ix2 r m)) c]
  unfold kcode code
  rw [(Exponent.agree _ h).2]
  have e : (⟨128 * (c.val / 128) + c.val % 128, by omega⟩ : Fin 256) = c := Fin.ext (by show 128 * (c.val / 128) + c.val % 128 = c.val; omega)
  rw [e]

theorem scales_apply (v : FVec Ideal S32x256 .f32) (r : Fin 32) (c : Fin 256) (h : InRange (rowTop (fun m => v (ix2 r m)) c)) :
    scales v (ix2 r c) = Exponent.rscale (rowTop (fun m => v (ix2 r m)) c) := by
  show overBlocks scaleBlk v (ix2 r c) = _
  rw [overBlocks_apply scaleBlk (fun row l => Exponent.kscale ((top fun k => max (row ⟨32 * (l.val / 32) + k.val, by omega⟩) (-row ⟨32 * (l.val / 32) + k.val, by omega⟩)) * Exponent.c448))
    (fun x a l => by rw [scaleBlk_apply, gmax_apply])]
  show Exponent.kscale (top _ * Exponent.c448) = _
  rw [rowTop_eq (fun m => v (ix2 r m)) c, (Exponent.agree _ h).1]

theorem widened_apply (v : FVec Ideal S32x256 .f32) (r : Fin 32) (c : Fin 256) (h : InRange (rowTop (fun m => v (ix2 r m)) c)) :
    widened v (ix2 r c) = code (rowTop (fun m => v (ix2 r m)) c) (v (ix2 r c)) * Exponent.rscale (rowTop (fun m => v (ix2 r m)) c) := by
  show codes v (ix2 r c) * scales v (ix2 r c) = _
  rw [codes_apply v r c h, scales_apply v r c h]

/-- The new rows at an index: sequence `r / 8`, head `r % 8`. -/
theorem newRows_apply (x : Fin 4 → Vec Ideal S1x1x8x256 .bf16) (r : Fin 32) (c : Fin 256) :
    newRows (x 0) (x 1) (x 2) (x 3) (ix2 r c) = x ⟨r.val / 8, by omega⟩ (ix4 0 0 ⟨r.val % 8, by omega⟩ c) := by
  unfold newRows
  pointwise
  split_ifs
  all_goals
    exact congrArg₂ (fun a b => x a (ix4 0 0 b c)) (Fin.ext (by dsimp only; omega)) (Fin.ext (by dsimp only; omega))

theorem codePiece_apply (v : FVec Ideal S32x256 .f32) (o : ℕ) (ho : o + 8 ≤ 32) (h : S32x256.Slices ![o, 0] S8x256) (i : Fin 8) (c : Fin 256) :
    codePiece v o h (ix4 0 0 i c) = codes v (ix2 ⟨o + i.val, by omega⟩ c) := by
  unfold codePiece
  pointwise

theorem firstLane_apply (r : Fin 8) (l : Fin 128) : (wrap firstLane (ix2 r l)).toNat % 128 = (32 * l.val) % 128 := by
  revert r l; decide +kernel

theorem firstLane_low (i g : Fin 8) :
    IntOp.cmpi CmpIPredicate.slt (lane (ix2 i (⟨g.val, by omega⟩ : Fin 128))) 4#32 = if g.val < 4 then 1#1 else 0#1 := by
  revert i g; decide +kernel

theorem select_one {α : Type} (a b : α) : Scalar.select 1#1 a b = a := rfl
theorem select_zero {α : Type} (a b : α) : Scalar.select 0#1 a b = b := rfl

theorem scalePiece_apply (v : FVec Ideal S32x256 .f32) (o : ℕ) (ho : o + 8 ≤ 32) (h : S32x256.Slices ![o, 0] S8x128)
    (h' : S32x256.Slices ![o, 128] S8x128) (i g : Fin 8) :
    scalePiece v o h h' (ix4 0 0 i g) = scales v (ix2 ⟨o + i.val, by omega⟩ ⟨32 * g.val, by omega⟩) := by
  unfold scalePiece
  pointwise
  rw [firstLane_low]
  have hg : (wrap firstLane (ix2 i ⟨g.val, by omega⟩)).toNat % 128 = (32 * g.val) % 128 := firstLane_apply i _
  by_cases h4 : g.val < 4
  · rw [if_pos h4]
    refine (select_one _ _).trans ?_
    exact congrArg (fun a => scales v (ix2 _ a)) (Fin.ext (by dsimp only; omega))
  · rw [if_neg h4]
    refine (select_zero _ _).trans ?_
    exact congrArg (fun a => scales v (ix2 _ a)) (Fin.ext (by dsimp only; omega))
end Cert.Proof.Quantise
-- ==== Proof.Stored.lean ====
module
public import proofs.«01_k».proof.Proof.PiecesNew
public import proofs.«01_k».proof.Proof.QuantiseRows
public import Idealize.ShloMosaic.Lib.Pipeline.ValueKit
public import Idealize.ShloMosaic.Lib.WholeRead
@[expose] public section
noncomputable section
namespace Cert.Proof.Stored

open Idealize.ShloMosaic Idealize.SL.Sem Idealize.ShloMosaic.Pointwise
open Idealize.ShloMosaic.TcCoe
open Cert.KernelIdeal Cert.KernelIdeal.Gen Cert.Proof.Model Cert.Proof.Pieces Cert.Proof.Quantise

set_option maxRecDepth 16384

section
variable (arg : Memref sig .tc .vmem S4x1x8x256 .bf16) (harg : arg.IsWhole) (x : Vec Ideal S4x1x8x256 .bf16)

theorem ldNew_apply (b : Fin 4) (o : Fin 4 → ℕ) (h) (ho : o = ![b.val, 0, 0, 0]) (i : Fin 8) (d : Fin 256) :
    ldNew arg harg x o h (ix4 0 0 i d) = x (ix4 b 0 i d) := by
  subst ho
  unfold ldNew
  rw [Memref.IsWhole.readAt_unread harg]
  exact congrArg x (funext fun a => Fin.ext (match a with | ⟨0, _⟩ => rfl | ⟨1, _⟩ => rfl | ⟨2, _⟩ => by simp | ⟨3, _⟩ => by simp))

theorem rowsOf_apply (r : Fin 32) (d : Fin 256) :
    rowsOf arg harg x (ix2 r d) = x (ix4 ⟨r.val / 8, by omega⟩ 0 ⟨r.val % 8, by omega⟩ d) := by
  unfold rowsOf
  refine (newRows_apply ![ldNew arg harg x ![0, 0, 0, 0] (by decide), ldNew arg harg x ![1, 0, 0, 0] (by decide),
    ldNew arg harg x ![2, 0, 0, 0] (by decide), ldNew arg harg x ![3, 0, 0, 0] (by decide)] r d).trans ?_
  generalize (⟨r.val / 8, by omega⟩ : Fin 4) = b
  match b with
  | 0 => exact ldNew_apply arg harg x 0 _ _ rfl _ _
  | 1 => exact ldNew_apply arg harg x 1 _ _ rfl _ _
  | 2 => exact ldNew_apply arg harg x 2 _ _ rfl _ _
  | 3 => exact ldNew_apply arg harg x 3 _ _ rfl _ _

/-- Every group's largest magnitude is zero or a normal number away from the ends. -/
def Ok (x : S4x1x8x256.Idx → EReal) : Prop := ∀ (b : Fin 4) (h : Fin 8) (d : Fin 256), InRange (rowTop (fun k => x (ix4 b 0 h k)) d)

theorem rowTop_rows (r : Fin 32) (d : Fin 256) :
    rowTop (fun k => rowsOf arg harg x (ix2 r k)) d = rowTop (fun k => x (ix4 ⟨r.val / 8, by omega⟩ 0 ⟨r.val % 8, by omega⟩ k)) d :=
  congrArg (fun f => rowTop f d) (funext fun k => rowsOf_apply arg harg x r k)

/-- The codes of the array of new rows. -/
def codesOf (x : S4x1x8x256.Idx → EReal) (y : S4x1x8x256.Idx) : EReal :=
  code (rowTop (fun k => x (ix4 (y 0) 0 (y 2) k)) (y 3)) (x (ix4 (y 0) 0 (y 2) (y 3)))
/-- The scales of the array of new rows. -/
def scalesOf (x : S4x1x8x256.Idx → EReal) (y : S4x1x8x8.Idx) : EReal :=
  Exponent.rscale (rowTop (fun k => x (ix4 (y 0) 0 (y 2) k)) ⟨32 * (y 3).val, by have := (y 3).isLt; change _ < 8 at this; omega⟩)

variable (ok : Ok x)
include ok

theorem codes_rows (b : Fin 4) (i : Fin 8) (d : Fin 256) (o : ℕ) (ho : o = 8 * b.val) (h) :
    codePiece (rowsOf arg harg x) o h (ix4 0 0 i d) = codesOf x (ix4 b 0 i d) := by
  subst ho
  rw [codePiece_apply _ _ (by omega), codes_apply _ _ _ (by rw [rowTop_rows]; exact ok _ _ _), rowTop_rows, rowsOf_apply]
  have e1 : (⟨(8 * b.val + i.val) / 8, by omega⟩ : Fin 4) = b := Fin.ext (by dsimp only; omega)
  have e2 : (⟨(8 * b.val + i.val) % 8, by omega⟩ : Fin 8) = i := Fin.ext (by dsimp only; omega)
  dsimp only
  rw [e1, e2]
  rfl

theorem scales_rows (b : Fin 4) (i g : Fin 8) (o : ℕ) (ho : o = 8 * b.val) (h h') :
    scalePiece (rowsOf arg harg x) o h h' (ix4 0 0 i g) = scalesOf x (ix4 b 0 i g) := by
  subst ho
  rw [scalePiece_apply _ _ (by omega), scales_apply _ _ _ (by rw [rowTop_rows]; exact ok _ _ _), rowTop_rows]
  have e1 : (⟨(8 * b.val + i.val) / 8, by omega⟩ : Fin 4) = b := Fin.ext (by dsimp only; omega)
  have e2 : (⟨(8 * b.val + i.val) % 8, by omega⟩ : Fin 8) = i := Fin.ext (by dsimp only; omega)
  dsimp only
  rw [e1, e2]
  rfl

theorem code_tile (b : Fin 4) (o : ℕ) (ho : o = 8 * b.val) (h) (p : Fin 4 → ℕ) (hp : p = ![b.val, 0, 0, 0]) (inb)
    (z : S1x1x8x256.Idx) :
    codePiece (rowsOf arg harg x) o h z = codesOf x ((Rect.unit (s := S4x1x8x256) p S1x1x8x256.size inb).emb z) := by
  subst hp
  obtain ⟨i, d, rfl⟩ : ∃ (i : Fin 8) (d : Fin 256), z = ix4 0 0 i d := ⟨z 2, z 3, funext fun a => Fin.ext (match a with
    | ⟨0, _⟩ => Nat.lt_one_iff.mp (z 0).isLt | ⟨1, _⟩ => Nat.lt_one_iff.mp (z 1).isLt | ⟨2, _⟩ => rfl | ⟨3, _⟩ => rfl)⟩
  rw [codes_rows arg harg x ok b i d o ho h]
  exact congrArg (codesOf x) (funext fun a => Fin.ext (match a with | ⟨0, _⟩ => rfl | ⟨1, _⟩ => rfl | ⟨2, _⟩ => by simp | ⟨3, _⟩ => by simp))

theorem scale_tile (b : Fin 4) (o : ℕ) (ho : o = 8 * b.val) (h h') (p : Fin 4 → ℕ) (hp : p = ![b.val, 0, 0, 0]) (inb)
    (z : S1x1x8x8.Idx) :
    scalePiece (rowsOf arg harg x) o h h' z = scalesOf x ((Rect.unit (s := S4x1x8x8) p S1x1x8x8.size inb).emb z) := by
  subst hp
  obtain ⟨i, d, rfl⟩ : ∃ (i : Fin 8) (d : Fin 8), z = ix4 0 0 i d := ⟨z 2, z 3, funext fun a => Fin.ext (match a with
    | ⟨0, _⟩ => Nat.lt_one_iff.mp (z 0).isLt | ⟨1, _⟩ => Nat.lt_one_iff.mp (z 1).isLt | ⟨2, _⟩ => rfl | ⟨3, _⟩ => rfl)⟩
  rw [scales_rows arg harg x ok b i d o ho h h']
  exact congrArg (scalesOf x) (funext fun a => Fin.ext (match a with | ⟨0, _⟩ => rfl | ⟨1, _⟩ => rfl | ⟨2, _⟩ => by simp | ⟨3, _⟩ => by simp))

end

section
variable (c : Dev nD) (arg0 : Memref sig .tc .smem S4 .i32) (harg0 : arg0.IsWhole) (arg1 : Memref sig .tc .vmem S4x1x32x256 .bf16) (harg1 : arg1.IsWhole) (arg2 : Memref sig .tc .vmem S4x1x8x256 .bf16) (harg2 : arg2.IsWhole) (arg3 : Memref sig .tc .vmem S4x1x8x256 .bf16) (harg3 : arg3.IsWhole) (arg8 : Memref sig .tc .vmem S4x1x32x256 .bf16) (harg8 : arg8.IsWhole) (arg9 : Memref sig .tc .vmem S4x1x8x256 .fp8e4m3) (harg9 : arg9.IsWhole) (arg10 : Memref sig .tc .vmem S4x1x8x8 .f32) (harg10 : arg10.IsWhole) (arg11 : Memref sig .tc .vmem S4x1x8x256 .fp8e4m3) (harg11 : arg11.IsWhole) (arg12 : Memref sig .tc .vmem S4x1x8x8 .f32) (harg12 : arg12.IsWhole) (arg13 : Memref sig .tc .vmem S4x16384x128 .fp8e4m3) (harg13 : arg13.IsWhole) (arg14 : Memref sig .tc .vmem S4x8x8x1152 .f32) (harg14 : arg14.IsWhole) (arg15 : Memref sig .tc .vmem S4x16384x128 .fp8e4m3) (harg15 : arg15.IsWhole) (arg16 : Memref sig .tc .vmem S4x8x8x1152 .f32) (harg16 : arg16.IsWhole) (arg17 : Memref sig .tc .vmem S2x256x128 .bf16) (harg17 : arg17.IsWhole) (x0 : Vec Ideal S4 .i32) (x1 : Vec Ideal S4x1x32x256 .bf16) (x2 : Vec Ideal S4x1x8x256 .bf16) (x3 : Vec Ideal S4x1x8x256 .bf16) (fh0 : HbBuf0 (F := Ideal) c hbM0_0) (fh1 : HbBuf0 (F := Ideal) c hbM0_1) (fh2 : HbBuf0 (F := Ideal) c hbM0_2) (fh3 : HbBuf0 (F := Ideal) c hbM0_3)

theorem pieces5 : (kernelRun0_A c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3).2.1 =
    [⟨Rect.unit (s := S4x1x8x256) ![3, 0, 0, 0] S1x1x8x256.size (by decide), kernelRun0_A.sl.v1620 c arg2 harg2 x2⟩,
      ⟨Rect.unit (s := S4x1x8x256) ![2, 0, 0, 0] S1x1x8x256.size (by decide), kernelRun0_A.sl.v1555 c arg2 harg2 x2⟩,
      ⟨Rect.unit (s := S4x1x8x256) ![1, 0, 0, 0] S1x1x8x256.size (by decide), kernelRun0_A.sl.v1490 c arg2 harg2 x2⟩,
      ⟨Rect.unit (s := S4x1x8x256) ![0, 0, 0, 0] S1x1x8x256.size (by decide), kernelRun0_A.sl.v1425 c arg2 harg2 x2⟩] := (rfl)

theorem out5_eq (ok : Ok x2) : out0_A_5 c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3 = codesOf x2 := by
  funext y
  unfold out0_A_5
  rw [View.read_writes_junk_eq_canon]
  refine View.canon_apply_of_pieces (codesOf x2) _ ?_ y (cover0_A_5 c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3 y)
  rw [pieces5]
  intro p hp z
  simp only [List.mem_cons, List.not_mem_nil, or_false] at hp
  rcases hp with rfl | rfl | rfl | rfl
  · rw [kc_piece3]; exact code_tile arg2 harg2 x2 ok 3 _ rfl slices_S32x256_o24_0_S8x256 _ rfl (by decide) z
  · rw [kc_piece2]; exact code_tile arg2 harg2 x2 ok 2 _ rfl slices_S32x256_o16_0_S8x256 _ rfl (by decide) z
  · rw [kc_piece1]; exact code_tile arg2 harg2 x2 ok 1 _ rfl slices_S32x256_o8_0_S8x256 _ rfl (by decide) z
  · rw [kc_piece0]; exact code_tile arg2 harg2 x2 ok 0 _ rfl slices_S32x256_o0_0_S8x256 _ rfl (by decide) z

theorem pieces6 : (kernelRun0_A c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3).2.2.1 =
    [⟨Rect.unit (s := S4x1x8x8) ![3, 0, 0, 0] S1x1x8x8.size (by decide), kernelRun0_A.sl.v1681 c arg2 harg2 x2⟩,
      ⟨Rect.unit (s := S4x1x8x8) ![2, 0, 0, 0] S1x1x8x8.size (by decide), kernelRun0_A.sl.v1616 c arg2 harg2 x2⟩,
      ⟨Rect.unit (s := S4x1x8x8) ![1, 0, 0, 0] S1x1x8x8.size (by decide), kernelRun0_A.sl.v1551 c arg2 harg2 x2⟩,
      ⟨Rect.unit (s := S4x1x8x8) ![0, 0, 0, 0] S1x1x8x8.size (by decide), kernelRun0_A.sl.v1486 c arg2 harg2 x2⟩] := (rfl)

theorem out6_eq (ok : Ok x2) : out0_A_6 c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3 = scalesOf x2 := by
  funext y
  unfold out0_A_6
  rw [View.read_writes_junk_eq_canon]
  refine View.canon_apply_of_pieces (scalesOf x2) _ ?_ y (cover0_A_6 c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3 y)
  rw [pieces6]
  intro p hp z
  simp only [List.mem_cons, List.not_mem_nil, or_false] at hp
  rcases hp with rfl | rfl | rfl | rfl
  · rw [ks_piece3]; exact scale_tile arg2 harg2 x2 ok 3 _ rfl _ _ _ rfl (by decide) z
  · rw [ks_piece2]; exact scale_tile arg2 harg2 x2 ok 2 _ rfl _ _ _ rfl (by decide) z
  · rw [ks_piece1]; exact scale_tile arg2 harg2 x2 ok 1 _ rfl _ _ _ rfl (by decide) z
  · rw [ks_piece0]; exact scale_tile arg2 harg2 x2 ok 0 _ rfl _ _ _ rfl (by decide) z

theorem pieces7 : (kernelRun0_A c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3).2.2.2.1 =
    [⟨Rect.unit (s := S4x1x8x256) ![3, 0, 0, 0] S1x1x8x256.size (by decide), kernelRun0_A.sl.v3129 c arg3 harg3 x3⟩,
      ⟨Rect.unit (s := S4x1x8x256) ![2, 0, 0, 0] S1x1x8x256.size (by decide), kernelRun0_A.sl.v3064 c arg3 harg3 x3⟩,
      ⟨Rect.unit (s := S4x1x8x256) ![1, 0, 0, 0] S1x1x8x256.size (by decide), kernelRun0_A.sl.v2999 c arg3 harg3 x3⟩,
      ⟨Rect.unit (s := S4x1x8x256) ![0, 0, 0, 0] S1x1x8x256.size (by decide), kernelRun0_A.sl.v2934 c arg3 harg3 x3⟩] := (rfl)

theorem out7_eq (ok : Ok x3) : out0_A_7 c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3 = codesOf x3 := by
  funext y
  unfold out0_A_7
  rw [View.read_writes_junk_eq_canon]
  refine View.canon_apply_of_pieces (codesOf x3) _ ?_ y (cover0_A_7 c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3 y)
  rw [pieces7]
  intro p hp z
  simp only [List.mem_cons, List.not_mem_nil, or_false] at hp
  rcases hp with rfl | rfl | rfl | rfl
  · rw [vc_piece3]; exact code_tile arg3 harg3 x3 ok 3 _ rfl slices_S32x256_o24_0_S8x256 _ rfl (by decide) z
  · rw [vc_piece2]; exact code_tile arg3 harg3 x3 ok 2 _ rfl slices_S32x256_o16_0_S8x256 _ rfl (by decide) z
  · rw [vc_piece1]; exact code_tile arg3 harg3 x3 ok 1 _ rfl slices_S32x256_o8_0_S8x256 _ rfl (by decide) z
  · rw [vc_piece0]; exact code_tile arg3 harg3 x3 ok 0 _ rfl slices_S32x256_o0_0_S8x256 _ rfl (by decide) z

theorem pieces8 : (kernelRun0_A c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3).2.2.2.2.1 =
    [⟨Rect.unit (s := S4x1x8x8) ![3, 0, 0, 0] S1x1x8x8.size (by decide), kernelRun0_A.sl.v3190 c arg3 harg3 x3⟩,
      ⟨Rect.unit (s := S4x1x8x8) ![2, 0, 0, 0] S1x1x8x8.size (by decide), kernelRun0_A.sl.v3125 c arg3 harg3 x3⟩,
      ⟨Rect.unit (s := S4x1x8x8) ![1, 0, 0, 0] S1x1x8x8.size (by decide), kernelRun0_A.sl.v3060 c arg3 harg3 x3⟩,
      ⟨Rect.unit (s := S4x1x8x8) ![0, 0, 0, 0] S1x1x8x8.size (by decide), kernelRun0_A.sl.v2995 c arg3 harg3 x3⟩] := (rfl)

theorem out8_eq (ok : Ok x3) : out0_A_8 c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3 = scalesOf x3 := by
  funext y
  unfold out0_A_8
  rw [View.read_writes_junk_eq_canon]
  refine View.canon_apply_of_pieces (scalesOf x3) _ ?_ y (cover0_A_8 c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3 y)
  rw [pieces8]
  intro p hp z
  simp only [List.mem_cons, List.not_mem_nil, or_false] at hp
  rcases hp with rfl | rfl | rfl | rfl
  · rw [vs_piece3]; exact scale_tile arg3 harg3 x3 ok 3 _ rfl _ _ _ rfl (by decide) z
  · rw [vs_piece2]; exact scale_tile arg3 harg3 x3 ok 2 _ rfl _ _ _ rfl (by decide) z
  · rw [vs_piece1]; exact scale_tile arg3 harg3 x3 ok 1 _ rfl _ _ _ rfl (by decide) z
  · rw [vs_piece0]; exact scale_tile arg3 harg3 x3 ok 0 _ rfl _ _ _ rfl (by decide) z

end

end Cert.Proof.Stored
-- ==== Proof.Arrays.lean ====
module
public import proofs.«01_k».proof.Proof.Stored
public import Idealize.ShloMosaic.Lib.Pipeline.ValueKit

@[expose] public section

/-! What the arrays of codes and scales hold after the run: the quantiser applied to the new rows of the arguments. -/

noncomputable section

namespace Cert.Proof.Stored

open Idealize.ShloMosaic Idealize.SL.Sem
open Idealize.ShloMosaic.TcCoe
open Cert.KernelIdeal Cert.KernelIdeal.Gen

set_option maxRecDepth 16384

section
variable {F : FTy → Type} [FloatOps F] (m : (ℓ : Loc nD τ sig) → Buf (Elt F) ℓ) (c : Dev nD)

theorem blk0 : iblk m c 0 t0_0 = m ((c : Thread nD τ).loc main_arg7) := by
  have hz : (fun a => (win0_0.index t0_0) a * main_arg7.ty.shape.size a) = fun _ => 0 := funext fun a => by fin_cases a <;> decide
  exact Memref.read_access_unit_zero (Elt F) main_arg7 hz (fun a => by fin_cases a <;> decide) _

theorem blk1 : iblk m c 1 t0_0 = m ((c : Thread nD τ).loc main_arg0) := by
  have hz : (fun a => (win0_1.index t0_0) a * main_arg0.ty.shape.size a) = fun _ => 0 := funext fun a => by fin_cases a <;> decide
  exact Memref.read_access_unit_zero (Elt F) main_arg0 hz (fun a => by fin_cases a <;> decide) _

theorem blk2 : iblk m c 2 t0_0 = m ((c : Thread nD τ).loc main_arg1) := by
  have hz : (fun a => (win0_2.index t0_0) a * main_arg1.ty.shape.size a) = fun _ => 0 := funext fun a => by fin_cases a <;> decide
  exact Memref.read_access_unit_zero (Elt F) main_arg1 hz (fun a => by fin_cases a <;> decide) _

theorem blk3 : iblk m c 3 t0_0 = m ((c : Thread nD τ).loc main_arg2) := by
  have hz : (fun a => (win0_3.index t0_0) a * main_arg2.ty.shape.size a) = fun _ => 0 := funext fun a => by fin_cases a <;> decide
  exact Memref.read_access_unit_zero (Elt F) main_arg2 hz (fun a => by fin_cases a <;> decide) _

end

section
variable (m : (ℓ : Loc nD τ sig) → Buf (Elt Ideal) ℓ) (c : Dev nD)

theorem outs5 (X : Vec Ideal S4x1x8x256 .bf16) (hX : iblk m c 2 t0_0 = X) (ok : Ok X) : (outsAt0 m c t0_0).2.1 = codesOf X := by
  subst hX
  dsimp only [outsAt0]
  exact out5_eq c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) scM0_2 (Memref.isWhole_whole _) scM0_3 (Memref.isWhole_whole _) scM0_4 (Memref.isWhole_whole _) (iblk m c 0 t0_0) (iblk m c 1 t0_0) (iblk m c 2 t0_0) (iblk m c 3 t0_0) (V m c main_v2) (V m c main_v3) (V m c main_v6) (V m c main_v7) ok

theorem arr5 (ok : Ok (m ((c : Thread nD τ).loc main_arg1))) :
    (dats m 0 c).arrAt 5 cfg0.N = codesOf (m ((c : Thread nD τ).loc main_arg1)) := by
  refine (dats m 0 c).arrAt_eq_of_after_last 5 t0_0 (by decide +kernel) _ fun j => ?_
  blk_simp
  rw [after0_5]
  exact congrFun (outs5 m c _ (blk2 m c) ok) j

theorem outs6 (X : Vec Ideal S4x1x8x256 .bf16) (hX : iblk m c 2 t0_0 = X) (ok : Ok X) : (outsAt0 m c t0_0).2.2.1 = scalesOf X := by
  subst hX
  dsimp only [outsAt0]
  exact out6_eq c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) scM0_2 (Memref.isWhole_whole _) scM0_3 (Memref.isWhole_whole _) scM0_4 (Memref.isWhole_whole _) (iblk m c 0 t0_0) (iblk m c 1 t0_0) (iblk m c 2 t0_0) (iblk m c 3 t0_0) (V m c main_v2) (V m c main_v3) (V m c main_v6) (V m c main_v7) ok

theorem arr6 (ok : Ok (m ((c : Thread nD τ).loc main_arg1))) :
    (dats m 0 c).arrAt 6 cfg0.N = scalesOf (m ((c : Thread nD τ).loc main_arg1)) := by
  refine (dats m 0 c).arrAt_eq_of_after_last 6 t0_0 (by decide +kernel) _ fun j => ?_
  blk_simp
  rw [after0_6]
  exact congrFun (outs6 m c _ (blk2 m c) ok) j

theorem outs7 (X : Vec Ideal S4x1x8x256 .bf16) (hX : iblk m c 3 t0_0 = X) (ok : Ok X) : (outsAt0 m c t0_0).2.2.2.1 = codesOf X := by
  subst hX
  dsimp only [outsAt0]
  exact out7_eq c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) scM0_2 (Memref.isWhole_whole _) scM0_3 (Memref.isWhole_whole _) scM0_4 (Memref.isWhole_whole _) (iblk m c 0 t0_0) (iblk m c 1 t0_0) (iblk m c 2 t0_0) (iblk m c 3 t0_0) (V m c main_v2) (V m c main_v3) (V m c main_v6) (V m c main_v7) ok

theorem arr7 (ok : Ok (m ((c : Thread nD τ).loc main_arg2))) :
    (dats m 0 c).arrAt 7 cfg0.N = codesOf (m ((c : Thread nD τ).loc main_arg2)) := by
  refine (dats m 0 c).arrAt_eq_of_after_last 7 t0_0 (by decide +kernel) _ fun j => ?_
  blk_simp
  rw [after0_7]
  exact congrFun (outs7 m c _ (blk3 m c) ok) j

theorem outs8 (X : Vec Ideal S4x1x8x256 .bf16) (hX : iblk m c 3 t0_0 = X) (ok : Ok X) : (outsAt0 m c t0_0).2.2.2.2 = scalesOf X := by
  subst hX
  dsimp only [outsAt0]
  exact out8_eq c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) scM0_2 (Memref.isWhole_whole _) scM0_3 (Memref.isWhole_whole _) scM0_4 (Memref.isWhole_whole _) (iblk m c 0 t0_0) (iblk m c 1 t0_0) (iblk m c 2 t0_0) (iblk m c 3 t0_0) (V m c main_v2) (V m c main_v3) (V m c main_v6) (V m c main_v7) ok

theorem arr8 (ok : Ok (m ((c : Thread nD τ).loc main_arg2))) :
    (dats m 0 c).arrAt 8 cfg0.N = scalesOf (m ((c : Thread nD τ).loc main_arg2)) := by
  refine (dats m 0 c).arrAt_eq_of_after_last 8 t0_0 (by decide +kernel) _ fun j => ?_
  blk_simp
  rw [after0_8]
  exact congrFun (outs8 m c _ (blk3 m c) ok) j

end
end Cert.Proof.Stored
-- ==== Proof.RefQuantise.lean ====
module
public import proofs.«01_k».proof.Proof.QuantiseRows
public import proofs.«01_k».proof.Proof.Gen.ReferenceIdeal.Value
public import Idealize.ShloMosaic.Lib.Pointwise
@[expose] public section
noncomputable section
namespace Cert.Proof.RefQuantise

open Idealize.ShloMosaic Idealize.ShloMosaic.Pointwise
open Cert.ReferenceIdeal Cert.ReferenceIdeal.Gen Cert.Proof.Quantise

set_option maxRecDepth 16384

section
variable {F : FTy → Type} [FloatOps F]
theorem pay12_eq (v : Vec F S4x1x8x256 .bf16) : k0_pay12 (k0_pay8 v) (k0_pay9 (F := F)) (k0_pay10 (F := F)) = k0_pay5 v := (rfl)
theorem pay13_eq (v : Vec F S4x1x8x256 .bf16) : k0_pay13 (k0_pay7 v) (k0_pay8 v) (k0_pay9 (F := F)) (k0_pay10 (F := F)) = k0_pay6 v := (rfl)
end

theorem pay2_apply (v : FVec Ideal S4x1x8x256 .bf16) (b : Fin 4) (h g : Fin 8) (k : Fin 32) :
    k0_pay2 (F := Ideal) v (ix4 b h g k) = v (ix4 b 0 h ⟨32 * g.val + k.val, by omega⟩) := by
  unfold k0_pay2
  pointwise
  exact congrArg (fun a => v (ix4 b 0 h a)) (Fin.ext (by dsimp only; omega))

theorem pay7_apply (v : FVec Ideal S4x1x8x256 .bf16) (b : Fin 4) (h g : Fin 8) (k : Fin 32) :
    k0_pay7 (F := Ideal) v (ix4 b h g k) = v (ix4 b 0 h ⟨32 * g.val + k.val, by omega⟩) := pay2_apply v b h g k

theorem bot_eq : Ideal.ofBits .f32 0xFF800000#32 = (⊥ : EReal) := by simp [Ideal.ofBits, Ideal.ieee]

theorem pay8_apply (v : FVec Ideal S4x1x8x256 .bf16) (b : Fin 4) (h g : Fin 8) :
    k0_pay8 (F := Ideal) v (ix3 b h g) = rowTop (fun m => v (ix4 b 0 h m)) ⟨32 * g.val, by omega⟩ := by
  unfold k0_pay8
  pointwise
  unfold rowTop top
  rw [show Ideal.ofBits FTy.f32 4286578688#32 = (⊥ : EReal) from bot_eq]
  refine congrArg (fun f => Finset.fold max ⊥ f Finset.univ) (funext fun k => ?_)
  rw [pay7_apply]
  have e : (⟨32 * (32 * g.val / 32) + k.val, by omega⟩ : Fin 256) = ⟨32 * g.val + k.val, by omega⟩ := Fin.ext (by dsimp only; omega)
  show max _ _ = _
  dsimp only
  rw [e]

theorem rowTop_group (v : Fin 256 → EReal) (d : Fin 256) : rowTop v ⟨32 * (d.val / 32), by omega⟩ = rowTop v d := by
  unfold rowTop
  refine congrArg top (funext fun k => ?_)
  have e : (⟨32 * (32 * (d.val / 32) / 32) + k.val, by omega⟩ : Fin 256) = ⟨32 * (d.val / 32) + k.val, by omega⟩ := Fin.ext (by dsimp only; omega)
  dsimp only
  rw [e]

theorem one_eq : Ideal.ofBits .f32 0x3F800000#32 = (1 : EReal) := by rw [Exponent.one_eq]; rfl

theorem pay5_apply (v : FVec Ideal S4x1x8x256 .bf16) (b : Fin 4) (h g : Fin 8) :
    k0_pay5 (F := Ideal) v (ix3 b h g) = Exponent.rscale (k0_pay8 (F := Ideal) v (ix3 b h g)) := by
  rw [← pay12_eq]
  unfold k0_pay12 k0_pay11
  pointwise
  unfold Exponent.rscale Exponent.rexp
  rw [Ideal.ofBits_zero_f32, one_eq]
  rfl

theorem pay6_apply (v : FVec Ideal S4x1x8x256 .bf16) (b : Fin 4) (h : Fin 8) (d : Fin 256) :
    k0_pay6 (F := Ideal) v (ix3 b h d) = code (rowTop (fun m => v (ix4 b 0 h m)) d) (v (ix4 b 0 h d)) := by
  rw [← pay13_eq]
  unfold k0_pay13 k0_pay11
  pointwise
  rw [pay8_apply, pay7_apply, rowTop_group (fun m => v (ix4 b 0 h m)) d]
  have e : (⟨32 * (d.val / 32) + d.val % 32, by omega⟩ : Fin 256) = d := Fin.ext (by dsimp only; omega)
  rw [e]
  unfold code Exponent.rinv Exponent.rexp
  rw [Ideal.ofBits_zero_f32, one_eq]
  rfl

end Cert.Proof.RefQuantise
-- ==== Proof.RefArrays.lean ====
module
public import proofs.«01_k».proof.Proof.RefQuantise
public import proofs.«01_k».proof.Proof.Stored
public import Idealize.ShloMosaic.Lib.Pipeline.ValueKit
public import Idealize.ShloMosaic.Lib.WholeRead

@[expose] public section

/-! What the reference's arrays of codes and scales hold after its run: the quantiser applied to the new rows of the arguments. -/

noncomputable section

namespace Cert.Proof.RefStored

open Idealize.ShloMosaic Idealize.SL.Sem Idealize.ShloMosaic.Pointwise
open Idealize.ShloMosaic.TcCoe
open Cert.ReferenceIdeal Cert.ReferenceIdeal.Gen Cert.Proof.RefQuantise
open Cert.Proof.Stored (codesOf scalesOf)

set_option maxRecDepth 16384

section
variable (arg : Memref sig .tc .vmem S4x1x8x256 .bf16) (harg : arg.IsWhole) (x : Vec Ideal S4x1x8x256 .bf16)

/-- The load of the whole array of new rows reads it. -/
theorem ldAll (h) : View.readAt (Elt Ideal) arg.view (Rect.unit (s := S4x1x8x256) ![0, 0, 0, 0] S4x1x8x256.size h).toLoadRect (harg.unread x) = x := by
  funext z
  rw [Memref.IsWhole.readAt_unread harg]
  exact congrArg x (funext fun a => Fin.ext (match a with | ⟨0, _⟩ => by simp | ⟨1, _⟩ => by simp | ⟨2, _⟩ => by simp | ⟨3, _⟩ => by simp))

theorem codes_eq (z : S4x1x8x256.Idx) : k0_pay14 (F := Ideal) (k0_pay6 (F := Ideal) x) z = codesOf x z := by
  obtain ⟨b, h, d, rfl⟩ : ∃ (b : Fin 4) (h : Fin 8) (d : Fin 256), z = ix4 b 0 h d := ⟨z 0, z 2, z 3, funext fun a => Fin.ext (match a with
    | ⟨0, _⟩ => rfl | ⟨1, _⟩ => Nat.lt_one_iff.mp (z 1).isLt | ⟨2, _⟩ => rfl | ⟨3, _⟩ => rfl)⟩
  unfold k0_pay14
  pointwise
  rw [pay6_apply]
  rfl

theorem scales_eq (z : S4x1x8x8.Idx) : k0_pay15 (F := Ideal) (k0_pay5 (F := Ideal) x) z = scalesOf x z := by
  obtain ⟨b, h, d, rfl⟩ : ∃ (b : Fin 4) (h : Fin 8) (d : Fin 8), z = ix4 b 0 h d := ⟨z 0, z 2, z 3, funext fun a => Fin.ext (match a with
    | ⟨0, _⟩ => rfl | ⟨1, _⟩ => Nat.lt_one_iff.mp (z 1).isLt | ⟨2, _⟩ => rfl | ⟨3, _⟩ => rfl)⟩
  unfold k0_pay15
  pointwise
  rw [pay5_apply, pay8_apply]
  rfl

end

section
variable (c : Dev nD) (arg0 : Memref sig .tc .smem S4 .i32) (harg0 : arg0.IsWhole) (arg1 : Memref sig .tc .vmem S4x1x32x256 .bf16) (harg1 : arg1.IsWhole) (arg2 : Memref sig .tc .vmem S4x1x8x256 .bf16) (harg2 : arg2.IsWhole) (arg3 : Memref sig .tc .vmem S4x1x8x256 .bf16) (harg3 : arg3.IsWhole) (arg4 : Memref sig .tc .vmem S4x8192x8x256 .fp8e4m3) (harg4 : arg4.IsWhole) (arg5 : Memref sig .tc .vmem S4x8192x8x8 .f32) (harg5 : arg5.IsWhole) (arg6 : Memref sig .tc .vmem S4x8192x8x256 .fp8e4m3) (harg6 : arg6.IsWhole) (arg7 : Memref sig .tc .vmem S4x8192x8x8 .f32) (harg7 : arg7.IsWhole) (arg8 : Memref sig .tc .vmem S4x1x32x256 .bf16) (harg8 : arg8.IsWhole) (arg9 : Memref sig .tc .vmem S4x1x8x256 .fp8e4m3) (harg9 : arg9.IsWhole) (arg10 : Memref sig .tc .vmem S4x1x8x8 .f32) (harg10 : arg10.IsWhole) (arg11 : Memref sig .tc .vmem S4x1x8x256 .fp8e4m3) (harg11 : arg11.IsWhole) (arg12 : Memref sig .tc .vmem S4x1x8x8 .f32) (harg12 : arg12.IsWhole) (x0 : Vec Ideal S4 .i32) (x1 : Vec Ideal S4x1x32x256 .bf16) (x2 : Vec Ideal S4x1x8x256 .bf16) (x3 : Vec Ideal S4x1x8x256 .bf16) (x4 : Vec Ideal S4x8192x8x256 .fp8e4m3) (x5 : Vec Ideal S4x8192x8x8 .f32) (x6 : Vec Ideal S4x8192x8x256 .fp8e4m3) (x7 : Vec Ideal S4x8192x8x8 .f32)

theorem pieces9 : (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7).2.1 =
    [⟨Rect.unit (s := S4x1x8x256) ![0, 0, 0, 0] S4x1x8x256.size (by decide), k0_pay14 (k0_pay6 (View.readAt (Elt Ideal) arg2.view (Rect.unit (s := S4x1x8x256) ![0, 0, 0, 0] S4x1x8x256.size (by decide)).toLoadRect (harg2.unread x2)))⟩] := (rfl)

theorem out9_eq : out0_A_9 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = codesOf x2 := by
  funext y
  unfold out0_A_9
  rw [View.read_writes_junk_eq_canon]
  refine View.canon_apply_of_pieces (codesOf x2) _ ?_ y (cover0_A_9 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 y)
  rw [pieces9]
  intro p hp z
  simp only [List.mem_cons, List.not_mem_nil, or_false] at hp
  subst hp
  dsimp only
  rw [ldAll, codes_eq]
  exact congrArg (codesOf x2) (funext fun a => Fin.ext (match a with | ⟨0, _⟩ => by simp | ⟨1, _⟩ => by simp | ⟨2, _⟩ => by simp | ⟨3, _⟩ => by simp))

theorem pieces10 : (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7).2.2.1 =
    [⟨Rect.unit (s := S4x1x8x8) ![0, 0, 0, 0] S4x1x8x8.size (by decide), k0_pay15 (k0_pay5 (View.readAt (Elt Ideal) arg2.view (Rect.unit (s := S4x1x8x256) ![0, 0, 0, 0] S4x1x8x256.size (by decide)).toLoadRect (harg2.unread x2)))⟩] := (rfl)

theorem out10_eq : out0_A_10 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = scalesOf x2 := by
  funext y
  unfold out0_A_10
  rw [View.read_writes_junk_eq_canon]
  refine View.canon_apply_of_pieces (scalesOf x2) _ ?_ y (cover0_A_10 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 y)
  rw [pieces10]
  intro p hp z
  simp only [List.mem_cons, List.not_mem_nil, or_false] at hp
  subst hp
  dsimp only
  rw [ldAll, scales_eq]
  exact congrArg (scalesOf x2) (funext fun a => Fin.ext (match a with | ⟨0, _⟩ => by simp | ⟨1, _⟩ => by simp | ⟨2, _⟩ => by simp | ⟨3, _⟩ => by simp))

theorem pieces11 : (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7).2.2.2.1 =
    [⟨Rect.unit (s := S4x1x8x256) ![0, 0, 0, 0] S4x1x8x256.size (by decide), k0_pay14 (k0_pay6 (View.readAt (Elt Ideal) arg3.view (Rect.unit (s := S4x1x8x256) ![0, 0, 0, 0] S4x1x8x256.size (by decide)).toLoadRect (harg3.unread x3)))⟩] := (rfl)

theorem out11_eq : out0_A_11 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = codesOf x3 := by
  funext y
  unfold out0_A_11
  rw [View.read_writes_junk_eq_canon]
  refine View.canon_apply_of_pieces (codesOf x3) _ ?_ y (cover0_A_11 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 y)
  rw [pieces11]
  intro p hp z
  simp only [List.mem_cons, List.not_mem_nil, or_false] at hp
  subst hp
  dsimp only
  rw [ldAll, codes_eq]
  exact congrArg (codesOf x3) (funext fun a => Fin.ext (match a with | ⟨0, _⟩ => by simp | ⟨1, _⟩ => by simp | ⟨2, _⟩ => by simp | ⟨3, _⟩ => by simp))

theorem pieces12 : (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7).2.2.2.2.1 =
    [⟨Rect.unit (s := S4x1x8x8) ![0, 0, 0, 0] S4x1x8x8.size (by decide), k0_pay15 (k0_pay5 (View.readAt (Elt Ideal) arg3.view (Rect.unit (s := S4x1x8x256) ![0, 0, 0, 0] S4x1x8x256.size (by decide)).toLoadRect (harg3.unread x3)))⟩] := (rfl)

theorem out12_eq : out0_A_12 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = scalesOf x3 := by
  funext y
  unfold out0_A_12
  rw [View.read_writes_junk_eq_canon]
  refine View.canon_apply_of_pieces (scalesOf x3) _ ?_ y (cover0_A_12 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 y)
  rw [pieces12]
  intro p hp z
  simp only [List.mem_cons, List.not_mem_nil, or_false] at hp
  subst hp
  dsimp only
  rw [ldAll, scales_eq]
  exact congrArg (scalesOf x3) (funext fun a => Fin.ext (match a with | ⟨0, _⟩ => by simp | ⟨1, _⟩ => by simp | ⟨2, _⟩ => by simp | ⟨3, _⟩ => by simp))

end

section
variable {F : FTy → Type} [FloatOps F] (m : (ℓ : Loc nD τ sig) → Buf (Elt F) ℓ) (c : Dev nD)

theorem blk0 : iblk m c 0 t0_0 = m ((c : Thread nD τ).loc main_arg7) := by
  have hz : (fun a => (win0_0.index t0_0) a * main_arg7.ty.shape.size a) = fun _ => 0 := funext fun a => by fin_cases a <;> decide
  exact Memref.read_access_unit_zero (Elt F) main_arg7 hz (fun a => by fin_cases a <;> decide) _

theorem blk1 : iblk m c 1 t0_0 = m ((c : Thread nD τ).loc main_arg0) := by
  have hz : (fun a => (win0_1.index t0_0) a * main_arg0.ty.shape.size a) = fun _ => 0 := funext fun a => by fin_cases a <;> decide
  exact Memref.read_access_unit_zero (Elt F) main_arg0 hz (fun a => by fin_cases a <;> decide) _

theorem blk2 : iblk m c 2 t0_0 = m ((c : Thread nD τ).loc main_arg1) := by
  have hz : (fun a => (win0_2.index t0_0) a * main_arg1.ty.shape.size a) = fun _ => 0 := funext fun a => by fin_cases a <;> decide
  exact Memref.read_access_unit_zero (Elt F) main_arg1 hz (fun a => by fin_cases a <;> decide) _

theorem blk3 : iblk m c 3 t0_0 = m ((c : Thread nD τ).loc main_arg2) := by
  have hz : (fun a => (win0_3.index t0_0) a * main_arg2.ty.shape.size a) = fun _ => 0 := funext fun a => by fin_cases a <;> decide
  exact Memref.read_access_unit_zero (Elt F) main_arg2 hz (fun a => by fin_cases a <;> decide) _

theorem blk4 : iblk m c 4 t0_0 = m ((c : Thread nD τ).loc main_arg3) := by
  have hz : (fun a => (win0_4.index t0_0) a * main_arg3.ty.shape.size a) = fun _ => 0 := funext fun a => by fin_cases a <;> decide
  exact Memref.read_access_unit_zero (Elt F) main_arg3 hz (fun a => by fin_cases a <;> decide) _

theorem blk5 : iblk m c 5 t0_0 = m ((c : Thread nD τ).loc main_arg4) := by
  have hz : (fun a => (win0_5.index t0_0) a * main_arg4.ty.shape.size a) = fun _ => 0 := funext fun a => by fin_cases a <;> decide
  exact Memref.read_access_unit_zero (Elt F) main_arg4 hz (fun a => by fin_cases a <;> decide) _

theorem blk6 : iblk m c 6 t0_0 = m ((c : Thread nD τ).loc main_arg5) := by
  have hz : (fun a => (win0_6.index t0_0) a * main_arg5.ty.shape.size a) = fun _ => 0 := funext fun a => by fin_cases a <;> decide
  exact Memref.read_access_unit_zero (Elt F) main_arg5 hz (fun a => by fin_cases a <;> decide) _

theorem blk7 : iblk m c 7 t0_0 = m ((c : Thread nD τ).loc main_arg6) := by
  have hz : (fun a => (win0_7.index t0_0) a * main_arg6.ty.shape.size a) = fun _ => 0 := funext fun a => by fin_cases a <;> decide
  exact Memref.read_access_unit_zero (Elt F) main_arg6 hz (fun a => by fin_cases a <;> decide) _

end

section
variable (m : (ℓ : Loc nD τ sig) → Buf (Elt Ideal) ℓ) (c : Dev nD)

theorem outs9 (X : Vec Ideal S4x1x8x256 .bf16) (hX : iblk m c 2 t0_0 = X) : (outsAt0 m c t0_0).2.1 = codesOf X := by
  subst hX
  dsimp only [outsAt0]
  exact out9_eq c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (iblk m c 0 t0_0) (iblk m c 1 t0_0) (iblk m c 2 t0_0) (iblk m c 3 t0_0) (iblk m c 4 t0_0) (iblk m c 5 t0_0) (iblk m c 6 t0_0) (iblk m c 7 t0_0)

theorem arr9 : (dats m 0 c).arrAt 9 cfg0.N = codesOf (m ((c : Thread nD τ).loc main_arg1)) := by
  refine (dats m 0 c).arrAt_eq_of_after_last 9 t0_0 (by decide +kernel) _ fun j => ?_
  blk_simp
  rw [after0_9]
  exact congrFun (outs9 m c _ (blk2 m c)) j

theorem outs10 (X : Vec Ideal S4x1x8x256 .bf16) (hX : iblk m c 2 t0_0 = X) : (outsAt0 m c t0_0).2.2.1 = scalesOf X := by
  subst hX
  dsimp only [outsAt0]
  exact out10_eq c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (iblk m c 0 t0_0) (iblk m c 1 t0_0) (iblk m c 2 t0_0) (iblk m c 3 t0_0) (iblk m c 4 t0_0) (iblk m c 5 t0_0) (iblk m c 6 t0_0) (iblk m c 7 t0_0)

theorem arr10 : (dats m 0 c).arrAt 10 cfg0.N = scalesOf (m ((c : Thread nD τ).loc main_arg1)) := by
  refine (dats m 0 c).arrAt_eq_of_after_last 10 t0_0 (by decide +kernel) _ fun j => ?_
  blk_simp
  rw [after0_10]
  exact congrFun (outs10 m c _ (blk2 m c)) j

theorem outs11 (X : Vec Ideal S4x1x8x256 .bf16) (hX : iblk m c 3 t0_0 = X) : (outsAt0 m c t0_0).2.2.2.1 = codesOf X := by
  subst hX
  dsimp only [outsAt0]
  exact out11_eq c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (iblk m c 0 t0_0) (iblk m c 1 t0_0) (iblk m c 2 t0_0) (iblk m c 3 t0_0) (iblk m c 4 t0_0) (iblk m c 5 t0_0) (iblk m c 6 t0_0) (iblk m c 7 t0_0)

theorem arr11 : (dats m 0 c).arrAt 11 cfg0.N = codesOf (m ((c : Thread nD τ).loc main_arg2)) := by
  refine (dats m 0 c).arrAt_eq_of_after_last 11 t0_0 (by decide +kernel) _ fun j => ?_
  blk_simp
  rw [after0_11]
  exact congrFun (outs11 m c _ (blk3 m c)) j

theorem outs12 (X : Vec Ideal S4x1x8x256 .bf16) (hX : iblk m c 3 t0_0 = X) : (outsAt0 m c t0_0).2.2.2.2 = scalesOf X := by
  subst hX
  dsimp only [outsAt0]
  exact out12_eq c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (iblk m c 0 t0_0) (iblk m c 1 t0_0) (iblk m c 2 t0_0) (iblk m c 3 t0_0) (iblk m c 4 t0_0) (iblk m c 5 t0_0) (iblk m c 6 t0_0) (iblk m c 7 t0_0)

theorem arr12 : (dats m 0 c).arrAt 12 cfg0.N = scalesOf (m ((c : Thread nD τ).loc main_arg2)) := by
  refine (dats m 0 c).arrAt_eq_of_after_last 12 t0_0 (by decide +kernel) _ fun j => ?_
  blk_simp
  rw [after0_12]
  exact congrFun (outs12 m c _ (blk3 m c)) j

end
end Cert.Proof.RefStored
-- ==== Proof.Attend.lean ====
module
public import Idealize.ShloMosaic.Lib.Pointwise

@[expose] public section

/-!
Attention over a window and one new row, as a function of the scores' and values' factors, and the scalar facts the
two programs' spellings of it need: the capped score is finite, the softmax does not depend on the maximum that is
subtracted, and sums over a blocked axis are the plain sums.
-/

noncomputable section

namespace Cert.Proof.Attend

open Idealize.ShloMosaic

/-! ### The capped score -/

/-- The cap. -/
def c50 : EReal := Ideal.ofBits .f32 0x42480000#32

theorem c50_eq : c50 = ((50 : ℝ) : EReal) := by
  simp [c50, Ideal.ofBits, Ideal.ieee]; norm_cast; norm_num

theorem c16_eq : Ideal.ofBits .f32 0x3D800000#32 = ((1 / 16 : ℝ) : EReal) := by
  simp [Ideal.ofBits, Ideal.ieee]; norm_cast; norm_num

/-- The capped score. -/
def capped (s : EReal) : EReal := c50 * Ideal.tanh (s * ((1 / 800 : ℝ) : EReal))

theorem tanh_real (x : EReal) : ∃ r : ℝ, Ideal.tanh x = (r : EReal) := by
  induction x with
  | bot => exact ⟨-1, (by simp : (-1 : EReal) = ((-1 : ℝ) : EReal))⟩
  | top => exact ⟨1, (by simp : (1 : EReal) = ((1 : ℝ) : EReal))⟩
  | coe r => exact ⟨Real.tanh r, rfl⟩

theorem capped_real (s : EReal) : ∃ r : ℝ, capped s = (r : EReal) := by
  obtain ⟨r, hr⟩ := tanh_real (s * ((1 / 800 : ℝ) : EReal))
  exact ⟨50 * r, by rw [capped, hr, c50_eq, ← EReal.coe_mul]⟩

/-- The scale and the cap, one after the other, are one factor. -/
theorem capped_split (s : EReal) :
    c50 * Ideal.tanh (Ideal.div (s * Ideal.ofBits .f32 0x3D800000#32) c50) = capped s := by
  unfold capped
  have h : Ideal.div (s * Ideal.ofBits .f32 0x3D800000#32) c50 = s * ((1 / 800 : ℝ) : EReal) := by
    rw [c16_eq, c50_eq, Ideal.div, if_neg (by norm_cast), mul_assoc, ← EReal.coe_inv, ← EReal.coe_mul]
    norm_num
  rw [h]

/-! ### The softmax -/

/-- The weight of a score. -/
def weight (ok : BitVec 1) (s : EReal) : EReal := if ok = 1#1 then Ideal.exp (capped s) else 0

/-- The masked score. -/
def masked (ok : BitVec 1) (s : EReal) : EReal := if ok = 1#1 then capped s else ⊥

/-- The window's part and the new row's part of the weighted sum, every weight divided by the sum of all. -/
def attend (ok : Fin 1024 → BitVec 1) (s : Fin 1024 → EReal) (sn : EReal) (v : Fin 1024 → EReal) (vn : EReal) : EReal :=
  (∑ t, (weight (ok t) (s t) * Ideal.div 1 ((∑ u, weight (ok u) (s u)) + Ideal.exp (capped sn))) * v t)
    + (Ideal.exp (capped sn) * Ideal.div 1 ((∑ u, weight (ok u) (s u)) + Ideal.exp (capped sn))) * vn

/-- The scores of the window and, last, of the new row. -/
def joined (ok : Fin 1024 → BitVec 1) (s : Fin 1024 → EReal) (sn : EReal) (t : Fin 1025) : EReal :=
  if h : t.val < 1024 then masked (ok ⟨t.val, h⟩) (s ⟨t.val, h⟩) else capped sn

theorem joined_shift (ok : Fin 1024 → BitVec 1) (s : Fin 1024 → EReal) (sn : EReal) (M : ℝ) (t : Fin 1025) :
    ∃ a : ℝ, 0 ≤ a ∧ Ideal.exp (joined ok s sn t) = (a : EReal)
      ∧ Ideal.exp (joined ok s sn t - (M : EReal)) = ((a * Real.exp (-M) : ℝ) : EReal) := by
  have key : ∀ r : ℝ, ∃ a : ℝ, 0 ≤ a ∧ Ideal.exp (r : EReal) = (a : EReal)
      ∧ Ideal.exp ((r : EReal) - (M : EReal)) = ((a * Real.exp (-M) : ℝ) : EReal) := fun r =>
    ⟨Real.exp r, (Real.exp_pos r).le, rfl, by
      rw [← EReal.coe_sub, ← Real.exp_add, ← sub_eq_add_neg]; rfl⟩
  unfold joined masked
  split
  · split
    · obtain ⟨r, hr⟩ := capped_real (s ⟨t.val, ‹_›⟩)
      rw [hr]; exact key r
    · exact ⟨0, le_rfl, rfl, by rw [EReal.bot_sub, zero_mul]; rfl⟩
  · obtain ⟨r, hr⟩ := capped_real sn
    rw [hr]; exact key r

theorem joined_lt_top (ok : Fin 1024 → BitVec 1) (s : Fin 1024 → EReal) (sn : EReal) (t : Fin 1025) :
    joined ok s sn t < ⊤ := by
  unfold joined masked
  split
  · split
    · obtain ⟨r, hr⟩ := capped_real (s ⟨t.val, ‹_›⟩)
      rw [hr]; exact EReal.coe_lt_top r
    · exact bot_lt_top
  · obtain ⟨r, hr⟩ := capped_real sn
    rw [hr]; exact EReal.coe_lt_top r

theorem joined_last (ok : Fin 1024 → BitVec 1) (s : Fin 1024 → EReal) (sn : EReal) :
    joined ok s sn 1024 = capped sn := by
  unfold joined
  rw [dif_neg (by decide)]

/-- The largest of the joined scores is a real number. -/
theorem max_real (ok : Fin 1024 → BitVec 1) (s : Fin 1024 → EReal) (sn : EReal) :
    ∃ M : ℝ, Finset.fold max ⊥ (joined ok s sn) Finset.univ = (M : EReal) := by
  have h1 : Finset.fold max ⊥ (joined ok s sn) Finset.univ < ⊤ :=
    Finset.fold_max_lt _ |>.mpr ⟨bot_lt_top, fun t _ => joined_lt_top ok s sn t⟩
  have h2 : ⊥ < Finset.fold max ⊥ (joined ok s sn) Finset.univ :=
    Finset.lt_fold_max _ |>.mpr (.inr ⟨1024, Finset.mem_univ _, by
      obtain ⟨r, hr⟩ := capped_real sn
      rw [joined_last, hr]; exact EReal.bot_lt_coe r⟩)
  exact ⟨_, (EReal.coe_toReal h1.ne h2.ne').symm⟩

theorem coe_sum {n : ℕ} (f : Fin n → ℝ) : (∑ t, ((f t : ℝ) : EReal)) = ((∑ t, f t : ℝ) : EReal) :=
  (map_sum (⟨⟨Real.toEReal, EReal.coe_zero⟩, EReal.coe_add⟩ : ℝ →+ EReal) f Finset.univ).symm

theorem softmax_eq (ok : Fin 1024 → BitVec 1) (s : Fin 1024 → EReal) (sn : EReal) (M : ℝ) (t : Fin 1025) :
    Ideal.div (Ideal.exp (joined ok s sn t - (M : EReal))) (∑ u, Ideal.exp (joined ok s sn u - (M : EReal)))
      = Ideal.exp (joined ok s sn t) * Ideal.div 1 (∑ u, Ideal.exp (joined ok s sn u)) := by
  choose a ha h1 h2 using joined_shift ok s sn M
  have hlast : 0 < a 1024 := by
    have := h1 1024
    rw [joined_last] at this
    obtain ⟨r, hr⟩ := capped_real sn
    rw [hr] at this
    have e : (Real.exp r : EReal) = (a 1024 : EReal) := this
    have e' : Real.exp r = a 1024 := EReal.coe_injective e
    rw [← e']; exact Real.exp_pos r
  have hs : 0 < ∑ u, a u := Finset.sum_pos' (fun u _ => ha u) ⟨1024, Finset.mem_univ _, hlast⟩
  simp only [h1, h2, coe_sum]
  rw [← Finset.sum_mul]
  have hM := Real.exp_pos (-M)
  have hne : (∑ u, a u) ≠ 0 := hs.ne'
  have hne' : (∑ u, a u) * Real.exp (-M) ≠ 0 := (mul_pos hs hM).ne'
  rw [Ideal.div, Ideal.div, if_neg (by exact_mod_cast hne'), if_neg (by exact_mod_cast hne), one_mul,
    ← EReal.coe_inv, ← EReal.coe_inv, ← EReal.coe_mul, ← EReal.coe_mul]
  congr 1
  field_simp

/-- The softmax with the maximum subtracted, applied to the values, is the weighted sum. -/
theorem attend_eq (ok : Fin 1024 → BitVec 1) (s : Fin 1024 → EReal) (sn : EReal) (v : Fin 1024 → EReal) (vn : EReal) (X : Fin 1025 → EReal)
    (hX : X = joined ok s sn) :
    (∑ t : Fin 1024, Ideal.div (Ideal.exp (X ⟨t.val, by omega⟩ - Finset.fold max ⊥ X Finset.univ))
        (∑ u, Ideal.exp (X u - Finset.fold max ⊥ X Finset.univ)) * v t)
      + Ideal.div (Ideal.exp (X 1024 - Finset.fold max ⊥ X Finset.univ))
        (∑ u, Ideal.exp (X u - Finset.fold max ⊥ X Finset.univ)) * vn
      = attend ok s sn v vn := by
  subst hX
  obtain ⟨M, hM⟩ := max_real ok s sn
  rw [hM]
  simp only [softmax_eq]
  have hw : ∀ t : Fin 1024, Ideal.exp (joined ok s sn ⟨t.val, by omega⟩) = weight (ok t) (s t) := fun t => by
    unfold joined weight masked
    rw [dif_pos t.isLt]
    split
    · rfl
    · rfl
  have hsum : (∑ u, Ideal.exp (joined ok s sn u)) = (∑ u, weight (ok u) (s u)) + Ideal.exp (capped sn) := by
    rw [Fin.sum_univ_castSucc]
    refine congrArg₂ (· + ·) (Finset.sum_congr rfl fun u _ => hw u) ?_
    exact congrArg Ideal.exp (joined_last ok s sn)
  rw [hsum, joined_last]
  unfold attend
  refine congrArg₂ (· + ·) (Finset.sum_congr rfl fun t _ => ?_) rfl
  rw [hw]

/-! ### Sums over a blocked axis -/

/-- A sum whose terms vanish off one residue modulo four. -/
theorem sum_quads (n : ℕ) (h : ℕ) (hh : h < 4) (f : Fin (4 * n) → EReal) (hf : ∀ k : Fin (4 * n), k.val % 4 ≠ h → f k = 0) :
    ∑ k, f k = ∑ e : Fin n, f ⟨4 * e.val + h, by omega⟩ := by
  symm
  refine Finset.sum_of_injOn (fun e : Fin n => (⟨4 * e.val + h, by omega⟩ : Fin (4 * n))) ?_ ?_ ?_ ?_
  · intro a _ b _ hab
    have := congrArg Fin.val hab
    exact Fin.ext (by dsimp only at this; omega)
  · intro a _; exact Finset.mem_coe.mpr (Finset.mem_univ _)
  · intro k _ hk
    refine hf k fun hm => hk ?_
    refine ⟨⟨k.val / 4, by omega⟩, Finset.mem_coe.mpr (Finset.mem_univ _), Fin.ext ?_⟩
    dsimp only; omega
  · intro e _; rfl

/-- A sum over 16 chunks of 64. -/
theorem sum_chunks (g : Fin 1024 → EReal) :
    ∑ c : Fin 16, ∑ t : Fin 64, g ⟨64 * c.val + t.val, by omega⟩ = ∑ t, g t := by
  rw [← Finset.sum_product']
  refine Finset.sum_bij (fun p _ => (⟨64 * p.1.val + p.2.val, by omega⟩ : Fin 1024)) (fun _ _ => Finset.mem_univ _) ?_ ?_ ?_
  · intro p _ q _ h
    have := congrArg Fin.val h
    dsimp only at this
    exact Prod.ext (Fin.ext (by omega)) (Fin.ext (by omega))
  · intro t _
    exact ⟨(⟨t.val / 64, by omega⟩, ⟨t.val % 64, by omega⟩), Finset.mem_univ _, Fin.ext (by dsimp only; omega)⟩
  · intro p _; rfl

/-- A sum whose only term is at one index. -/
theorem sum_own (n : ℕ) (r : Fin n) (f : Fin n → EReal) (hf : ∀ k, k ≠ r → f k = 0) : ∑ k, f k = f r :=
  Finset.sum_eq_single r (fun k _ hk => hf k hk) (fun h => absurd (Finset.mem_univ _) h)

end Cert.Proof.Attend
-- ==== Proof.Window.lean ====
module
public import Idealize.ShloMosaic.Lib.Pointwise

@[expose] public section

/-!
The window of one sequence: where it starts and which of its tokens count, from the sequence's length.
-/

noncomputable section

namespace Cert.Proof.Window

open Idealize.ShloMosaic

/-- The first token of the window. -/
def start (n : BitVec 32) : BitVec 32 := Scalar.minsi 7168#32 (Scalar.maxsi 0#32 (Scalar.subi n 1024#32))

/-- Whether token `t` of the window counts: it is below the length and above the length less the window's size. -/
def counts (n : BitVec 32) (t : ℕ) : BitVec 1 :=
  IntOp.andi (IntOp.cmpi .slt (IntOp.addi (start n) (BitVec.ofNat 32 t)) n)
    (IntOp.cmpi .sgt (IntOp.addi (start n) (BitVec.ofNat 32 t)) (Scalar.subi n 1024#32))

theorem start_le (n : BitVec 32) : (start n).toNat ≤ 7168 := by
  unfold start Scalar.minsi Scalar.maxsi Scalar.subi IntOp.minsi IntOp.maxsi IntOp.subi
  generalize n - 1024#32 = x
  have hx := x.isLt
  simp only [BitVec.slt_eq_decide, decide_eq_true_eq]
  have e0 : (0#32).toInt = 0 := by decide
  have e1 : (7168#32).toInt = 7168 := by decide
  have ex := BitVec.toInt_eq_toNat_cond x
  rw [e0, e1]
  split
  · rw [e0, if_neg (by omega)]; decide
  · split
    · decide
    · split at ex <;> omega

end Cert.Proof.Window
-- ==== Proof.RefScores.lean ====
module
public import proofs.«01_k».proof.Proof.Attend
public import proofs.«01_k».proof.Proof.Window
public import proofs.«01_k».proof.Proof.Gen.ReferenceIdeal.Value

@[expose] public section

/-!
The reference's attention for one sequence, as one vector program over what it loads, and its value at an index.
-/

noncomputable section

namespace Cert.Proof.RefAttend

open Idealize.ShloMosaic Idealize.ShloMosaic.Pointwise
open Cert.ReferenceIdeal Cert.ReferenceIdeal.Gen Cert.Proof.Attend Cert.Proof.Window

set_option maxRecDepth 16384

section
variable {F : FTy → Type} [FloatOps F]

theorem sl_b (b : Fin 4) : S4x8x256.Slices ![b.val, 0, 0] S1x8x256 := by revert b; decide

/-- One sequence's new rows. -/
def newRow (b : Fin 4) (w : FVec F S4x8x256 .bf16) : FVec F S8x256 .bf16 :=
  shapeCast S8x256 (extractStridedSlice S1x8x256 ![b.val, 0, 0] w (sl_b b)) shapeCasts_S1x8x256_S8x256

/-- The window's scores after the cap. -/
def winScore (x : Vec F S1x1x32x256 .bf16) (k : FVec F S1024x8x256 .bf16) : FVec F S8x4x1024 .f32 :=
  mulf (broadcast S8x4x1024 (Scalar.ofBits .f32 0x42480000#32)) (tanh (divf
    (mulf (matmul dot_S8x4x256_S8x1024x256_S8x4x1024_2_2_1_1_0_0 none
        (shapeCast S8x4x256 (shapeCast S32x256 x shapeCasts_S1x1x32x256_S32x256) shapeCasts_S32x256_S8x4x256)
        (transpose S8x1024x256 [1, 0, 2] k transposes_S1024x8x256_p1_0_2_S8x1024x256)
        (constant S8x4x1024 .f32 0x00000000#32))
      (broadcast S8x4x1024 (Scalar.ofBits .f32 0x3D800000#32)))
    (broadcast S8x4x1024 (Scalar.ofBits .f32 0x42480000#32))))

/-- The new row's score after the cap. -/
def rowScore (x : Vec F S1x1x32x256 .bf16) (kn : FVec F S8x256 .bf16) : FVec F S8x4x1 .f32 :=
  mulf (broadcast S8x4x1 (Scalar.ofBits .f32 0x42480000#32)) (tanh (divf
    (mulf (matmul dot_S8x4x256_S8x1x256_S8x4x1_2_2_1_1_0_0 none
        (shapeCast S8x4x256 (shapeCast S32x256 x shapeCasts_S1x1x32x256_S32x256) shapeCasts_S32x256_S8x4x256)
        (shapeCast S8x1x256 kn shapeCasts_S8x256_S8x1x256)
        (constant S8x4x1 .f32 0x00000000#32))
      (broadcast S8x4x1 (Scalar.ofBits .f32 0x3D800000#32)))
    (broadcast S8x4x1 (Scalar.ofBits .f32 0x42480000#32))))

/-- The scores of the window and of the new row, masked. -/
def scores (n : BitVec 32) (x : Vec F S1x1x32x256 .bf16) (k : FVec F S1024x8x256 .bf16) (kn : FVec F S8x256 .bf16) :
    FVec F S8x4x1025 .f32 :=
  let at_ := addi (broadcast S8x4x1024 (start n)) (iota .tc S8x4x1024 32 [2] iota_S8x4x1024_d2_w32)
  concatenate S8x4x1025 2
    [⟨S8x4x1024, select (andi (cmpi .slt at_ (broadcast S8x4x1024 n)) (cmpi .sgt at_ (broadcast S8x4x1024 (Scalar.subi n 1024#32))))
        (winScore x k) (broadcast S8x4x1024 (Scalar.ofBits .f32 0xFF800000#32))⟩,
     ⟨S8x4x1, rowScore x kn⟩] concatenates_S8x4x1024_S8x4x1_S8x4x1025_d2

/-- The scores' maximum. -/
def top (X : FVec F S8x4x1025 .f32) : FVec F S8x4x1 .f32 :=
  shapeCast S8x4x1 (maximumf (broadcast S8x4 (Scalar.ofBits .f32 0xFF800000#32))
    (multiReduction .maximumf [2] S8x4 X 0xFF800000#32 reduces_S8x4x1025_S8x4 (.inl rfl) rfl)) shapeCasts_S8x4_S8x4x1

/-- The softmax. -/
def soft (X : FVec F S8x4x1025 .f32) : FVec F S8x4x1025 .f32 :=
  let e := exp (subf X (broadcastTo S8x4x1025 (top X) broadcasts_S8x4x1_S8x4x1025))
  divf e (broadcastTo S8x4x1025 (shapeCast S8x4x1
    (multiReduction .add [2] S8x4 e 0x00000000#32 reduces_S8x4x1025_S8x4 (.inl rfl) rfl) shapeCasts_S8x4_S8x4x1)
    broadcasts_S8x4x1_S8x4x1025)

/-- The weighted sum of the values. -/
def mix (P : FVec F S8x4x1025 .f32) (v : FVec F S1024x8x256 .bf16) (vn : FVec F S8x256 .bf16) : FVec F S1x1x32x256 .bf16 :=
  shapeCast S1x1x32x256 (truncf .bf16 (shapeCast S32x256
    (addf
      (matmul dot_S8x4x1024_S8x1024x256_S8x4x256_2_1_1_2_0_0 none
        (truncf .bf16 (extractStridedSlice S8x4x1024 ![0, 0, 0] P slices_S8x4x1025_o0_0_0_S8x4x1024) bitsLt_bf16_f32)
        (transpose S8x1024x256 [1, 0, 2] v transposes_S1024x8x256_p1_0_2_S8x1024x256) (constant S8x4x256 .f32 0x00000000#32))
      (matmul dot_S8x4x1_S8x1x256_S8x4x256_2_1_1_2_0_0 none
        (truncf .bf16 (extractStridedSlice S8x4x1 ![0, 0, 1024] P slices_S8x4x1025_o0_0_1024_S8x4x1) bitsLt_bf16_f32)
        (shapeCast S8x1x256 vn shapeCasts_S8x256_S8x1x256) (constant S8x4x256 .f32 0x00000000#32)))
    shapeCasts_S8x4x256_S32x256) bitsLt_bf16_f32) shapeCasts_S32x256_S1x1x32x256

/-- One sequence's piece of the output. -/
def piece (b : Fin 4) (n : BitVec 32) (x : Vec F S1x1x32x256 .bf16) (kw vw : FVec F S4x8x256 .bf16)
    (kc : Vec F S1x1024x8x256 .fp8e4m3) (ks : Vec F S1x1024x8x8 .f32) (vc : Vec F S1x1024x8x256 .fp8e4m3) (vs : Vec F S1x1024x8x8 .f32) :
    FVec F S1x1x32x256 .bf16 :=
  mix (soft (scores n x (k0_pay20 kc ks) (newRow b kw))) (k0_pay20 vc vs) (newRow b vw)

end

theorem bot_eq : Ideal.ofBits .f32 0xFF800000#32 = (⊥ : EReal) := by simp [Ideal.ofBits, Ideal.ieee]

theorem dequant_apply (c : S1x1024x8x256.Idx → EReal) (s : S1x1024x8x8.Idx → EReal) (t : Fin 1024) (h : Fin 8) (d : Fin 256) :
    k0_pay20 (F := Ideal) c s (ix3 t h d) = c (ix4 0 t h d) * s (ix4 0 t h ⟨d.val / 32, by omega⟩) := by
  unfold k0_pay20
  pointwise

theorem newRow_apply (b : Fin 4) (w : S4x8x256.Idx → EReal) (h : Fin 8) (d : Fin 256) :
    newRow (F := Ideal) b w (ix2 h d) = w (ix3 b h d) := by
  unfold newRow
  pointwise

theorem winScore_apply (x : S1x1x32x256.Idx → EReal) (k : S1024x8x256.Idx → EReal) (h : Fin 8) (r : Fin 4) (t : Fin 1024) :
    winScore (F := Ideal) x k (ix3 h r t) = capped (∑ d : Fin 256, x (ix4 0 0 ⟨h.val * 4 + r.val, by omega⟩ d) * k (ix3 t h d)) := by
  rw [← capped_split]
  unfold winScore
  pointwise
  rfl

theorem rowScore_apply (x : S1x1x32x256.Idx → EReal) (k : S8x256.Idx → EReal) (h : Fin 8) (r : Fin 4) :
    rowScore (F := Ideal) x k (ix3 h r 0) = capped (∑ d : Fin 256, x (ix4 0 0 ⟨h.val * 4 + r.val, by omega⟩ d) * k (ix2 h d)) := by
  rw [← capped_split]
  unfold rowScore
  pointwise
  rfl

theorem scores_apply (n : BitVec 32) (x : S1x1x32x256.Idx → EReal) (k : S1024x8x256.Idx → EReal) (kn : S8x256.Idx → EReal) (h : Fin 8) (r : Fin 4) (t : Fin 1025) :
    scores (F := Ideal) n x k kn (ix3 h r t) =
      joined (fun t => counts n t.val) (fun t => ∑ d : Fin 256, x (ix4 0 0 ⟨h.val * 4 + r.val, by omega⟩ d) * k (ix3 t h d))
        (∑ d : Fin 256, x (ix4 0 0 ⟨h.val * 4 + r.val, by omega⟩ d) * kn (ix2 h d)) t := by
  unfold scores
  pointwise
  unfold joined
  split
  · rename_i ht
    exact congrArg₂ (fun y z : EReal => Scalar.select (counts n t.val) y z) (winScore_apply x k h r ⟨t.val, ht⟩) bot_eq
  · rename_i ht
    have e : (⟨t.val - 1024, by omega⟩ : Fin 1) = 0 := Fin.ext (by dsimp only; omega)
    rw [e, rowScore_apply]

theorem top_apply (X : S8x4x1025.Idx → EReal) (h : Fin 8) (r : Fin 4) :
    top (F := Ideal) X (ix3 h r 0) = Finset.fold max ⊥ (fun t => X (ix3 h r t)) Finset.univ := by
  unfold top
  pointwise
  rw [show Ideal.ofBits FTy.f32 4286578688#32 = (⊥ : EReal) from bot_eq, bot_sup_eq]

theorem soft_apply (X : S8x4x1025.Idx → EReal) (h : Fin 8) (r : Fin 4) (t : Fin 1025) :
    soft (F := Ideal) X (ix3 h r t) =
      Ideal.div (Ideal.exp (X (ix3 h r t) - Finset.fold max ⊥ (fun t => X (ix3 h r t)) Finset.univ))
        (∑ u, Ideal.exp (X (ix3 h r u) - Finset.fold max ⊥ (fun t => X (ix3 h r t)) Finset.univ)) := by
  rw [← top_apply]
  unfold soft
  pointwise

theorem mix_apply (P : S8x4x1025.Idx → EReal) (v : S1024x8x256.Idx → EReal) (vn : S8x256.Idx → EReal) (h : Fin 8) (r : Fin 4) (d : Fin 256) :
    mix (F := Ideal) P v vn (ix4 0 0 ⟨h.val * 4 + r.val, by omega⟩ d) =
      (∑ t : Fin 1024, P (ix3 h r ⟨t.val, by omega⟩) * v (ix3 t h d)) + P (ix3 h r 1024) * vn (ix2 h d) := by
  unfold mix
  pointwise
  rw [Fin.sum_univ_one]

/-- One sequence's piece of the output at an index. -/
theorem piece_apply (b : Fin 4) (n : BitVec 32) (x : S1x1x32x256.Idx → EReal) (kw vw : S4x8x256.Idx → EReal)
    (kc : S1x1024x8x256.Idx → EReal) (ks : S1x1024x8x8.Idx → EReal) (vc : S1x1024x8x256.Idx → EReal) (vs : S1x1024x8x8.Idx → EReal)
    (h : Fin 8) (r : Fin 4) (d : Fin 256) :
    piece (F := Ideal) b n x kw vw kc ks vc vs (ix4 0 0 ⟨h.val * 4 + r.val, by omega⟩ d) =
      attend (fun t => counts n t.val)
        (fun t => ∑ e : Fin 256, x (ix4 0 0 ⟨h.val * 4 + r.val, by omega⟩ e) * (kc (ix4 0 t h e) * ks (ix4 0 t h ⟨e.val / 32, by omega⟩)))
        (∑ e : Fin 256, x (ix4 0 0 ⟨h.val * 4 + r.val, by omega⟩ e) * kw (ix3 b h e))
        (fun t => vc (ix4 0 t h d) * vs (ix4 0 t h ⟨d.val / 32, by omega⟩)) (vw (ix3 b h d)) := by
  unfold piece
  rw [mix_apply]
  simp only [soft_apply, dequant_apply, newRow_apply]
  refine attend_eq _ _ _ _ _ (fun t => scores (F := Ideal) n x (k0_pay20 (F := Ideal) kc ks) (newRow (F := Ideal) b kw) (ix3 h r t)) (funext fun t => ?_)
  rw [scores_apply]
  simp only [dequant_apply, newRow_apply]

end Cert.Proof.RefAttend
-- ==== Proof.RefOut.lean ====
module
public import proofs.«01_k».proof.Proof.RefScores
public import proofs.«01_k».proof.Proof.RefArrays

@[expose] public section

/-! The reference's output after its run: attention over the window of the arguments and the widened new rows. -/

noncomputable section

namespace Cert.Proof.RefOut

open Idealize.ShloMosaic Idealize.SL.Sem Idealize.ShloMosaic.Pointwise
open Idealize.ShloMosaic.TcCoe
open Cert.ReferenceIdeal Cert.ReferenceIdeal.Gen Cert.Proof.Attend Cert.Proof.Window Cert.Proof.RefAttend Cert.Proof.RefQuantise
open Cert.Proof.Stored (codesOf scalesOf)

set_option maxRecDepth 16384

/-! ### The specification -/

/-- The widened new row: the code times the scale of its group. -/
def wide (x : S4x1x8x256.Idx → EReal) (b : Fin 4) (h : Fin 8) (d : Fin 256) : EReal :=
  codesOf x (ix4 b 0 h d) * scalesOf x (ix4 b 0 h ⟨d.val / 32, by omega⟩)

/-- A cached row of the window, dequantised. -/
def cached (c : S4x8192x8x256.Idx → EReal) (s : S4x8192x8x8.Idx → EReal) (b : Fin 4) (n : BitVec 32) (t : Fin 1024) (h : Fin 8)
    (d : Fin 256) : EReal :=
  c (ix4 b ⟨(start n).toNat + t.val, by have := start_le n; omega⟩ h d)
    * s (ix4 b ⟨(start n).toNat + t.val, by have := start_le n; omega⟩ h ⟨d.val / 32, by omega⟩)

/-- The output of a sequence of length `n`: attention of a head over its window and its new row. -/
def outAt (n : BitVec 32) (q : S4x1x32x256.Idx → EReal) (kn vn : S4x1x8x256.Idx → EReal)
    (kc : S4x8192x8x256.Idx → EReal) (ks : S4x8192x8x8.Idx → EReal) (vc : S4x8192x8x256.Idx → EReal) (vs : S4x8192x8x8.Idx → EReal)
    (b : Fin 4) (h : Fin 8) (r : Fin 4) (d : Fin 256) : EReal :=
  attend (fun t => counts n t.val)
    (fun t => ∑ e : Fin 256, q (ix4 b 0 ⟨h.val * 4 + r.val, by omega⟩ e) * cached kc ks b n t h e)
    (∑ e : Fin 256, q (ix4 b 0 ⟨h.val * 4 + r.val, by omega⟩ e) * wide kn b h e)
    (fun t => cached vc vs b n t h d) (wide vn b h d)

/-- The output as an array. -/
def outArr (len : S4.Idx → BitVec 32) (q : S4x1x32x256.Idx → EReal) (kn vn : S4x1x8x256.Idx → EReal)
    (kc : S4x8192x8x256.Idx → EReal) (ks : S4x8192x8x8.Idx → EReal) (vc : S4x8192x8x256.Idx → EReal) (vs : S4x8192x8x8.Idx → EReal)
    (y : S4x1x32x256.Idx) : EReal :=
  outAt (len (ix1 (y 0))) q kn vn kc ks vc vs (y 0) ⟨(y 2).val / 4, by have := (y 2).isLt; change _ < 32 at this; omega⟩ ⟨(y 2).val % 4, by omega⟩ (y 3)

theorem wideK_apply (x : S4x1x8x256.Idx → EReal) (b : Fin 4) (h : Fin 8) (d : Fin 256) :
    k0_pay18 (F := Ideal) (k0_pay5 (F := Ideal) x) (k0_pay6 (F := Ideal) x) (ix3 b h d) = wide x b h d := by
  unfold k0_pay18
  pointwise
  rw [pay6_apply, pay5_apply, pay8_apply]
  rfl

theorem wideV_apply (x : S4x1x8x256.Idx → EReal) (b : Fin 4) (h : Fin 8) (d : Fin 256) :
    k0_pay19 (F := Ideal) (k0_pay5 (F := Ideal) x) (k0_pay6 (F := Ideal) x) (ix3 b h d) = wide x b h d := by
  unfold k0_pay19
  pointwise
  rw [pay6_apply, pay5_apply, pay8_apply]
  rfl

/-! ### The loads -/

theorem inb_c (b : Fin 4) (n : BitVec 32) : ∀ a, (![b.val, (start n).toNat, 0, 0] : Fin 4 → ℕ) a + S1x1024x8x256.size a ≤ S4x8192x8x256.size a := by
  have h := start_le n
  intro a
  match a with
  | ⟨0, _⟩ => show b.val + 1 ≤ 4; omega
  | ⟨1, _⟩ => show (start n).toNat + 1024 ≤ 8192; omega
  | ⟨2, _⟩ => show 0 + 8 ≤ 8; omega
  | ⟨3, _⟩ => show 0 + 256 ≤ 256; omega

theorem inb_d (b : Fin 4) (n : BitVec 32) : ∀ a, (![b.val, (start n).toNat, 0, 0] : Fin 4 → ℕ) a + S1x1024x8x8.size a ≤ S4x8192x8x8.size a := by
  have h := start_le n
  intro a
  match a with
  | ⟨0, _⟩ => show b.val + 1 ≤ 4; omega
  | ⟨1, _⟩ => show (start n).toNat + 1024 ≤ 8192; omega
  | ⟨2, _⟩ => show 0 + 8 ≤ 8; omega
  | ⟨3, _⟩ => show 0 + 8 ≤ 8; omega

theorem inb_n (b : Fin 4) : ∀ a, (![b.val] : Fin 1 → ℕ) a + S1.size a ≤ S4.size a := by revert b; decide
theorem inb_x (b : Fin 4) : ∀ a, (![b.val, 0, 0, 0] : Fin 4 → ℕ) a + S1x1x32x256.size a ≤ S4x1x32x256.size a := by revert b; decide

/-- One sequence's length, as loaded. -/
def lenOf (arg0 : Memref sig .tc .smem S4 .i32) (harg0 : arg0.IsWhole) (x0 : Vec Ideal S4 .i32) (b : Fin 4) : BitVec 32 :=
  View.readAt (Elt Ideal) arg0.view (Rect.unit (s := S4) ![b.val] S1.size (inb_n b)).toLoadRect (harg0.unread x0) (Shape.Idx.first (show 0 < S1.numel by decide))

/-- One sequence's queries, as loaded. -/
def ldX (arg : Memref sig .tc .vmem S4x1x32x256 .bf16) (harg : arg.IsWhole) (x : Vec Ideal S4x1x32x256 .bf16) (b : Fin 4) : Vec Ideal S1x1x32x256 .bf16 :=
  View.readAt (Elt Ideal) arg.view (Rect.unit (s := S4x1x32x256) ![b.val, 0, 0, 0] S1x1x32x256.size (inb_x b)).toLoadRect (harg.unread x)

/-- One window of codes, as loaded. -/
def ldC (arg : Memref sig .tc .vmem S4x8192x8x256 .fp8e4m3) (harg : arg.IsWhole) (x : Vec Ideal S4x8192x8x256 .fp8e4m3) (b : Fin 4) (n : BitVec 32) : Vec Ideal S1x1024x8x256 .fp8e4m3 :=
  View.readAt (Elt Ideal) arg.view (Rect.unit (s := S4x8192x8x256) ![b.val, (start n).toNat, 0, 0] S1x1024x8x256.size (inb_c b n)).toLoadRect (harg.unread x)

/-- One window of scales, as loaded. -/
def ldD (arg : Memref sig .tc .vmem S4x8192x8x8 .f32) (harg : arg.IsWhole) (x : Vec Ideal S4x8192x8x8 .f32) (b : Fin 4) (n : BitVec 32) : Vec Ideal S1x1024x8x8 .f32 :=
  View.readAt (Elt Ideal) arg.view (Rect.unit (s := S4x8192x8x8) ![b.val, (start n).toNat, 0, 0] S1x1024x8x8.size (inb_d b n)).toLoadRect (harg.unread x)

/-- All new rows, as loaded. -/
def ldN (arg : Memref sig .tc .vmem S4x1x8x256 .bf16) (harg : arg.IsWhole) (x : Vec Ideal S4x1x8x256 .bf16) : Vec Ideal S4x1x8x256 .bf16 :=
  View.readAt (Elt Ideal) arg.view (Rect.unit (s := S4x1x8x256) ![0, 0, 0, 0] S4x1x8x256.size (by decide)).toLoadRect (harg.unread x)

theorem lenOf_eq (arg0 : Memref sig .tc .smem S4 .i32) (harg0 : arg0.IsWhole) (x0 : Vec Ideal S4 .i32) (b : Fin 4) : lenOf arg0 harg0 x0 b = x0 (ix1 b) := by
  unfold lenOf
  rw [Memref.IsWhole.readAt_unread harg0]
  exact congrArg x0 (funext fun a => Fin.ext (match a with | ⟨0, _⟩ => by simp))

theorem ldX_apply (arg : Memref sig .tc .vmem S4x1x32x256 .bf16) (harg : arg.IsWhole) (x : Vec Ideal S4x1x32x256 .bf16) (b : Fin 4) (i : Fin 32) (e : Fin 256) :
    ldX arg harg x b (ix4 0 0 i e) = x (ix4 b 0 i e) := by
  unfold ldX
  rw [Memref.IsWhole.readAt_unread harg]
  exact congrArg x (funext fun a => Fin.ext (match a with | ⟨0, _⟩ => by simp | ⟨1, _⟩ => by simp | ⟨2, _⟩ => by simp | ⟨3, _⟩ => by simp))

theorem ldC_apply (arg : Memref sig .tc .vmem S4x8192x8x256 .fp8e4m3) (harg : arg.IsWhole) (x : Vec Ideal S4x8192x8x256 .fp8e4m3) (b : Fin 4) (n : BitVec 32)
    (t : Fin 1024) (h : Fin 8) (e : Fin 256) :
    ldC arg harg x b n (ix4 0 t h e) = x (ix4 b ⟨(start n).toNat + t.val, by have := start_le n; omega⟩ h e) := by
  unfold ldC
  rw [Memref.IsWhole.readAt_unread harg]
  exact congrArg x (funext fun a => Fin.ext (match a with | ⟨0, _⟩ => by simp | ⟨1, _⟩ => by simp | ⟨2, _⟩ => by simp | ⟨3, _⟩ => by simp))

theorem ldD_apply (arg : Memref sig .tc .vmem S4x8192x8x8 .f32) (harg : arg.IsWhole) (x : Vec Ideal S4x8192x8x8 .f32) (b : Fin 4) (n : BitVec 32)
    (t : Fin 1024) (h g : Fin 8) :
    ldD arg harg x b n (ix4 0 t h g) = x (ix4 b ⟨(start n).toNat + t.val, by have := start_le n; omega⟩ h g) := by
  unfold ldD
  rw [Memref.IsWhole.readAt_unread harg]
  exact congrArg x (funext fun a => Fin.ext (match a with | ⟨0, _⟩ => by simp | ⟨1, _⟩ => by simp | ⟨2, _⟩ => by simp | ⟨3, _⟩ => by simp))

theorem ldN_eq (arg : Memref sig .tc .vmem S4x1x8x256 .bf16) (harg : arg.IsWhole) (x : Vec Ideal S4x1x8x256 .bf16) : ldN arg harg x = x :=
  RefStored.ldAll arg harg x _

section
variable (arg0 : Memref sig .tc .smem S4 .i32) (harg0 : arg0.IsWhole) (arg1 : Memref sig .tc .vmem S4x1x32x256 .bf16) (harg1 : arg1.IsWhole) (arg2 : Memref sig .tc .vmem S4x1x8x256 .bf16) (harg2 : arg2.IsWhole) (arg3 : Memref sig .tc .vmem S4x1x8x256 .bf16) (harg3 : arg3.IsWhole) (arg4 : Memref sig .tc .vmem S4x8192x8x256 .fp8e4m3) (harg4 : arg4.IsWhole) (arg5 : Memref sig .tc .vmem S4x8192x8x8 .f32) (harg5 : arg5.IsWhole) (arg6 : Memref sig .tc .vmem S4x8192x8x256 .fp8e4m3) (harg6 : arg6.IsWhole) (arg7 : Memref sig .tc .vmem S4x8192x8x8 .f32) (harg7 : arg7.IsWhole) (x0 : Vec Ideal S4 .i32) (x1 : Vec Ideal S4x1x32x256 .bf16) (x2 : Vec Ideal S4x1x8x256 .bf16) (x3 : Vec Ideal S4x1x8x256 .bf16) (x4 : Vec Ideal S4x8192x8x256 .fp8e4m3) (x5 : Vec Ideal S4x8192x8x8 .f32) (x6 : Vec Ideal S4x8192x8x256 .fp8e4m3) (x7 : Vec Ideal S4x8192x8x8 .f32)

/-- One sequence's piece of the output over the loads. -/
def pieceOf (b : Fin 4) : FVec Ideal S1x1x32x256 .bf16 :=
  piece b (lenOf arg0 harg0 x0 b) (ldX arg1 harg1 x1 b)
    (k0_pay18 (k0_pay5 (ldN arg2 harg2 x2)) (k0_pay6 (ldN arg2 harg2 x2)))
    (k0_pay19 (k0_pay5 (ldN arg3 harg3 x3)) (k0_pay6 (ldN arg3 harg3 x3)))
    (ldC arg4 harg4 x4 b (lenOf arg0 harg0 x0 b)) (ldD arg5 harg5 x5 b (lenOf arg0 harg0 x0 b))
    (ldC arg6 harg6 x6 b (lenOf arg0 harg0 x0 b)) (ldD arg7 harg7 x7 b (lenOf arg0 harg0 x0 b))

theorem pieceOf_apply (b : Fin 4) (h : Fin 8) (r : Fin 4) (d : Fin 256) :
    pieceOf arg0 harg0 arg1 harg1 arg2 harg2 arg3 harg3 arg4 harg4 arg5 harg5 arg6 harg6 arg7 harg7 x0 x1 x2 x3 x4 x5 x6 x7 b
      (ix4 0 0 ⟨h.val * 4 + r.val, by omega⟩ d) = outAt (x0 (ix1 b)) x1 x2 x3 x4 x5 x6 x7 b h r d := by
  unfold pieceOf
  rw [← lenOf_eq arg0 harg0 x0 b]
  generalize lenOf arg0 harg0 x0 b = n
  rw [piece_apply, ldN_eq, ldN_eq]
  unfold outAt cached
  simp only [wideK_apply, wideV_apply, ldX_apply, ldC_apply, ldD_apply]

end

section
variable (c : Dev nD) (arg0 : Memref sig .tc .smem S4 .i32) (harg0 : arg0.IsWhole) (arg1 : Memref sig .tc .vmem S4x1x32x256 .bf16) (harg1 : arg1.IsWhole) (arg2 : Memref sig .tc .vmem S4x1x8x256 .bf16) (harg2 : arg2.IsWhole) (arg3 : Memref sig .tc .vmem S4x1x8x256 .bf16) (harg3 : arg3.IsWhole) (arg4 : Memref sig .tc .vmem S4x8192x8x256 .fp8e4m3) (harg4 : arg4.IsWhole) (arg5 : Memref sig .tc .vmem S4x8192x8x8 .f32) (harg5 : arg5.IsWhole) (arg6 : Memref sig .tc .vmem S4x8192x8x256 .fp8e4m3) (harg6 : arg6.IsWhole) (arg7 : Memref sig .tc .vmem S4x8192x8x8 .f32) (harg7 : arg7.IsWhole) (arg8 : Memref sig .tc .vmem S4x1x32x256 .bf16) (harg8 : arg8.IsWhole) (arg9 : Memref sig .tc .vmem S4x1x8x256 .fp8e4m3) (harg9 : arg9.IsWhole) (arg10 : Memref sig .tc .vmem S4x1x8x8 .f32) (harg10 : arg10.IsWhole) (arg11 : Memref sig .tc .vmem S4x1x8x256 .fp8e4m3) (harg11 : arg11.IsWhole) (arg12 : Memref sig .tc .vmem S4x1x8x8 .f32) (harg12 : arg12.IsWhole) (x0 : Vec Ideal S4 .i32) (x1 : Vec Ideal S4x1x32x256 .bf16) (x2 : Vec Ideal S4x1x8x256 .bf16) (x3 : Vec Ideal S4x1x8x256 .bf16) (x4 : Vec Ideal S4x8192x8x256 .fp8e4m3) (x5 : Vec Ideal S4x8192x8x8 .f32) (x6 : Vec Ideal S4x8192x8x256 .fp8e4m3) (x7 : Vec Ideal S4x8192x8x8 .f32)

set_option maxHeartbeats 4000000 in
theorem pieces8 : (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7).1 =
    [⟨Rect.unit (s := S4x1x32x256) ![3, 0, 0, 0] S1x1x32x256.size (by decide), pieceOf arg0 harg0 arg1 harg1 arg2 harg2 arg3 harg3 arg4 harg4 arg5 harg5 arg6 harg6 arg7 harg7 x0 x1 x2 x3 x4 x5 x6 x7 3⟩,
     ⟨Rect.unit (s := S4x1x32x256) ![2, 0, 0, 0] S1x1x32x256.size (by decide), pieceOf arg0 harg0 arg1 harg1 arg2 harg2 arg3 harg3 arg4 harg4 arg5 harg5 arg6 harg6 arg7 harg7 x0 x1 x2 x3 x4 x5 x6 x7 2⟩,
     ⟨Rect.unit (s := S4x1x32x256) ![1, 0, 0, 0] S1x1x32x256.size (by decide), pieceOf arg0 harg0 arg1 harg1 arg2 harg2 arg3 harg3 arg4 harg4 arg5 harg5 arg6 harg6 arg7 harg7 x0 x1 x2 x3 x4 x5 x6 x7 1⟩,
     ⟨Rect.unit (s := S4x1x32x256) ![0, 0, 0, 0] S1x1x32x256.size (by decide), pieceOf arg0 harg0 arg1 harg1 arg2 harg2 arg3 harg3 arg4 harg4 arg5 harg5 arg6 harg6 arg7 harg7 x0 x1 x2 x3 x4 x5 x6 x7 0⟩] := (rfl)

theorem piece_tile (b : Fin 4) (p : Fin 4 → ℕ) (hp : p = ![b.val, 0, 0, 0]) (inb) (z : S1x1x32x256.Idx) :
    pieceOf arg0 harg0 arg1 harg1 arg2 harg2 arg3 harg3 arg4 harg4 arg5 harg5 arg6 harg6 arg7 harg7 x0 x1 x2 x3 x4 x5 x6 x7 b z =
      outArr x0 x1 x2 x3 x4 x5 x6 x7 ((Rect.unit (s := S4x1x32x256) p S1x1x32x256.size inb).emb z) := by
  subst hp
  obtain ⟨i, d, rfl⟩ : ∃ (i : Fin 32) (d : Fin 256), z = ix4 0 0 i d := ⟨z 2, z 3, funext fun a => Fin.ext (match a with
    | ⟨0, _⟩ => Nat.lt_one_iff.mp (z 0).isLt | ⟨1, _⟩ => Nat.lt_one_iff.mp (z 1).isLt | ⟨2, _⟩ => rfl | ⟨3, _⟩ => rfl)⟩
  have hi : i = ⟨(⟨i.val / 4, by omega⟩ : Fin 8).val * 4 + (⟨i.val % 4, by omega⟩ : Fin 4).val, by dsimp only; omega⟩ := Fin.ext (by dsimp only; omega)
  have e : (Rect.unit (s := S4x1x32x256) ![b.val, 0, 0, 0] S1x1x32x256.size inb).emb (ix4 0 0 i d) = ix4 b 0 i d :=
    funext fun a => Fin.ext (match a with | ⟨0, _⟩ => rfl | ⟨1, _⟩ => rfl | ⟨2, _⟩ => by simp | ⟨3, _⟩ => by simp)
  rw [e]
  refine (congrArg (fun i => pieceOf arg0 harg0 arg1 harg1 arg2 harg2 arg3 harg3 arg4 harg4 arg5 harg5 arg6 harg6 arg7 harg7 x0 x1 x2 x3 x4 x5 x6 x7 b (ix4 0 0 i d)) hi).trans ?_
  exact pieceOf_apply _ _ _ _ _ _ _ _ _ _ _ _ _ _ _ _ _ _ _ _ _ _ _ _ b _ _ d

theorem out8_eq : out0_A_8 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 = outArr x0 x1 x2 x3 x4 x5 x6 x7 := by
  funext y
  unfold out0_A_8
  rw [View.read_writes_junk_eq_canon]
  refine View.canon_apply_of_pieces (outArr x0 x1 x2 x3 x4 x5 x6 x7) _ ?_ y (cover0_A_8 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 y)
  rw [pieces8]
  intro p hp z
  simp only [List.mem_cons, List.not_mem_nil, or_false] at hp
  rcases hp with rfl | rfl | rfl | rfl
  · exact piece_tile arg0 harg0 arg1 harg1 arg2 harg2 arg3 harg3 arg4 harg4 arg5 harg5 arg6 harg6 arg7 harg7 x0 x1 x2 x3 x4 x5 x6 x7 3 _ rfl (by decide) z
  · exact piece_tile arg0 harg0 arg1 harg1 arg2 harg2 arg3 harg3 arg4 harg4 arg5 harg5 arg6 harg6 arg7 harg7 x0 x1 x2 x3 x4 x5 x6 x7 2 _ rfl (by decide) z
  · exact piece_tile arg0 harg0 arg1 harg1 arg2 harg2 arg3 harg3 arg4 harg4 arg5 harg5 arg6 harg6 arg7 harg7 x0 x1 x2 x3 x4 x5 x6 x7 1 _ rfl (by decide) z
  · exact piece_tile arg0 harg0 arg1 harg1 arg2 harg2 arg3 harg3 arg4 harg4 arg5 harg5 arg6 harg6 arg7 harg7 x0 x1 x2 x3 x4 x5 x6 x7 0 _ rfl (by decide) z

end

section
variable (m : (ℓ : Loc nD τ sig) → Buf (Elt Ideal) ℓ) (c : Dev nD)

theorem outs8 (X0 : Vec Ideal S4 .i32) (X1 : Vec Ideal S4x1x32x256 .bf16) (X2 X3 : Vec Ideal S4x1x8x256 .bf16) (X4 : Vec Ideal S4x8192x8x256 .fp8e4m3)
    (X5 : Vec Ideal S4x8192x8x8 .f32) (X6 : Vec Ideal S4x8192x8x256 .fp8e4m3) (X7 : Vec Ideal S4x8192x8x8 .f32)
    (h0 : iblk m c 0 t0_0 = X0) (h1 : iblk m c 1 t0_0 = X1) (h2 : iblk m c 2 t0_0 = X2) (h3 : iblk m c 3 t0_0 = X3)
    (h4 : iblk m c 4 t0_0 = X4) (h5 : iblk m c 5 t0_0 = X5) (h6 : iblk m c 6 t0_0 = X6) (h7 : iblk m c 7 t0_0 = X7) :
    (outsAt0 m c t0_0).1 = outArr X0 X1 X2 X3 X4 X5 X6 X7 := by
  subst h0 h1 h2 h3 h4 h5 h6 h7
  dsimp only [outsAt0]
  exact out8_eq c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (iblk m c 0 t0_0) (iblk m c 1 t0_0) (iblk m c 2 t0_0) (iblk m c 3 t0_0) (iblk m c 4 t0_0) (iblk m c 5 t0_0) (iblk m c 6 t0_0) (iblk m c 7 t0_0)

theorem arr8 : (dats m 0 c).arrAt 8 cfg0.N =
    outArr (m ((c : Thread nD τ).loc main_arg7)) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_after_last 8 t0_0 (by decide +kernel) _ fun j => ?_
  blk_simp
  rw [after0_8]
  exact congrFun (outs8 m c _ _ _ _ _ _ _ _ (RefStored.blk0 m c) (RefStored.blk1 m c) (RefStored.blk2 m c) (RefStored.blk3 m c)
    (RefStored.blk4 m c) (RefStored.blk5 m c) (RefStored.blk6 m c) (RefStored.blk7 m c)) j

end
end Cert.Proof.RefOut
-- ==== Proof.KWords.lean ====
module
public import proofs.«01_k».proof.Proof.Window
public import proofs.«01_k».proof.Proof.Model

@[expose] public section

/-!
The kernel's integer words: which columns and which new row belong to a row.
-/

noncomputable section

namespace Cert.Proof.KWords

open Idealize.ShloMosaic

theorem rem4 : ∀ k : Fin 4096, IntOp.remsi .vector (BitVec.ofNat 32 k.val) 4#32 = BitVec.ofNat 32 (k.val % 4) := by decide +kernel
theorem div4 : ∀ i : Fin 16, IntOp.divsi .vector (BitVec.ofNat 32 i.val) 4#32 = BitVec.ofNat 32 (i.val / 4) := by decide +kernel

theorem ofNat_eq {a b : ℕ} (ha : a < 4096) (hb : b < 4096) : (BitVec.ofNat 32 a = BitVec.ofNat 32 b) ↔ a = b := by
  constructor
  · intro h
    have := congrArg BitVec.toNat h
    rw [BitVec.toNat_ofNat, BitVec.toNat_ofNat] at this
    omega
  · exact fun h => h ▸ rfl

/-- A column of the spread rows belongs to a row when it is of the row's head. -/
theorem keep_eq (k : Fin 4096) (i : Fin 16) :
    IntOp.cmpi .eq (IntOp.remsi .vector (BitVec.ofNat 32 k.val) 4#32) (IntOp.divsi .vector (BitVec.ofNat 32 i.val) 4#32) =
      if k.val % 4 = i.val / 4 then 1#1 else 0#1 := by
  rw [rem4, div4]
  unfold IntOp.cmpi
  by_cases h : k.val % 4 = i.val / 4
  · simp [h]
  · rw [if_neg h, beq_eq_false_iff_ne.2 fun e => h ((ofNat_eq (by omega) (by omega)).1 e)]
    rfl

/-- A quarter of a query row's number, rounded down. -/
theorem quarter : ∀ i : Fin 128, Scalar.select
        (IntOp.andi
          (IntOp.cmpi .ne
            (IntOp.subi (BitVec.setWidth 32 (IntOp.cmpi .sgt (BitVec.ofNat 32 i.val) 0#32))
              (BitVec.setWidth 32 (IntOp.cmpi .slt (BitVec.ofNat 32 i.val) 0#32)))
            1#32)
          (IntOp.cmpi .ne (IntOp.remsi .vector (BitVec.ofNat 32 i.val) 4#32) 0#32))
        (IntOp.subi (IntOp.divsi .vector (BitVec.ofNat 32 i.val) 4#32) 1#32)
        (IntOp.divsi .vector (BitVec.ofNat 32 i.val) 4#32) = BitVec.ofNat 32 (i.val / 4) := by decide +kernel

theorem own_eq (i : Fin 128) (j : Fin 32) :
    IntOp.cmpi .eq (BitVec.ofNat 32 (i.val / 4)) (BitVec.ofNat 32 j.val) = if i.val / 4 = j.val then 1#1 else 0#1 := by
  unfold IntOp.cmpi
  by_cases h : i.val / 4 = j.val
  · simp [h]
  · rw [if_neg h, beq_eq_false_iff_ne.2 fun e => h ((ofNat_eq (by omega) (by omega)).1 e)]
    rfl

end Cert.Proof.KWords
-- ==== Proof.KScores.lean ====
module
public import proofs.«01_k».proof.Proof.Attend
public import proofs.«01_k».proof.Proof.Model
public import proofs.«01_k».proof.Proof.Window
public import proofs.«01_k».proof.Proof.KWords

@[expose] public section

/-!
The kernel's stages of the scores at an index.
-/

noncomputable section

namespace Cert.Proof.KScores

open Idealize.ShloMosaic Idealize.ShloMosaic.Pointwise
open Cert.KernelIdeal Cert.KernelIdeal.Gen Cert.Proof.Attend Cert.Proof.Window Cert.Proof.Model

set_option maxRecDepth 16384

theorem spreadQ_apply (q : S16x256.Idx → EReal) (i : Fin 16) (k : Fin 1024) :
    spreadQ (F := Ideal) q (ix2 i k) = if k.val % 4 = i.val / 4 then q (ix2 i ⟨k.val / 4, by omega⟩) else 0 := by
  unfold spreadQ
  pointwise
  have := KWords.keep_eq ⟨k.val, by omega⟩ i
  dsimp only at this
  rw [this]
  by_cases h : k.val % 4 = i.val / 4
  · rw [if_pos h, if_pos h]; rfl
  · rw [if_neg h, if_neg h]; rfl

theorem scaleCols_apply (q : Fin 2) (s : S8x8x128.Idx → EReal) (e : Fin 256) (h : Fin 4) (l : Fin 128) :
    scaleCols (F := Ideal) (4 * q.val) (sl_s q) s (ix2 ⟨4 * e.val + h.val, by omega⟩ l) =
      s (ix3 ⟨4 * q.val + h.val, by omega⟩ ⟨e.val / 32, by omega⟩ l) := by
  unfold scaleCols
  pointwise
  exact congrArg s (congrArg (fun z => ix3 _ z l) (Fin.ext (by dsimp only; omega)))

theorem kTile_apply (q : Fin 2) (s : S8x8x128.Idx → EReal) (c : S1x2048x128.Idx → EReal) (k : Fin 1024) (l : Fin 128) :
    kTile (F := Ideal) (4 * q.val) (sl_s q) (4 * q.val) (sl_k q) (8 + 4 * q.val) (sl_k' q) s c (ix2 k l) =
      c (ix3 0 ⟨16 * l.val + 8 * (k.val / 512) + 4 * q.val + k.val % 4, by omega⟩ ⟨k.val / 4 % 128, by omega⟩) *
        s (ix3 ⟨4 * q.val + k.val % 4, by omega⟩ ⟨k.val / 128, by omega⟩ l) := by
  unfold kTile kCols kRows scaleCols
  pointwise
  refine congrArg (· * _) ?_
  split
  · exact congrArg₂ (fun y z => c (ix3 0 y z)) (Fin.ext (by dsimp only; omega)) (Fin.ext (by dsimp only; omega))
  · exact congrArg₂ (fun y z => c (ix3 0 y z)) (Fin.ext (by dsimp only; omega)) (Fin.ext (by dsimp only; omega))

theorem scorePair_apply (q : S16x1024.Idx → EReal) (t0 t1 : S1024x128.Idx → EReal) (i : Fin 16) (j : Fin 256) :
    scorePair (F := Ideal) q t0 t1 (ix2 i j) =
      ∑ k : Fin 1024, q (ix2 i k) * (if j.val < 128 then t0 else t1) (ix2 k ⟨j.val % 128, by omega⟩) := by
  unfold scorePair
  pointwise
  refine Finset.sum_congr rfl fun x _ => congrArg (q (ix2 i x) * ·) ?_
  split
  · exact congrArg (fun z => t0 (ix2 x z)) (Fin.ext (by dsimp only; omega))
  · exact congrArg (fun z => t1 (ix2 x z)) (Fin.ext (by dsimp only; omega))

theorem scoresAll_apply (q : S16x1024.Idx → EReal) (t : Fin 8 → S1024x128.Idx → EReal) (i : Fin 16) (j : Fin 1024) :
    scoresAll (F := Ideal) q t (ix2 i j) = ∑ k : Fin 1024, q (ix2 i k) * t ⟨j.val / 128, by omega⟩ (ix2 k ⟨j.val % 128, by omega⟩) := by
  refine (Idealize.ShloMosaic.concatenate_ofFn_apply (t := S16x1024) (s₁ := S16x256) 1 (N := 4)
    (fun u => scorePair (F := Ideal) q (t ⟨2 * u.val, by omega⟩) (t ⟨2 * u.val + 1, by omega⟩)) _ rfl 256 rfl (ix2 i j)
    ⟨j.val / 256, by omega⟩ rfl (ix2 i ⟨j.val % 256, by omega⟩) rfl
    (fun b hb => match b with | ⟨0, _⟩ => rfl | ⟨1, _⟩ => absurd rfl hb)).trans ?_
  dsimp only
  rw [scorePair_apply]
  refine Finset.sum_congr rfl fun k _ => congrArg (q (ix2 i k) * ·) ?_
  dsimp only
  split
  · exact congrArg₂ (fun y z => t y (ix2 k z)) (Fin.ext (by dsimp only; omega)) (Fin.ext (by dsimp only; omega))
  · exact congrArg₂ (fun y z => t y (ix2 k z)) (Fin.ext (by dsimp only; omega)) (Fin.ext (by dsimp only; omega))

theorem weights_apply (cap : EReal) (ok : IVec S16x1024 1) (s : S16x1024.Idx → EReal) (i : Fin 16) (j : Fin 1024) :
    weights (F := Ideal) cap ok s (ix2 i j) = if ok (ix2 i j) = 1#1 then Ideal.exp (c50 * Ideal.tanh (s (ix2 i j) * cap)) else 0 := by
  unfold weights
  pointwise
  rfl

theorem valid_apply (n : BitVec 32) (i : Fin 16) (j : Fin 1024) :
    valid (Model.start n) n (Scalar.subi n 1024#32) (ix2 i j) = counts n j.val := by
  unfold valid
  pointwise
  rfl

end Cert.Proof.KScores
-- ==== Proof.KValues.lean ====
module
public import proofs.«01_k».proof.Proof.Attend
public import proofs.«01_k».proof.Proof.Model
public import proofs.«01_k».proof.Proof.Window
public import proofs.«01_k».proof.Proof.KWords

@[expose] public section

/-!
The kernel's stages of the values at an index.
-/

noncomputable section

namespace Cert.Proof.KValues

open Idealize.ShloMosaic Idealize.ShloMosaic.Pointwise
open Cert.KernelIdeal Cert.KernelIdeal.Gen Cert.Proof.Attend Cert.Proof.Window Cert.Proof.Model

set_option maxRecDepth 16384

theorem invSum_apply (e : S16x1024.Idx → EReal) (en : S16x1.Idx → EReal) (i : Fin 16) :
    invSum (F := Ideal) e en (ix2 i 0) = Ideal.div 1 ((∑ u : Fin 1024, e (ix2 i u)) + en (ix2 i 0)) := by
  unfold invSum
  pointwise

theorem probs_apply (e : S16x1024.Idx → EReal) (en : S16x1.Idx → EReal) (i : Fin 16) (t : Fin 1024) :
    probs (F := Ideal) e en (ix2 i t) = e (ix2 i t) * invSum (F := Ideal) e en (ix2 i 0) := by
  unfold probs
  generalize invSum (F := Ideal) e en = z
  pointwise

theorem probNew_apply (e : S16x1024.Idx → EReal) (en : S16x1.Idx → EReal) (i : Fin 16) :
    probNew (F := Ideal) e en (ix2 i 0) = en (ix2 i 0) * invSum (F := Ideal) e en (ix2 i 0) := by
  unfold probNew
  generalize invSum (F := Ideal) e en = z
  pointwise

/-- The scales of sixteen chunks side by side. -/
def sixteen (o : ℕ) (h : S8x8x128.Slices ![o, 0, 0] S4x8x64) (h' : S8x8x128.Slices ![o, 0, 64] S4x8x64)
    (s : Fin 8 → S8x8x128.Idx → EReal) : S4x128x64.Idx → EReal :=
  concatenate S4x128x64 1
    [⟨S4x8x64, scaleHalf (F := Ideal) o 0 h (s 0)⟩, ⟨S4x8x64, scaleHalf (F := Ideal) o 64 h' (s 0)⟩,
     ⟨S4x8x64, scaleHalf (F := Ideal) o 0 h (s 1)⟩, ⟨S4x8x64, scaleHalf (F := Ideal) o 64 h' (s 1)⟩,
     ⟨S4x8x64, scaleHalf (F := Ideal) o 0 h (s 2)⟩, ⟨S4x8x64, scaleHalf (F := Ideal) o 64 h' (s 2)⟩,
     ⟨S4x8x64, scaleHalf (F := Ideal) o 0 h (s 3)⟩, ⟨S4x8x64, scaleHalf (F := Ideal) o 64 h' (s 3)⟩,
     ⟨S4x8x64, scaleHalf (F := Ideal) o 0 h (s 4)⟩, ⟨S4x8x64, scaleHalf (F := Ideal) o 64 h' (s 4)⟩,
     ⟨S4x8x64, scaleHalf (F := Ideal) o 0 h (s 5)⟩, ⟨S4x8x64, scaleHalf (F := Ideal) o 64 h' (s 5)⟩,
     ⟨S4x8x64, scaleHalf (F := Ideal) o 0 h (s 6)⟩, ⟨S4x8x64, scaleHalf (F := Ideal) o 64 h' (s 6)⟩,
     ⟨S4x8x64, scaleHalf (F := Ideal) o 0 h (s 7)⟩, ⟨S4x8x64, scaleHalf (F := Ideal) o 64 h' (s 7)⟩]
    concatenates_S4x8x64_S4x8x64_S4x8x64_S4x8x64_S4x8x64_S4x8x64_S4x8x64_S4x8x64_S4x8x64_S4x8x64_S4x8x64_S4x8x64_S4x8x64_S4x8x64_S4x8x64_S4x8x64_S4x128x64_d1

theorem sl_hc (q : Fin 2) (c : Fin 16) : S8x8x128.Slices ![4 * q.val, 0, 64 * (c.val % 2)] S4x8x64 := by revert q c; decide

theorem half_apply (q : Fin 2) (c : Fin 16) (s : S8x8x128.Idx → EReal) (h : Fin 4) (g : Fin 8) (t : Fin 64) :
    scaleHalf (F := Ideal) (4 * q.val) (64 * (c.val % 2)) (sl_hc q c) s (ix3 h g t) =
      s (ix3 ⟨4 * q.val + h.val, by omega⟩ g ⟨64 * (c.val % 2) + t.val, by omega⟩) := by
  unfold scaleHalf
  pointwise

theorem sixteen_apply (q : Fin 2) (s : Fin 8 → S8x8x128.Idx → EReal) (t : Fin 64) (h : Fin 4) (c : Fin 16) (g : Fin 8) :
    sixteen (4 * q.val) (sl_h q) (sl_h' q) s (ix3 h ⟨8 * c.val + g.val, by omega⟩ t) =
      s ⟨c.val / 2, by omega⟩ (ix3 ⟨4 * q.val + h.val, by omega⟩ g ⟨64 * (c.val % 2) + t.val, by omega⟩) := by
  refine (Idealize.ShloMosaic.concatenate_ofFn_apply (t := S4x128x64) (s₁ := S4x8x64) 1 (N := 16)
    (fun c => scaleHalf (F := Ideal) (4 * q.val) (64 * (c.val % 2)) (sl_hc q c) (s ⟨c.val / 2, by omega⟩)) _ rfl 8 rfl
    (ix3 h ⟨8 * c.val + g.val, by omega⟩ t)
    c (show (8 * c.val + g.val) / 8 = c.val by omega) (ix3 h g t) (show g.val = (8 * c.val + g.val) % 8 by omega)
    (fun b hb => match b with | ⟨0, _⟩ => rfl | ⟨1, _⟩ => absurd rfl hb | ⟨2, _⟩ => rfl)).trans ?_
  exact half_apply q c _ h g t

theorem scaleRows_apply (q : Fin 2) (s : Fin 8 → S8x8x128.Idx → EReal) (t : Fin 64) (h : Fin 4) (c : Fin 16) (g : Fin 8) :
    scaleRows (F := Ideal) (4 * q.val) (sl_h q) (sl_h' q) s (ix3 0 ⟨t.val * 4 + h.val, by omega⟩ ⟨8 * c.val + g.val, by omega⟩) =
      s ⟨c.val / 2, by omega⟩ (ix3 ⟨4 * q.val + h.val, by omega⟩ g ⟨64 * (c.val % 2) + t.val, by omega⟩) := by
  rw [← sixteen_apply q s t h c g]
  change shapeCast S1x256x128 (shapeCast S256x128 (transpose S64x4x128 [2, 0, 1] (sixteen (4 * q.val) (sl_h q) (sl_h' q) s)
    transposes_S4x128x64_p2_0_1_S64x4x128) shapeCasts_S64x4x128_S256x128) shapeCasts_S256x128_S1x256x128 _ = _
  generalize sixteen (4 * q.val) (sl_h q) (sl_h' q) s = z
  pointwise

theorem spreadP_apply (q : S16x1024.Idx → EReal) (i : Fin 16) (k : Fin 4096) :
    spreadP (F := Ideal) q (ix2 i k) = if k.val % 4 = i.val / 4 then q (ix2 i ⟨k.val / 4, by omega⟩) else 0 := by
  unfold spreadP
  pointwise
  have := KWords.keep_eq k i
  rw [this]
  by_cases h : k.val % 4 = i.val / 4
  · rw [if_pos h, if_pos h]; rfl
  · rw [if_neg h, if_neg h]; rfl

theorem vScale_apply (c : Fin 16) (s : S1x256x128.Idx → EReal) (k : Fin 256) (d : Fin 256) :
    vScale (F := Ideal) (8 * c.val) (sl_c c) s (ix2 k d) = s (ix3 0 k ⟨8 * c.val + d.val / 32, by omega⟩) := by
  unfold vScale
  pointwise

theorem vTile_apply (q : Fin 2) (p : Fin 16) (c : S1x1024x128.Idx → EReal) (s : S1x256x128.Idx → EReal) (t : Fin 64) (h : Fin 4) (d : Fin 256) :
    vTile (F := Ideal) (4 * q.val) (sl_v q) (8 + 4 * q.val) (sl_v' q) (8 * p.val) (sl_c p) c s (ix2 ⟨t.val * 4 + h.val, by omega⟩ d) =
      c (ix3 0 ⟨16 * t.val + 8 * (d.val / 128) + 4 * q.val + h.val, by omega⟩ ⟨d.val % 128, by omega⟩) *
      s (ix3 0 ⟨t.val * 4 + h.val, by omega⟩ ⟨8 * p.val + d.val / 32, by omega⟩) := by
  unfold vTile vCols vRows vScale
  pointwise
  refine congrArg (· * _) ?_
  split
  · exact congrArg₂ (fun y z => c (ix3 0 y z)) (Fin.ext (by dsimp only; omega)) (Fin.ext (by dsimp only; omega))
  · exact congrArg₂ (fun y z => c (ix3 0 y z)) (Fin.ext (by dsimp only; omega)) (Fin.ext (by dsimp only; omega))

theorem vPart_apply (p : Fin 16) (pm : S16x4096.Idx → EReal) (t : S256x256.Idx → EReal) (i : Fin 16) (d : Fin 256) :
    vPart (F := Ideal) (256 * p.val) (sl_p p) pm t (ix2 i d) = ∑ k : Fin 256, pm (ix2 i ⟨256 * p.val + k.val, by omega⟩) * t (ix2 k d) := by
  unfold vPart
  pointwise

theorem own_apply (i : Fin 128) (j : Fin 32) : own (ix2 i j) = if i.val / 4 = j.val then 1#1 else 0#1 := by
  rw [← KWords.own_eq, ← KWords.quarter]
  unfold own
  pointwise

theorem newScore_apply (q : S128x256.Idx → EReal) (kw : S32x256.Idx → EReal) (i : Fin 128) :
    newScore (F := Ideal) q kw (ix2 i 0) = ∑ e : Fin 256, q (ix2 i e) * kw (ix2 ⟨i.val / 4, by omega⟩ e) := by
  have ho := own_apply i
  unfold newScore
  generalize own = o at ho ⊢
  pointwise
  rw [Finset.sum_eq_single (⟨i.val / 4, by omega⟩ : Fin 32)]
  · rw [ho, if_pos rfl]; rfl
  · intro x _ hx
    rw [ho, if_neg fun h => hx (Fin.ext h.symm)]; rfl
  · exact fun h => absurd (Finset.mem_univ _) h

theorem newValue_apply (vw : S32x256.Idx → EReal) (i : Fin 128) (d : Fin 256) :
    newValue (F := Ideal) vw (ix2 i d) = vw (ix2 ⟨i.val / 4, by omega⟩ d) := by
  have ho := own_apply i
  unfold newValue
  generalize own = o at ho ⊢
  pointwise
  rw [Finset.sum_eq_single (⟨i.val / 4, by omega⟩ : Fin 32)]
  · rw [ho, if_pos rfl]
    have e : FloatOps.sitofp (F := Ideal) FTy.f32 (BitVec.setWidth 32 1#1) = (1 : EReal) := by
      show (((BitVec.setWidth 32 1#1).toInt : ℝ) : EReal) = 1
      rw [show (BitVec.setWidth 32 1#1).toInt = 1 by decide]; simp
    rw [e, one_mul]
  · intro x _ hx
    rw [ho, if_neg fun h => hx (Fin.ext h.symm)]
    have e : FloatOps.sitofp (F := Ideal) FTy.f32 (BitVec.setWidth 32 0#1) = (0 : EReal) := by
      show (((BitVec.setWidth 32 0#1).toInt : ℝ) : EReal) = 0
      rw [show (BitVec.setWidth 32 0#1).toInt = 0 by decide]; simp
    rw [e, zero_mul]
  · exact fun h => absurd (Finset.mem_univ _) h

end Cert.Proof.KValues
-- ==== Proof.KColumn.lean ====
module
public import proofs.«01_k».proof.Proof.Model

@[expose] public section

/-!
The kernel's integer words: where the scales of a window are fetched from and how far they move.
-/

noncomputable section

namespace Cert.Proof.KColumn

open Idealize.ShloMosaic

/-- The first column of scales, from the window's start. -/
def colOf (s : ℕ) : ℕ := 128 * min (s / 128) 55

/-- The scalars of a window as functions of its start. -/
theorem scalars : ∀ s : Fin 7169, ∀ n : BitVec 32, Model.start n = BitVec.ofNat 32 s.val →
    (Model.column n).toNat = colOf s.val ∧ (Model.limit n).toNat = 128 - (s.val - colOf s.val) ∧
    (Model.shift n).toNat = (128 - (s.val - colOf s.val)) % 128 := by
  intro s n h
  unfold Model.shift Model.limit Model.column Model.block
  rw [h]
  clear h n
  revert s
  decide +kernel

end Cert.Proof.KColumn
-- ==== Proof.PiecesOut.lean ====
module
public import proofs.«01_k».proof.Proof.PiecesNew

@[expose] public section

/-!
The kernel's stored pieces of the output are the attention stages applied to the loaded windows.
-/

noncomputable section

namespace Cert.Proof.Pieces

open Idealize.ShloMosaic Idealize.SL.Sem
open Cert.KernelIdeal Cert.KernelIdeal.Gen Cert.Proof.Model

set_option maxRecDepth 16384

variable {F : FTy → Type} [FloatOps F]

/-! ### What the scratch buffers hold, and the loads from them -/

section Loads

variable (c : Dev nD) (arg0 : Memref sig .tc .smem S4 .i32) (harg0 : arg0.IsWhole) (x0 : Vec F S4 .i32)

/-- One sequence's length, as loaded. -/
def len (b : Fin 4) : BitVec 32 :=
  View.readAt (Elt F) arg0.view (Rect.unit (s := S4) ![b.val] S1.size (by revert b; decide)).toLoadRect (harg0.unread x0)
    (Shape.Idx.first (show 0 < S1.numel by decide))

/-- The four windows of key scales. -/
def ksList (fh1 : HbBuf0 (F := F) c hbM0_1) : List (View.Piece (Elt F) S4x8x8x1152 .f32) :=
  [⟨Rect.unit ![3, 0, 0, 0] S1x8x8x1152.size (by decide), kernelRun0_A.sl.dma4 c arg0 harg0 x0 fh1⟩,
   ⟨Rect.unit ![2, 0, 0, 0] S1x8x8x1152.size (by decide), kernelRun0_A.sl.dma3 c arg0 harg0 x0 fh1⟩,
   ⟨Rect.unit ![1, 0, 0, 0] S1x8x8x1152.size (by decide), kernelRun0_A.sl.dma2 c arg0 harg0 x0 fh1⟩,
   ⟨Rect.unit ![0, 0, 0, 0] S1x8x8x1152.size (by decide), kernelRun0_A.sl.dma1 c arg0 harg0 x0 fh1⟩]

/-- The four windows of key codes. -/
def kcList (fh0 : HbBuf0 (F := F) c hbM0_0) : List (View.Piece (Elt F) S4x16384x128 .fp8e4m3) :=
  [⟨Rect.unit ![3, 0, 0] S1x16384x128.size (by decide), kernelRun0_A.sl.dma4_1 c arg0 harg0 x0 fh0⟩,
   ⟨Rect.unit ![2, 0, 0] S1x16384x128.size (by decide), kernelRun0_A.sl.dma3_1 c arg0 harg0 x0 fh0⟩,
   ⟨Rect.unit ![1, 0, 0] S1x16384x128.size (by decide), kernelRun0_A.sl.dma2_1 c arg0 harg0 x0 fh0⟩,
   ⟨Rect.unit ![0, 0, 0] S1x16384x128.size (by decide), kernelRun0_A.sl.dma1_1 c arg0 harg0 x0 fh0⟩]

/-- The four windows of value scales. -/
def vsList (fh3 : HbBuf0 (F := F) c hbM0_3) : List (View.Piece (Elt F) S4x8x8x1152 .f32) :=
  [⟨Rect.unit ![3, 0, 0, 0] S1x8x8x1152.size (by decide), kernelRun0_A.sl.dma4_2 c arg0 harg0 x0 fh3⟩,
   ⟨Rect.unit ![2, 0, 0, 0] S1x8x8x1152.size (by decide), kernelRun0_A.sl.dma3_2 c arg0 harg0 x0 fh3⟩,
   ⟨Rect.unit ![1, 0, 0, 0] S1x8x8x1152.size (by decide), kernelRun0_A.sl.dma2_2 c arg0 harg0 x0 fh3⟩,
   ⟨Rect.unit ![0, 0, 0, 0] S1x8x8x1152.size (by decide), kernelRun0_A.sl.dma1_2 c arg0 harg0 x0 fh3⟩]

/-- The four windows of value codes. -/
def vcList (fh2 : HbBuf0 (F := F) c hbM0_2) : List (View.Piece (Elt F) S4x16384x128 .fp8e4m3) :=
  [⟨Rect.unit ![3, 0, 0] S1x16384x128.size (by decide), kernelRun0_A.sl.dma4_3 c arg0 harg0 x0 fh2⟩,
   ⟨Rect.unit ![2, 0, 0] S1x16384x128.size (by decide), kernelRun0_A.sl.dma3_3 c arg0 harg0 x0 fh2⟩,
   ⟨Rect.unit ![1, 0, 0] S1x16384x128.size (by decide), kernelRun0_A.sl.dma2_3 c arg0 harg0 x0 fh2⟩,
   ⟨Rect.unit ![0, 0, 0] S1x16384x128.size (by decide), kernelRun0_A.sl.dma1_3 c arg0 harg0 x0 fh2⟩]

end Loads

theorem inb_s (b : Fin 4) (i : Fin 9) : ∀ a, (![b.val, 0, 0, 128 * i.val] : Fin 4 → ℕ) a + S1x8x8x128.size a ≤ S4x8x8x1152.size a := by
  revert b i; decide
theorem inb_k (b : Fin 4) (i : Fin 8) : ∀ a, (![b.val, 2048 * i.val, 0] : Fin 3 → ℕ) a + S1x2048x128.size a ≤ S4x16384x128.size a := by
  revert b i; decide
theorem inb_v (b : Fin 4) (i : Fin 16) : ∀ a, (![b.val, 1024 * i.val, 0] : Fin 3 → ℕ) a + S1x1024x128.size a ≤ S4x16384x128.size a := by
  revert b i; decide
theorem inb_w (q : Fin 2) : ∀ a, (![q.val, 0, 0] : Fin 3 → ℕ) a + S1x256x128.size a ≤ S2x256x128.size a := by
  revert q; decide

/-- A load of 128 columns of scales. -/
def ldS (arg : Memref sig .tc .vmem S4x8x8x1152 .f32) (L : List (View.Piece (Elt F) S4x8x8x1152 .f32)) (b : Fin 4) (i : Fin 9) :
    Vec F S1x8x8x128 .f32 :=
  arg.view.readCov L (Rect.unit (s := S4x8x8x1152) ![b.val, 0, 0, 128 * i.val] S1x8x8x128.size (inb_s b i)).toLoadRect

/-- A load of 128 tokens' codes. -/
def ldK (arg : Memref sig .tc .vmem S4x16384x128 .fp8e4m3) (L : List (View.Piece (Elt F) S4x16384x128 .fp8e4m3)) (b : Fin 4) (i : Fin 8) :
    Vec F S1x2048x128 .fp8e4m3 :=
  arg.view.readCov L (Rect.unit (s := S4x16384x128) ![b.val, 2048 * i.val, 0] S1x2048x128.size (inb_k b i)).toLoadRect

/-- A load of 64 tokens' codes. -/
def ldV (arg : Memref sig .tc .vmem S4x16384x128 .fp8e4m3) (L : List (View.Piece (Elt F) S4x16384x128 .fp8e4m3)) (b : Fin 4) (i : Fin 16) :
    Vec F S1x1024x128 .fp8e4m3 :=
  arg.view.readCov L (Rect.unit (s := S4x16384x128) ![b.val, 1024 * i.val, 0] S1x1024x128.size (inb_v b i)).toLoadRect

/-- A load of half of the heads' value scales. -/
def ldW (arg : Memref sig .tc .vmem S2x256x128 .bf16) (L : List (View.Piece (Elt F) S2x256x128 .bf16)) (q : Fin 2) :
    Vec F S1x256x128 .bf16 :=
  arg.view.readCov L (Rect.unit (s := S2x256x128) ![q.val, 0, 0] S1x256x128.size (inb_w q)).toLoadRect

/-- One sequence's queries, as loaded. -/
def ldX (arg : Memref sig .tc .vmem S4x1x32x256 .bf16) (harg : arg.IsWhole) (x : Vec F S4x1x32x256 .bf16)
    (b : Fin 4) : Vec F S1x1x32x256 .bf16 :=
  View.readAt (Elt F) arg.view (Rect.unit (s := S4x1x32x256) ![b.val, 0, 0, 0] S1x1x32x256.size (by revert b; decide)).toLoadRect (harg.unread x)

/-- The queries, as loaded. -/
def qOf (arg : Memref sig .tc .vmem S4x1x32x256 .bf16) (harg : arg.IsWhole) (x : Vec F S4x1x32x256 .bf16) : FVec F S128x256 .bf16 :=
  queries (ldX arg harg x 0) (ldX arg harg x 1) (ldX arg harg x 2) (ldX arg harg x 3)

variable [Named F] (c : Dev nD) (arg0 : Memref sig .tc .smem S4 .i32) (harg0 : arg0.IsWhole)
    (arg1 : Memref sig .tc .vmem S4x1x32x256 .bf16) (harg1 : arg1.IsWhole)
    (arg2 : Memref sig .tc .vmem S4x1x8x256 .bf16) (harg2 : arg2.IsWhole)
    (arg3 : Memref sig .tc .vmem S4x1x8x256 .bf16) (harg3 : arg3.IsWhole)
    (arg13 : Memref sig .tc .vmem S4x16384x128 .fp8e4m3) (arg14 : Memref sig .tc .vmem S4x8x8x1152 .f32)
    (arg15 : Memref sig .tc .vmem S4x16384x128 .fp8e4m3) (arg16 : Memref sig .tc .vmem S4x8x8x1152 .f32)
    (arg17 : Memref sig .tc .vmem S2x256x128 .bf16)
    (x0 : Vec F S4 .i32) (x1 : Vec F S4x1x32x256 .bf16) (x2 x3 : Vec F S4x1x8x256 .bf16)
    (fh0 : HbBuf0 (F := F) c hbM0_0) (fh1 : HbBuf0 (F := F) c hbM0_1) (fh2 : HbBuf0 (F := F) c hbM0_2) (fh3 : HbBuf0 (F := F) c hbM0_3)

/-- The score scale over the cap. -/
def capC : F .f32 := Named.named κ "cap_scale" 0x3AA3D70A#32

/-- The new rows' weights. -/
def enew : FVec F S128x1 .f32 := newWeight capC (qOf arg1 harg1 x1) (widened (rowsOf arg2 harg2 x2))

/-- The weights of one sequence's window and half of the heads. -/
def eOf (b : Fin 4) (q : Fin 2) : FVec F S16x1024 .f32 :=
  quadWeights q capC (len arg0 harg0 x0 b) (quadQ b q (qOf arg1 harg1 x1))
    (ldS arg14 (ksList c arg0 harg0 x0 fh1) b) (ldK arg13 (kcList c arg0 harg0 x0 fh0) b)

/-- The piece of the output of one sequence and half of the heads, with the value scales `vs`. -/
def pieceOf (b : Fin 4) (q : Fin 2) (vs : Vec F S1x256x128 .bf16) : FVec F S1x1x16x256 .bf16 :=
  outPiece q (eOf c arg0 harg0 arg1 harg1 arg13 arg14 x0 x1 fh0 fh1 b q) (quadE b q (enew arg1 harg1 arg2 harg2 x1 x2))
    (quadV b q (newValue (widened (rowsOf arg3 harg3 x3)))) vs (ldV arg15 (vcList c arg0 harg0 x0 fh2) b)

/-- The value scales of one sequence and half of the heads. -/
def wOf (b : Fin 4) (q : Fin 2) : FVec F S1x256x128 .bf16 :=
  quadScales q (len arg0 harg0 x0 b) (ldS arg16 (vsList c arg0 harg0 x0 fh3) b)

omit [Named F] in
theorem w00 : kernelRun0_A.sl.v3834 c arg0 harg0 arg16 x0 fh3 = wOf c arg0 harg0 arg16 x0 fh3 0 0 := (rfl)
omit [Named F] in
theorem w01 : kernelRun0_A.sl.v3837 c arg0 harg0 arg16 x0 fh3 = wOf c arg0 harg0 arg16 x0 fh3 0 1 := (rfl)
omit [Named F] in
theorem w10 : kernelRun0_A.sl.v5110 c arg0 harg0 arg16 x0 fh3 = wOf c arg0 harg0 arg16 x0 fh3 1 0 := (rfl)
omit [Named F] in
theorem w11 : kernelRun0_A.sl.v5113 c arg0 harg0 arg16 x0 fh3 = wOf c arg0 harg0 arg16 x0 fh3 1 1 := (rfl)
omit [Named F] in
theorem w20 : kernelRun0_A.sl.v6386 c arg0 harg0 arg16 x0 fh3 = wOf c arg0 harg0 arg16 x0 fh3 2 0 := (rfl)
omit [Named F] in
theorem w21 : kernelRun0_A.sl.v6389 c arg0 harg0 arg16 x0 fh3 = wOf c arg0 harg0 arg16 x0 fh3 2 1 := (rfl)
omit [Named F] in
theorem w30 : kernelRun0_A.sl.v7662 c arg0 harg0 arg16 x0 fh3 = wOf c arg0 harg0 arg16 x0 fh3 3 0 := (rfl)
omit [Named F] in
theorem w31 : kernelRun0_A.sl.v7665 c arg0 harg0 arg16 x0 fh3 = wOf c arg0 harg0 arg16 x0 fh3 3 1 := (rfl)
theorem p00 : kernelRun0_A.sl.v4177 c arg0 harg0 arg1 harg1 arg2 harg2 arg3 harg3 arg13 arg14 arg15 arg16 arg17 x0 x1 x2 x3 fh0 fh1 fh2 fh3 =
    pieceOf c arg0 harg0 arg1 harg1 arg2 harg2 arg3 harg3 arg13 arg14 arg15 x0 x1 x2 x3 fh0 fh1 fh2 0 0
      (ldW arg17 (kernelRun0_A.sl.HS4_2 c arg0 harg0 arg16 x0 fh3) 0) := (rfl)
theorem p01 : kernelRun0_A.sl.v4517 c arg0 harg0 arg1 harg1 arg2 harg2 arg3 harg3 arg13 arg14 arg15 arg16 arg17 x0 x1 x2 x3 fh0 fh1 fh2 fh3 =
    pieceOf c arg0 harg0 arg1 harg1 arg2 harg2 arg3 harg3 arg13 arg14 arg15 x0 x1 x2 x3 fh0 fh1 fh2 0 1
      (ldW arg17 (kernelRun0_A.sl.HS4_2 c arg0 harg0 arg16 x0 fh3) 1) := (rfl)
theorem p10 : kernelRun0_A.sl.v5453 c arg0 harg0 arg1 harg1 arg2 harg2 arg3 harg3 arg13 arg14 arg15 arg16 arg17 x0 x1 x2 x3 fh0 fh1 fh2 fh3 =
    pieceOf c arg0 harg0 arg1 harg1 arg2 harg2 arg3 harg3 arg13 arg14 arg15 x0 x1 x2 x3 fh0 fh1 fh2 1 0
      (ldW arg17 (kernelRun0_A.sl.HS4_4 c arg0 harg0 arg16 x0 fh3) 0) := (rfl)
theorem p11 : kernelRun0_A.sl.v5793 c arg0 harg0 arg1 harg1 arg2 harg2 arg3 harg3 arg13 arg14 arg15 arg16 arg17 x0 x1 x2 x3 fh0 fh1 fh2 fh3 =
    pieceOf c arg0 harg0 arg1 harg1 arg2 harg2 arg3 harg3 arg13 arg14 arg15 x0 x1 x2 x3 fh0 fh1 fh2 1 1
      (ldW arg17 (kernelRun0_A.sl.HS4_4 c arg0 harg0 arg16 x0 fh3) 1) := (rfl)
theorem p20 : kernelRun0_A.sl.v6729 c arg0 harg0 arg1 harg1 arg2 harg2 arg3 harg3 arg13 arg14 arg15 arg16 arg17 x0 x1 x2 x3 fh0 fh1 fh2 fh3 =
    pieceOf c arg0 harg0 arg1 harg1 arg2 harg2 arg3 harg3 arg13 arg14 arg15 x0 x1 x2 x3 fh0 fh1 fh2 2 0
      (ldW arg17 (kernelRun0_A.sl.HS4_6 c arg0 harg0 arg16 x0 fh3) 0) := (rfl)
theorem p21 : kernelRun0_A.sl.v7069 c arg0 harg0 arg1 harg1 arg2 harg2 arg3 harg3 arg13 arg14 arg15 arg16 arg17 x0 x1 x2 x3 fh0 fh1 fh2 fh3 =
    pieceOf c arg0 harg0 arg1 harg1 arg2 harg2 arg3 harg3 arg13 arg14 arg15 x0 x1 x2 x3 fh0 fh1 fh2 2 1
      (ldW arg17 (kernelRun0_A.sl.HS4_6 c arg0 harg0 arg16 x0 fh3) 1) := (rfl)
theorem p30 : k0_pay735 (kernelRun0_A.sl.r_4 c arg3 harg3 x3) (kernelRun0_A.sl.v7350 c arg0 harg0 arg1 harg1 arg2 harg2 arg13 arg14 x0 x1 x2 fh0 fh1) (kernelRun0_A.sl.v7678 c arg0 harg0 arg1 harg1 arg2 harg2 arg13 arg14 x0 x1 x2 fh0 fh1) (kernelRun0_A.sl.r_29 c arg0 harg0 arg1 harg1 arg2 harg2 arg13 arg14 arg15 arg16 arg17 x0 x1 x2 fh0 fh1 fh2 fh3) (kernelRun0_A.sl.r_30 c arg0 harg0 arg15 x0 fh2) (kernelRun0_A.sl.r_31 c arg0 harg0 arg15 x0 fh2) (kernelRun0_A.sl.r_32 c arg0 harg0 arg16 arg17 x0 fh3) (kernelRun0_A.sl.v7978 c arg0 harg0 arg15 x0 fh2) (kernelRun0_A.sl.v7886 c arg0 harg0 arg16 arg17 x0 fh3) =
    pieceOf c arg0 harg0 arg1 harg1 arg2 harg2 arg3 harg3 arg13 arg14 arg15 x0 x1 x2 x3 fh0 fh1 fh2 3 0
      (ldW arg17 (kernelRun0_A.sl.HS4_8 c arg0 harg0 arg16 x0 fh3) 0) := (rfl)
theorem p31 : k0_pay1 (kernelRun0_A.sl.r_4 c arg3 harg3 x3) (kernelRun0_A.sl.r_25 c arg0 harg0 arg1 harg1 arg2 harg2 arg13 arg14 x0 x1 x2 fh0 fh1) (kernelRun0_A.sl.r_34 c arg0 harg0 arg1 harg1 arg2 harg2 arg13 arg14 x0 x1 x2 fh0 fh1) (kernelRun0_A.sl.r_49 c arg0 harg0 arg1 harg1 arg2 harg2 arg13 arg14 arg15 arg16 arg17 x0 x1 x2 fh0 fh1 fh2 fh3) (kernelRun0_A.sl.r_50 c arg0 harg0 arg15 x0 fh2) (kernelRun0_A.sl.r_51 c arg0 harg0 arg15 x0 fh2) (kernelRun0_A.sl.v8326 c arg0 harg0 arg16 arg17 x0 fh3) =
    pieceOf c arg0 harg0 arg1 harg1 arg2 harg2 arg3 harg3 arg13 arg14 arg15 x0 x1 x2 x3 fh0 fh1 fh2 3 1
      (ldW arg17 (kernelRun0_A.sl.HS4_8 c arg0 harg0 arg16 x0 fh3) 1) := (rfl)

end Cert.Proof.Pieces
-- ==== Proof.KAttend.lean ====
module
public import proofs.«01_k».proof.Proof.KScores
public import proofs.«01_k».proof.Proof.KValues
public import proofs.«01_k».proof.Proof.KColumn
public import proofs.«01_k».proof.Proof.PiecesOut

@[expose] public section

/-!
The kernel's piece of the output for one sequence and half of the heads is attention over the fetched window.

A fetched window is described by two functions of the token's number in the cache: `S h g t`, the scale of group `g`,
and `C h e t`, the code of dimension `e`, both of head `h`.
-/

noncomputable section

namespace Cert.Proof.KAttend

open Idealize.ShloMosaic Idealize.ShloMosaic.Pointwise
open Cert.KernelIdeal Cert.KernelIdeal.Gen Cert.Proof.Attend Cert.Proof.Model Cert.Proof.KColumn
open Cert.Proof.KScores Cert.Proof.KValues
open Cert.Proof.Window (counts start_le)

set_option maxRecDepth 16384

theorem vSum_apply (t : Fin 16 → S16x256.Idx → EReal) (y : S16x256.Idx) : vSum (F := Ideal) t y = ∑ c, t c y := by
  simp only [Fin.sum_univ_castSucc, Fin.sum_univ_zero, zero_add]
  rfl

theorem join_apply (z w : S16x256.Idx → EReal) (e : S16x1.Idx → EReal) (i : Fin 16) (d : Fin 256) :
    shapeCast S1x1x16x256 (truncf (F := Ideal) .bf16
    (addf z (mulf (broadcastTo S16x256 e broadcasts_S16x1_S16x256) w))
    bitsLt_bf16_f32) shapeCasts_S16x256_S1x1x16x256 (ix4 0 0 i d) = z (ix2 i d) + e (ix2 i 0) * w (ix2 i d) := by
  pointwise

theorem newWeight_apply (cap : EReal) (q : S128x256.Idx → EReal) (kw : S32x256.Idx → EReal) (i : Fin 128) :
    newWeight (F := Ideal) cap q kw (ix2 i 0) = Ideal.exp (c50 * Ideal.tanh (newScore (F := Ideal) q kw (ix2 i 0) * cap)) := by
  unfold newWeight
  generalize newScore (F := Ideal) q kw = z
  pointwise
  rfl

theorem cap_eq : Pieces.capC (F := Ideal) = ((1 / 800 : ℝ) : EReal) := by
  rfl

theorem queries_apply (x : Fin 4 → S1x1x32x256.Idx → EReal) (i : Fin 128) (e : Fin 256) :
    queries (F := Ideal) (x 0) (x 1) (x 2) (x 3) (ix2 i e) = x ⟨i.val / 32, by omega⟩ (ix4 0 0 ⟨i.val % 32, by omega⟩ e) := by
  refine (Idealize.ShloMosaic.concatenate_ofFn_apply (t := S128x256) (s₁ := S32x256) 0 (N := 4)
    (fun u => shapeCast S32x256 (x u) shapeCasts_S1x1x32x256_S32x256) _ rfl 32 rfl (ix2 i e)
    ⟨i.val / 32, by omega⟩ rfl (ix2 ⟨i.val % 32, by omega⟩ e) rfl
    (fun b hb => match b with | ⟨0, _⟩ => absurd rfl hb | ⟨1, _⟩ => rfl)).trans ?_
  pointwise

theorem quadQ_apply (b : Fin 4) (q : Fin 2) (x : S128x256.Idx → EReal) (i : Fin 16) (e : Fin 256) :
    quadQ (F := Ideal) b q x (ix2 i e) = x (ix2 ⟨32 * b.val + 16 * q.val + i.val, by omega⟩ e) := by
  unfold quadQ
  pointwise

theorem quadV_apply (b : Fin 4) (q : Fin 2) (x : S128x256.Idx → EReal) (i : Fin 16) (e : Fin 256) :
    quadV (F := Ideal) b q x (ix2 i e) = x (ix2 ⟨32 * b.val + 16 * q.val + i.val, by omega⟩ e) := by
  unfold quadV
  pointwise

theorem quadE_apply (b : Fin 4) (q : Fin 2) (x : S128x1.Idx → EReal) (i : Fin 16) :
    quadE (F := Ideal) b q x (ix2 i 0) = x (ix2 ⟨32 * b.val + 16 * q.val + i.val, by omega⟩ 0) := by
  unfold quadE
  pointwise
theorem slt_eq (l : Fin 128) (lim : BitVec 32) (h : lim.toNat ≤ 128) :
    IntOp.cmpi .slt (BitVec.ofNat 32 l.val) lim = if l.val < lim.toNat then 1#1 else 0#1 := by
  have e1 : (BitVec.ofNat 32 l.val).toInt = l.val := by
    rw [BitVec.toInt_eq_toNat_cond, BitVec.toNat_ofNat, Nat.mod_eq_of_lt (by omega), if_pos (by omega)]
  have e2 : lim.toInt = lim.toNat := by
    rw [BitVec.toInt_eq_toNat_cond, if_pos (by omega)]
  unfold IntOp.cmpi
  simp only [BitVec.slt_eq_decide, e1, e2]
  by_cases hl : l.val < lim.toNat
  · rw [if_pos hl, decide_eq_true (by omega)]; rfl
  · rw [if_neg hl, decide_eq_false (by omega)]; rfl

theorem scaleTile_apply (lim sh : BitVec 32) (x y : S1x8x8x128.Idx → EReal) (h g : Fin 8) (l : Fin 128) (hl : lim.toNat ≤ 128) :
    scaleTile (F := Ideal) lim sh x y (ix3 h g l) =
      if l.val < lim.toNat then x (ix4 0 h g ⟨(l.val + 128 - sh.toNat % 128) % 128, by omega⟩)
      else y (ix4 0 h g ⟨(l.val + 128 - sh.toNat % 128) % 128, by omega⟩) := by
  unfold scaleTile rotated
  pointwise
  rw [slt_eq l lim hl]
  split <;> rfl

/-! ### The window -/

/-- Eight loads hold the codes of the keys, 128 tokens each. -/
abbrev HoldK (n : BitVec 32) (C : Fin 8 → Fin 256 → ℕ → EReal) (kc : Fin 8 → S1x2048x128.Idx → EReal) : Prop :=
  ∀ (i : Fin 8) (l : Fin 128) (j : Fin 2) (h : Fin 8) (e : Fin 128),
    kc i (ix3 0 ⟨16 * l.val + 8 * j.val + h.val, by omega⟩ e) = C h ⟨128 * j.val + e.val, by omega⟩ ((start n).toNat + 128 * i.val + l.val)

/-- Sixteen loads hold the codes of the values, 64 tokens each. -/
abbrev HoldV (n : BitVec 32) (C : Fin 8 → Fin 256 → ℕ → EReal) (vc : Fin 16 → S1x1024x128.Idx → EReal) : Prop :=
  ∀ (i : Fin 16) (l : Fin 64) (j : Fin 2) (h : Fin 8) (e : Fin 128),
    vc i (ix3 0 ⟨16 * l.val + 8 * j.val + h.val, by omega⟩ e) = C h ⟨128 * j.val + e.val, by omega⟩ ((start n).toNat + 64 * i.val + l.val)

section
variable (n : BitVec 32) (S : Fin 8 → Fin 8 → ℕ → EReal) (ld : Fin 9 → S1x8x8x128.Idx → EReal)
  (hld : ∀ (i : Fin 9) (h g : Fin 8) (l : Fin 128), ld i (ix4 0 h g l) = S h g (colOf (start n).toNat + 128 * i.val + l.val))
include hld

theorem tiles_apply (i : Fin 8) (h g : Fin 8) (l : Fin 128) :
    tiles (F := Ideal) n ld i (ix3 h g l) = S h g ((start n).toNat + 128 * i.val + l.val) := by
  have hs : (start n).toNat ≤ 7168 := start_le n
  obtain ⟨-, e2, e3⟩ := scalars ⟨(start n).toNat, by omega⟩ n (BitVec.eq_of_toNat_eq (by
    rw [BitVec.toNat_ofNat, Nat.mod_eq_of_lt (by dsimp only; omega)]))
  dsimp only at e2 e3
  unfold tiles
  have hc : colOf (start n).toNat ≤ (start n).toNat ∧ (start n).toNat ≤ colOf (start n).toNat + 128 := by
    unfold colOf; omega
  rw [scaleTile_apply _ _ _ _ _ _ _ (by rw [e2]; omega), hld, hld, e2]
  dsimp only
  split
  · exact congrArg (S h g) (by simp only [Fin.val_castSucc]; omega)
  · exact congrArg (S h g) (by simp only [Fin.val_succ]; omega)

variable (C : Fin 8 → Fin 256 → ℕ → EReal) (kc : Fin 8 → S1x2048x128.Idx → EReal)
  (hkc : HoldK n C kc)
include hkc

theorem quadWeights_apply (q : Fin 2) (x : S16x256.Idx → EReal) (hh r : Fin 4) (t : Fin 1024) :
    quadWeights (F := Ideal) q Pieces.capC n x ld kc (ix2 ⟨hh.val * 4 + r.val, by omega⟩ t) =
      weight (counts n t.val) (∑ e : Fin 256, x (ix2 ⟨hh.val * 4 + r.val, by omega⟩ e) *
        (C ⟨4 * q.val + hh.val, by omega⟩ e ((start n).toNat + t.val) *
          S ⟨4 * q.val + hh.val, by omega⟩ ⟨e.val / 32, by omega⟩ ((start n).toNat + t.val))) := by
  unfold quadWeights
  rw [weights_apply, valid_apply, scoresAll_apply, cap_eq]
  unfold weight capped
  refine congrArg (fun z => if counts n t.val = 1#1 then Ideal.exp (c50 * Ideal.tanh (z * ((1 / 800 : ℝ) : EReal))) else 0) ?_
  refine (sum_quads 256 hh.val hh.isLt _ fun k hk => ?_).trans (Finset.sum_congr rfl fun e _ => ?_)
  · rw [spreadQ_apply, if_neg (by dsimp only; omega), zero_mul]
  · rw [spreadQ_apply, if_pos (by dsimp only; omega), kTile_apply, tiles_apply n S ld hld]
    refine congrArg₂ (· * ·) (congrArg (fun z => x (ix2 _ z)) (Fin.ext (by dsimp only; omega))) (congrArg₂ (· * ·) ?_ ?_)
    · have := hkc ⟨t.val / 128, by omega⟩ ⟨t.val % 128, by omega⟩ ⟨e.val / 128, by omega⟩ ⟨4 * q.val + hh.val, by omega⟩ ⟨e.val % 128, by omega⟩
      refine Eq.trans (congrArg₂ (fun y z => kc _ (ix3 0 y z)) (Fin.ext (by dsimp only; omega)) (Fin.ext (by dsimp only; omega))) (this.trans ?_)
      exact congrArg₂ (C _) (Fin.ext (by dsimp only; omega)) (by dsimp only; omega)
    · have e1 : (⟨4 * q.val + (4 * e.val + hh.val) % 4, by omega⟩ : Fin 8) = ⟨4 * q.val + hh.val, by omega⟩ := Fin.ext (by dsimp only; omega)
      have e2 : (⟨(4 * e.val + hh.val) / 128, by omega⟩ : Fin 8) = ⟨e.val / 32, by omega⟩ := Fin.ext (by dsimp only; omega)
      have e3 : (start n).toNat + 128 * (t.val / 128) + t.val % 128 = (start n).toNat + t.val := by omega
      dsimp only
      rw [e1, e2, e3]

end

section
variable (n : BitVec 32) (S : Fin 8 → Fin 8 → ℕ → EReal) (ld : Fin 9 → S1x8x8x128.Idx → EReal)
  (hld : ∀ (i : Fin 9) (h g : Fin 8) (l : Fin 128), ld i (ix4 0 h g l) = S h g (colOf (start n).toNat + 128 * i.val + l.val))
  (C : Fin 8 → Fin 256 → ℕ → EReal) (vc : Fin 16 → S1x1024x128.Idx → EReal)
  (hvc : HoldV n C vc)

include hld in
theorem quadScales_apply (q : Fin 2) (t : Fin 64) (hh : Fin 4) (c : Fin 16) (g : Fin 8) :
    quadScales (F := Ideal) q n ld (ix3 0 ⟨t.val * 4 + hh.val, by omega⟩ ⟨8 * c.val + g.val, by omega⟩) =
      S ⟨4 * q.val + hh.val, by omega⟩ g ((start n).toNat + 64 * c.val + t.val) := by
  unfold quadScales
  rw [scaleRows_apply, tiles_apply n S ld hld]
  exact congrArg (S _ g) (by dsimp only; omega)

include hld hvc in
theorem chunk_apply (q : Fin 2) (p : S16x1024.Idx → EReal) (c : Fin 16) (hh r : Fin 4) (d : Fin 256) :
    chunk (F := Ideal) q (spreadP (F := Ideal) p) (quadScales (F := Ideal) q n ld) vc c (ix2 ⟨hh.val * 4 + r.val, by omega⟩ d) =
      ∑ t : Fin 64, p (ix2 ⟨hh.val * 4 + r.val, by omega⟩ ⟨64 * c.val + t.val, by omega⟩) *
        (C ⟨4 * q.val + hh.val, by omega⟩ d ((start n).toNat + (64 * c.val + t.val)) *
          S ⟨4 * q.val + hh.val, by omega⟩ ⟨d.val / 32, by omega⟩ ((start n).toNat + (64 * c.val + t.val))) := by
  unfold chunk
  rw [vPart_apply]
  refine (sum_quads 64 hh.val hh.isLt _ fun k hk => ?_).trans (Finset.sum_congr rfl fun t _ => ?_)
  · rw [spreadP_apply, if_neg (by dsimp only; omega), zero_mul]
  · rw [spreadP_apply, if_pos (by dsimp only; omega)]
    have e0 : (⟨4 * t.val + hh.val, by omega⟩ : Fin 256) = ⟨t.val * 4 + hh.val, by omega⟩ := Fin.ext (by dsimp only; omega)
    have hv := vTile_apply q c (vc c) (quadScales (F := Ideal) q n ld) t hh d
    rw [quadScales_apply n S ld hld q t hh c ⟨d.val / 32, by omega⟩] at hv
    refine congrArg₂ (· * ·) (congrArg (fun z => p (ix2 _ z)) (Fin.ext (by dsimp only; omega))) ?_
    refine Eq.trans (congrArg (fun z => vTile (F := Ideal) (4 * q.val) (sl_v q) (8 + 4 * q.val) (sl_v' q) (8 * c.val) (sl_c c) (vc c)
      (quadScales (F := Ideal) q n ld) (ix2 z d)) e0) (hv.trans ?_)
    have := hvc c t ⟨d.val / 128, by omega⟩ ⟨4 * q.val + hh.val, by omega⟩ ⟨d.val % 128, by omega⟩
    refine congrArg₂ (· * ·) ?_ (congrArg (S _ _) (by omega))
    refine Eq.trans (congrArg (fun y => vc c (ix3 0 y _)) (Fin.ext (by dsimp only; omega))) (this.trans ?_)
    exact congrArg₂ (C _) (Fin.ext (by dsimp only; omega)) (by omega)

include hld hvc in
theorem outPiece_apply (q : Fin 2) (e : S16x1024.Idx → EReal) (en : S16x1.Idx → EReal) (vn : S16x256.Idx → EReal) (hh r : Fin 4) (d : Fin 256) :
    outPiece (F := Ideal) q e en vn (quadScales (F := Ideal) q n ld) vc (ix4 0 0 ⟨hh.val * 4 + r.val, by omega⟩ d) =
      (∑ t : Fin 1024, (e (ix2 ⟨hh.val * 4 + r.val, by omega⟩ t) * Ideal.div 1 ((∑ u : Fin 1024, e (ix2 ⟨hh.val * 4 + r.val, by omega⟩ u)) + en (ix2 ⟨hh.val * 4 + r.val, by omega⟩ 0))) *
        (C ⟨4 * q.val + hh.val, by omega⟩ d ((start n).toNat + t.val) *
          S ⟨4 * q.val + hh.val, by omega⟩ ⟨d.val / 32, by omega⟩ ((start n).toNat + t.val))) +
      (en (ix2 ⟨hh.val * 4 + r.val, by omega⟩ 0) * Ideal.div 1 ((∑ u : Fin 1024, e (ix2 ⟨hh.val * 4 + r.val, by omega⟩ u)) + en (ix2 ⟨hh.val * 4 + r.val, by omega⟩ 0))) * vn (ix2 ⟨hh.val * 4 + r.val, by omega⟩ d) := by
  unfold outPiece
  rw [join_apply, vSum_apply, probNew_apply, invSum_apply]
  refine congrArg (· + _) ?_
  rw [← sum_chunks]
  refine Finset.sum_congr rfl fun c _ => ?_
  rw [chunk_apply n S ld hld C vc hvc]
  refine Finset.sum_congr rfl fun t _ => ?_
  rw [probs_apply, invSum_apply]

end

end Cert.Proof.KAttend
-- ==== Proof.KWindow.lean ====
module
public import proofs.«01_k».proof.Proof.KColumn
public import proofs.«01_k».proof.Proof.Window
public import proofs.«01_k».proof.Proof.PiecesOut
public import Idealize.ShloMosaic.Lib.Pipeline.ValueKit

@[expose] public section

/-!
What the kernel's loads from its scratch buffers hold: the codes and the scales of the fetched windows.
-/

noncomputable section

namespace Cert.Proof.KWindow

open Idealize.ShloMosaic Idealize.ShloMosaic.Pointwise Idealize.SL.Sem
open Cert.KernelIdeal Cert.KernelIdeal.Gen Cert.Proof.Model Cert.Proof.KColumn Cert.Proof.Pieces
open Cert.Proof.Window (start_le)

set_option maxRecDepth 16384

/-- The columns of scales the four windows hold. -/
def srcS (f : S4x8x8x8192.Idx → EReal) (n : Fin 4 → BitVec 32) (y : S4x8x8x1152.Idx) : EReal :=
  f (ix4 (y 0) (y 1) (y 2) ⟨colOf (start (n (y 0))).toNat + (y 3).val, by
    have h : (y 3).val < 1152 := (y 3).isLt
    unfold colOf; omega⟩)

/-- The rows of codes the four windows hold. -/
def srcC (f : S4x131072x128.Idx → EReal) (n : Fin 4 → BitVec 32) (y : S4x16384x128.Idx) : EReal :=
  f (ix3 (y 0) ⟨16 * (start (n (y 0))).toNat + (y 1).val, by
    have h : (y 1).val < 16384 := (y 1).isLt
    have := start_le (n (y 0))
    change (start (n (y 0))).toNat ≤ 7168 at this
    omega⟩ (y 2))

theorem column_toNat (n : BitVec 32) : (column n).toNat = colOf (start n).toNat := by
  have hs : (start n).toNat ≤ 7168 := start_le n
  exact (scalars ⟨(start n).toNat, by omega⟩ n (BitVec.eq_of_toNat_eq (by
    rw [BitVec.toNat_ofNat, Nat.mod_eq_of_lt (by dsimp only; omega)]))).1

theorem rows_toNat (n : BitVec 32) : (Scalar.muli (start n) 16#32).toNat = 16 * (start n).toNat := by
  have hs : (start n).toNat ≤ 7168 := start_le n
  generalize start n = s at hs ⊢
  change (s * 16#32).toNat = _
  rw [BitVec.toNat_mul]
  change s.toNat * 16 % 2 ^ 32 = _
  omega

theorem off1 (n : BitVec 32) : k0_off1 n = ![0, 0, 0, colOf (start n).toNat] :=
  (show k0_off1 n = ![0, 0, 0, (column n).toNat] from rfl).trans (by rw [column_toNat])
theorem off3 (n : BitVec 32) : k0_off3 n = ![1, 0, 0, colOf (start n).toNat] :=
  (show k0_off3 n = ![1, 0, 0, (column n).toNat] from rfl).trans (by rw [column_toNat])
theorem off5 (n : BitVec 32) : k0_off5 n = ![2, 0, 0, colOf (start n).toNat] :=
  (show k0_off5 n = ![2, 0, 0, (column n).toNat] from rfl).trans (by rw [column_toNat])
theorem off7 (n : BitVec 32) : k0_off7 n = ![3, 0, 0, colOf (start n).toNat] :=
  (show k0_off7 n = ![3, 0, 0, (column n).toNat] from rfl).trans (by rw [column_toNat])
theorem off2 (n : BitVec 32) : k0_off2 n = ![0, 16 * (start n).toNat, 0] :=
  (show k0_off2 n = ![0, (Scalar.muli (start n) 16#32).toNat, 0] from rfl).trans (by rw [rows_toNat])
theorem off4 (n : BitVec 32) : k0_off4 n = ![1, 16 * (start n).toNat, 0] :=
  (show k0_off4 n = ![1, (Scalar.muli (start n) 16#32).toNat, 0] from rfl).trans (by rw [rows_toNat])
theorem off6 (n : BitVec 32) : k0_off6 n = ![2, 16 * (start n).toNat, 0] :=
  (show k0_off6 n = ![2, (Scalar.muli (start n) 16#32).toNat, 0] from rfl).trans (by rw [rows_toNat])
theorem off8 (n : BitVec 32) : k0_off8 n = ![3, 16 * (start n).toNat, 0] :=
  (show k0_off8 n = ![3, (Scalar.muli (start n) 16#32).toNat, 0] from rfl).trans (by rw [rows_toNat])

/-! ### The fetched pieces -/

theorem fetchS (f : S4x8x8x8192.Idx → EReal) (n : Fin 4 → BitVec 32) (b : Fin 4) (off p : Fin 4 → ℕ)
    (h : off = ![b.val, 0, 0, colOf (start (n b)).toNat]) (hp : p = ![b.val, 0, 0, 0]) (inb) (inb')
    (x : S1x8x8x1152.Idx) :
    f ((Rect.unit (s := S4x8x8x8192) off S1x8x8x1152.size inb).emb x) =
      srcS f n ((Rect.unit (s := S4x8x8x1152) p S1x8x8x1152.size inb').emb x) := by
  subst h hp
  have hb : (Rect.unit (s := S4x8x8x1152) ![b.val, 0, 0, 0] S1x8x8x1152.size inb').emb x 0 = b := by
    refine Fin.ext ?_
    have h0 : (x 0).val < 1 := (x 0).isLt
    show b.val + 1 * (x 0).val = b.val
    omega
  unfold srcS
  refine congrArg f (funext fun a => Fin.ext ?_)
  match a with
  | ⟨0, _⟩ => rfl
  | ⟨1, _⟩ => rfl
  | ⟨2, _⟩ => rfl
  | ⟨3, _⟩ =>
    show colOf (start (n b)).toNat + 1 * (x 3).val = colOf (start (n _)).toNat + (0 + 1 * (x 3).val)
    rw [hb]; omega

theorem fetchC (f : S4x131072x128.Idx → EReal) (n : Fin 4 → BitVec 32) (b : Fin 4) (off p : Fin 3 → ℕ)
    (h : off = ![b.val, 16 * (start (n b)).toNat, 0]) (hp : p = ![b.val, 0, 0]) (inb) (inb')
    (x : S1x16384x128.Idx) :
    f ((Rect.unit (s := S4x131072x128) off S1x16384x128.size inb).emb x) =
      srcC f n ((Rect.unit (s := S4x16384x128) p S1x16384x128.size inb').emb x) := by
  subst h hp
  have hb : (Rect.unit (s := S4x16384x128) ![b.val, 0, 0] S1x16384x128.size inb').emb x 0 = b := by
    refine Fin.ext ?_
    have h0 : (x 0).val < 1 := (x 0).isLt
    show b.val + 1 * (x 0).val = b.val
    omega
  unfold srcC
  refine congrArg f (funext fun a => Fin.ext ?_)
  match a with
  | ⟨0, _⟩ => rfl
  | ⟨1, _⟩ =>
    show 16 * (start (n b)).toNat + 1 * (x 1).val = 16 * (start (n _)).toNat + (0 + 1 * (x 1).val)
    rw [hb]; omega
  | ⟨2, _⟩ => rfl

section
variable (c : Dev nD) (arg0 : Memref sig .tc .smem S4 .i32) (harg0 : arg0.IsWhole) (x0 : Vec Ideal S4 .i32)

theorem ksPieces (fh1 : HbBuf0 (F := Ideal) c hbM0_1) : ∀ p ∈ ksList c arg0 harg0 x0 fh1, ∀ x : p.1.shape.Idx,
    p.2 x = srcS fh1 (len arg0 harg0 x0) (p.1.emb x) := by
  unfold ksList
  intro p hp x
  simp only [List.mem_cons, List.not_mem_nil, or_false] at hp
  rcases hp with rfl | rfl | rfl | rfl
  · exact fetchS fh1 (len arg0 harg0 x0) 3 _ _ (off7 (len arg0 harg0 x0 3)) rfl _ (by decide) x
  · exact fetchS fh1 (len arg0 harg0 x0) 2 _ _ (off5 (len arg0 harg0 x0 2)) rfl _ (by decide) x
  · exact fetchS fh1 (len arg0 harg0 x0) 1 _ _ (off3 (len arg0 harg0 x0 1)) rfl _ (by decide) x
  · exact fetchS fh1 (len arg0 harg0 x0) 0 _ _ (off1 (len arg0 harg0 x0 0)) rfl _ (by decide) x

theorem vsPieces (fh3 : HbBuf0 (F := Ideal) c hbM0_3) : ∀ p ∈ vsList c arg0 harg0 x0 fh3, ∀ x : p.1.shape.Idx,
    p.2 x = srcS fh3 (len arg0 harg0 x0) (p.1.emb x) := by
  unfold vsList
  intro p hp x
  simp only [List.mem_cons, List.not_mem_nil, or_false] at hp
  rcases hp with rfl | rfl | rfl | rfl
  · exact fetchS fh3 (len arg0 harg0 x0) 3 _ _ (off7 (len arg0 harg0 x0 3)) rfl _ (by decide) x
  · exact fetchS fh3 (len arg0 harg0 x0) 2 _ _ (off5 (len arg0 harg0 x0 2)) rfl _ (by decide) x
  · exact fetchS fh3 (len arg0 harg0 x0) 1 _ _ (off3 (len arg0 harg0 x0 1)) rfl _ (by decide) x
  · exact fetchS fh3 (len arg0 harg0 x0) 0 _ _ (off1 (len arg0 harg0 x0 0)) rfl _ (by decide) x

theorem kcPieces (fh0 : HbBuf0 (F := Ideal) c hbM0_0) : ∀ p ∈ kcList c arg0 harg0 x0 fh0, ∀ x : p.1.shape.Idx,
    p.2 x = srcC fh0 (len arg0 harg0 x0) (p.1.emb x) := by
  unfold kcList
  intro p hp x
  simp only [List.mem_cons, List.not_mem_nil, or_false] at hp
  rcases hp with rfl | rfl | rfl | rfl
  · exact fetchC fh0 (len arg0 harg0 x0) 3 _ _ (off8 (len arg0 harg0 x0 3)) rfl _ (by decide) x
  · exact fetchC fh0 (len arg0 harg0 x0) 2 _ _ (off6 (len arg0 harg0 x0 2)) rfl _ (by decide) x
  · exact fetchC fh0 (len arg0 harg0 x0) 1 _ _ (off4 (len arg0 harg0 x0 1)) rfl _ (by decide) x
  · exact fetchC fh0 (len arg0 harg0 x0) 0 _ _ (off2 (len arg0 harg0 x0 0)) rfl _ (by decide) x

theorem vcPieces (fh2 : HbBuf0 (F := Ideal) c hbM0_2) : ∀ p ∈ vcList c arg0 harg0 x0 fh2, ∀ x : p.1.shape.Idx,
    p.2 x = srcC fh2 (len arg0 harg0 x0) (p.1.emb x) := by
  unfold vcList
  intro p hp x
  simp only [List.mem_cons, List.not_mem_nil, or_false] at hp
  rcases hp with rfl | rfl | rfl | rfl
  · exact fetchC fh2 (len arg0 harg0 x0) 3 _ _ (off8 (len arg0 harg0 x0 3)) rfl _ (by decide) x
  · exact fetchC fh2 (len arg0 harg0 x0) 2 _ _ (off6 (len arg0 harg0 x0 2)) rfl _ (by decide) x
  · exact fetchC fh2 (len arg0 harg0 x0) 1 _ _ (off4 (len arg0 harg0 x0 1)) rfl _ (by decide) x
  · exact fetchC fh2 (len arg0 harg0 x0) 0 _ _ (off2 (len arg0 harg0 x0 0)) rfl _ (by decide) x

end

/-! ### Each buffer is covered by its four windows -/

theorem coverS (d0 d1 d2 d3 : S1x8x8x1152.Idx → EReal) (y : S4x8x8x1152.Idx) :
    ∃ p ∈ ([⟨Rect.unit ![3, 0, 0, 0] S1x8x8x1152.size (by decide), d3⟩, ⟨Rect.unit ![2, 0, 0, 0] S1x8x8x1152.size (by decide), d2⟩,
      ⟨Rect.unit ![1, 0, 0, 0] S1x8x8x1152.size (by decide), d1⟩, ⟨Rect.unit ![0, 0, 0, 0] S1x8x8x1152.size (by decide), d0⟩] :
      List (View.Piece (Elt Ideal) S4x8x8x1152 .f32)), y ∈ p.1.set := by
  have h0 : (y 0).val < 4 := (y 0).isLt
  have key : ∀ (b : Fin 4) (inb), (y 0).val = b.val → y ∈ (Rect.unit (s := S4x8x8x1152) ![b.val, 0, 0, 0] S1x8x8x1152.size inb).set := fun b inb hb => by
    refine Rect.mem_set_unit.mpr fun a => ?_
    match a with
    | ⟨0, _⟩ => exact ⟨hb.ge, by show (y 0).val < b.val + 1; omega⟩
    | ⟨1, _⟩ => exact ⟨Nat.zero_le _, by show (y 1).val < 0 + 8; have : (y 1).val < 8 := (y 1).isLt; omega⟩
    | ⟨2, _⟩ => exact ⟨Nat.zero_le _, by show (y 2).val < 0 + 8; have : (y 2).val < 8 := (y 2).isLt; omega⟩
    | ⟨3, _⟩ => exact ⟨Nat.zero_le _, by show (y 3).val < 0 + 1152; have : (y 3).val < 1152 := (y 3).isLt; omega⟩
  rcases (by omega : (y 0).val = 3 ∨ (y 0).val = 2 ∨ (y 0).val = 1 ∨ (y 0).val = 0) with h | h | h | h
  · exact ⟨_, .head _, key 3 (by decide) h⟩
  · exact ⟨_, .tail _ (.head _), key 2 (by decide) h⟩
  · exact ⟨_, .tail _ (.tail _ (.head _)), key 1 (by decide) h⟩
  · exact ⟨_, .tail _ (.tail _ (.tail _ (.head _))), key 0 (by decide) h⟩

theorem coverC (d0 d1 d2 d3 : S1x16384x128.Idx → EReal) (y : S4x16384x128.Idx) :
    ∃ p ∈ ([⟨Rect.unit ![3, 0, 0] S1x16384x128.size (by decide), d3⟩, ⟨Rect.unit ![2, 0, 0] S1x16384x128.size (by decide), d2⟩,
      ⟨Rect.unit ![1, 0, 0] S1x16384x128.size (by decide), d1⟩, ⟨Rect.unit ![0, 0, 0] S1x16384x128.size (by decide), d0⟩] :
      List (View.Piece (Elt Ideal) S4x16384x128 .fp8e4m3)), y ∈ p.1.set := by
  have h0 : (y 0).val < 4 := (y 0).isLt
  have key : ∀ (b : Fin 4) (inb), (y 0).val = b.val → y ∈ (Rect.unit (s := S4x16384x128) ![b.val, 0, 0] S1x16384x128.size inb).set := fun b inb hb => by
    refine Rect.mem_set_unit.mpr fun a => ?_
    match a with
    | ⟨0, _⟩ => exact ⟨hb.ge, by show (y 0).val < b.val + 1; omega⟩
    | ⟨1, _⟩ => exact ⟨Nat.zero_le _, by show (y 1).val < 0 + 16384; have : (y 1).val < 16384 := (y 1).isLt; omega⟩
    | ⟨2, _⟩ => exact ⟨Nat.zero_le _, by show (y 2).val < 0 + 128; have : (y 2).val < 128 := (y 2).isLt; omega⟩
  rcases (by omega : (y 0).val = 3 ∨ (y 0).val = 2 ∨ (y 0).val = 1 ∨ (y 0).val = 0) with h | h | h | h
  · exact ⟨_, .head _, key 3 (by decide) h⟩
  · exact ⟨_, .tail _ (.head _), key 2 (by decide) h⟩
  · exact ⟨_, .tail _ (.tail _ (.head _)), key 1 (by decide) h⟩
  · exact ⟨_, .tail _ (.tail _ (.tail _ (.head _))), key 0 (by decide) h⟩

section
variable (c : Dev nD) (arg0 : Memref sig .tc .smem S4 .i32) (harg0 : arg0.IsWhole) (x0 : Vec Ideal S4 .i32)

theorem ksCover (fh1 : HbBuf0 (F := Ideal) c hbM0_1) (y : S4x8x8x1152.Idx) : ∃ p ∈ ksList c arg0 harg0 x0 fh1, y ∈ p.1.set := by
  unfold ksList
  exact coverS _ _ _ _ y
theorem vsCover (fh3 : HbBuf0 (F := Ideal) c hbM0_3) (y : S4x8x8x1152.Idx) : ∃ p ∈ vsList c arg0 harg0 x0 fh3, y ∈ p.1.set := by
  unfold vsList
  exact coverS _ _ _ _ y
theorem kcCover (fh0 : HbBuf0 (F := Ideal) c hbM0_0) (y : S4x16384x128.Idx) : ∃ p ∈ kcList c arg0 harg0 x0 fh0, y ∈ p.1.set := by
  unfold kcList
  exact coverC _ _ _ _ y
theorem vcCover (fh2 : HbBuf0 (F := Ideal) c hbM0_2) (y : S4x16384x128.Idx) : ∃ p ∈ vcList c arg0 harg0 x0 fh2, y ∈ p.1.set := by
  unfold vcList
  exact coverC _ _ _ _ y

end

/-! ### The buffer of value scales: each half of the heads reads what was stored last -/

section
variable (arg17 : Memref sig .tc .vmem S2x256x128 .bf16) (w0 w1 : Vec Ideal S1x256x128 .bf16) (L : List (View.Piece (Elt Ideal) S2x256x128 .bf16))

theorem ldW_one (inb) : ldW arg17 (⟨Rect.unit (s := S2x256x128) ![1, 0, 0] S1x256x128.size inb, w1⟩ :: L) 1 = w1 := by
  unfold ldW
  rw [View.readCov_eq_canon']
  funext z
  exact View.canon_cons_emb (Rect.unit (s := S2x256x128) ![1, 0, 0] S1x256x128.size inb) w1 L z

theorem ldW_zero (inb) (inb') : ldW arg17 (⟨Rect.unit (s := S2x256x128) ![1, 0, 0] S1x256x128.size inb, w1⟩ ::
    ⟨Rect.unit (s := S2x256x128) ![0, 0, 0] S1x256x128.size inb', w0⟩ :: L) 0 = w0 := by
  unfold ldW
  rw [View.readCov_eq_canon']
  funext z
  refine (View.canon_cons_of_not_mem _ _ fun hm => ?_).trans
    (View.canon_cons_emb (Rect.unit (s := S2x256x128) ![0, 0, 0] S1x256x128.size inb') w0 L z)
  have h := ((Rect.mem_set_unit (inb := inb)).mp hm 0).1
  have h0 : (z 0).val < 1 := (z 0).isLt
  have h1 : 1 ≤ 0 + 1 * (z 0).val := h
  omega

end

/-! ### The loads -/

section
variable (f : S4x8x8x8192.Idx → EReal) (n : Fin 4 → BitVec 32) (arg : Memref sig .tc .vmem S4x8x8x1152 .f32)
  (L : List (View.Piece (Elt Ideal) S4x8x8x1152 .f32)) (hL : ∀ p ∈ L, ∀ x : p.1.shape.Idx, p.2 x = srcS f n (p.1.emb x))
  (hc : ∀ y : S4x8x8x1152.Idx, ∃ p ∈ L, y ∈ p.1.set)
include hL hc

theorem ldS_apply (b : Fin 4) (i : Fin 9) (h g : Fin 8) (l : Fin 128) :
    ldS arg L b i (ix4 0 h g l) = f (ix4 b h g ⟨colOf (start (n b)).toNat + 128 * i.val + l.val, by unfold colOf; omega⟩) := by
  unfold ldS
  rw [View.readCov_eq_canon']
  refine (View.canon_apply_of_pieces (srcS f n) L hL _ (hc _)).trans ?_
  have hb : (Rect.unit (s := S4x8x8x1152) ![b.val, 0, 0, 128 * i.val] S1x8x8x128.size (inb_s b i)).toLoadRect.idx (ix4 0 h g l) 0 = b :=
    Fin.ext (show b.val + 1 * 0 = b.val by omega)
  unfold srcS
  refine congrArg f (funext fun a => Fin.ext ?_)
  match a with
  | ⟨0, _⟩ => show b.val + 1 * 0 = b.val; omega
  | ⟨1, _⟩ => show 0 + 1 * h.val = h.val; omega
  | ⟨2, _⟩ => show 0 + 1 * g.val = g.val; omega
  | ⟨3, _⟩ =>
    show colOf (start (n _)).toNat + (128 * i.val + 1 * l.val) = colOf (start (n b)).toNat + 128 * i.val + l.val
    rw [hb]; omega

end

section
variable (f : S4x131072x128.Idx → EReal) (n : Fin 4 → BitVec 32) (arg : Memref sig .tc .vmem S4x16384x128 .fp8e4m3)
  (L : List (View.Piece (Elt Ideal) S4x16384x128 .fp8e4m3)) (hL : ∀ p ∈ L, ∀ x : p.1.shape.Idx, p.2 x = srcC f n (p.1.emb x))
  (hc : ∀ y : S4x16384x128.Idx, ∃ p ∈ L, y ∈ p.1.set)
include hL hc

theorem ldK_apply (b : Fin 4) (i : Fin 8) (l : Fin 2048) (e : Fin 128) :
    ldK arg L b i (ix3 0 l e) = f (ix3 b ⟨16 * (start (n b)).toNat + 2048 * i.val + l.val, by
      have := start_le (n b); change (start (n b)).toNat ≤ 7168 at this; omega⟩ e) := by
  unfold ldK
  rw [View.readCov_eq_canon']
  refine (View.canon_apply_of_pieces (srcC f n) L hL _ (hc _)).trans ?_
  have hb : (Rect.unit (s := S4x16384x128) ![b.val, 2048 * i.val, 0] S1x2048x128.size (inb_k b i)).toLoadRect.idx (ix3 0 l e) 0 = b :=
    Fin.ext (show b.val + 1 * 0 = b.val by omega)
  unfold srcC
  refine congrArg f (funext fun a => Fin.ext ?_)
  match a with
  | ⟨0, _⟩ => show b.val + 1 * 0 = b.val; omega
  | ⟨1, _⟩ =>
    show 16 * (start (n _)).toNat + (2048 * i.val + 1 * l.val) = 16 * (start (n b)).toNat + 2048 * i.val + l.val
    rw [hb]; omega
  | ⟨2, _⟩ => show 0 + 1 * e.val = e.val; omega

theorem ldV_apply (b : Fin 4) (i : Fin 16) (l : Fin 1024) (e : Fin 128) :
    ldV arg L b i (ix3 0 l e) = f (ix3 b ⟨16 * (start (n b)).toNat + 1024 * i.val + l.val, by
      have := start_le (n b); change (start (n b)).toNat ≤ 7168 at this; omega⟩ e) := by
  unfold ldV
  rw [View.readCov_eq_canon']
  refine (View.canon_apply_of_pieces (srcC f n) L hL _ (hc _)).trans ?_
  have hb : (Rect.unit (s := S4x16384x128) ![b.val, 1024 * i.val, 0] S1x1024x128.size (inb_v b i)).toLoadRect.idx (ix3 0 l e) 0 = b :=
    Fin.ext (show b.val + 1 * 0 = b.val by omega)
  unfold srcC
  refine congrArg f (funext fun a => Fin.ext ?_)
  match a with
  | ⟨0, _⟩ => show b.val + 1 * 0 = b.val; omega
  | ⟨1, _⟩ =>
    show 16 * (start (n _)).toNat + (1024 * i.val + 1 * l.val) = 16 * (start (n b)).toNat + 1024 * i.val + l.val
    rw [hb]; omega
  | ⟨2, _⟩ => show 0 + 1 * e.val = e.val; omega

end

end Cert.Proof.KWindow
-- ==== Proof.KHost.lean ====
module
public import proofs.«01_k».proof.Proof.Gen.KernelIdeal.Value
public import Idealize.ShloMosaic.Lib.Pipeline.ValueKit
public import Idealize.ShloMosaic.Lib.Pointwise

@[expose] public section

/-!
The arrays the kernel fetches from, entry by entry: the cached codes as rows of 128 lanes and the cached scales with the
tokens along the lanes.
-/

noncomputable section

namespace Cert.Proof.KHost

open Idealize.ShloMosaic Idealize.ShloMosaic.Pointwise Idealize.SL.Sem
open Idealize.ShloMosaic.TcCoe
open Cert.KernelIdeal Cert.KernelIdeal.Gen

set_option maxRecDepth 16384

/-- The cached codes as rows of 128 lanes: a token's row has sixteen of them, the half of the dimensions above the head. -/
def rows (x : S4x8192x8x256.Idx → EReal) : S4x131072x128.Idx → EReal :=
  shapeCast S4x131072x128
    (transpose S4x8192x2x8x128 [0, 1, 3, 2, 4]
      (shapeCast S4x8192x8x2x128 x shapeCasts_S4x8192x8x256_S4x8192x8x2x128)
      transposes_S4x8192x8x2x128_S4x8192x2x8x128_0_1_3_2_4)
    shapeCasts_S4x8192x2x8x128_S4x131072x128

/-- The cached scales with the tokens along the lanes. -/
def lanes (x : S4x8192x8x8.Idx → EReal) : S4x8x8x8192.Idx → EReal :=
  transpose S4x8x8x8192 [0, 2, 3, 1] x transposes_S4x8192x8x8_S4x8x8x8192_0_2_3_1

theorem lanes_apply (x : S4x8192x8x8.Idx → EReal) (b : Fin 4) (h g : Fin 8) (t : Fin 8192) :
    lanes x (ix4 b h g t) = x (ix4 b t h g) := by
  unfold lanes
  pointwise

theorem rows_apply (x : S4x8192x8x256.Idx → EReal) (b : Fin 4) (t : Fin 8192) (j : Fin 2) (h : Fin 8) (e : Fin 128) :
    rows x (ix3 b ⟨16 * t.val + 8 * j.val + h.val, by omega⟩ e) = x (ix4 b t h ⟨128 * j.val + e.val, by omega⟩) := by
  unfold rows
  pointwise
  exact congrArg (fun k => x (ix4 b t h k)) (Fin.ext (by dsimp only; omega))

section
variable (m : (ℓ : Loc nD τ sig) → Buf (Elt Ideal) ℓ) (c : Dev nD)

theorem v2 : V m c main_v2 = rows (m ((c : Thread nD τ).loc main_arg3)) := by
  show StableHlo.after hostOps0 _ (Proc.devRef .tc main_v2) = _
  after_results
  rfl

theorem v3 : V m c main_v3 = lanes (m ((c : Thread nD τ).loc main_arg4)) := by
  show StableHlo.after hostOps0 _ (Proc.devRef .tc main_v3) = _
  after_results
  rfl

theorem v6 : V m c main_v6 = rows (m ((c : Thread nD τ).loc main_arg5)) := by
  show StableHlo.after hostOps0 _ (Proc.devRef .tc main_v6) = _
  after_results
  rfl

theorem v7 : V m c main_v7 = lanes (m ((c : Thread nD τ).loc main_arg6)) := by
  show StableHlo.after hostOps0 _ (Proc.devRef .tc main_v7) = _
  after_results
  rfl

end
end Cert.Proof.KHost
-- ==== Proof.KPiece.lean ====
module
public import proofs.«01_k».proof.Proof.KAttend
public import proofs.«01_k».proof.Proof.KWindow
public import proofs.«01_k».proof.Proof.KHost
public import proofs.«01_k».proof.Proof.Stored
public import proofs.«01_k».proof.Proof.RefOut

@[expose] public section

/-!
One stored piece of the kernel's output: attention of four heads of one sequence over the window of the arguments and the
widened new rows.
-/

noncomputable section

namespace Cert.Proof.KPiece

open Idealize.ShloMosaic Idealize.ShloMosaic.Pointwise Idealize.SL.Sem
open Cert.KernelIdeal Cert.KernelIdeal.Gen Cert.Proof.Model Cert.Proof.KColumn Cert.Proof.Pieces Cert.Proof.Attend
open Cert.Proof.KAttend Cert.Proof.KWindow Cert.Proof.KHost Cert.Proof.KValues Cert.Proof.Quantise Cert.Proof.Stored
open Cert.Proof.Window (start_le counts)
open Cert.Proof.RefOut (wide cached outAt outArr)

set_option maxRecDepth 16384

/-! ### The cached rows by token number -/

/-- The scale of a group at a token's number. -/
def scaleAt (s : S4x8192x8x8.Idx → EReal) (b : Fin 4) (h g : Fin 8) (t : ℕ) : EReal :=
  if ht : t < 8192 then s (ix4 b ⟨t, ht⟩ h g) else 0

/-- The code of a dimension at a token's number. -/
def codeAt (x : S4x8192x8x256.Idx → EReal) (b : Fin 4) (h : Fin 8) (e : Fin 256) (t : ℕ) : EReal :=
  if ht : t < 8192 then x (ix4 b ⟨t, ht⟩ h e) else 0

theorem cached_eq (x : S4x8192x8x256.Idx → EReal) (s : S4x8192x8x8.Idx → EReal) (b : Fin 4) (n : BitVec 32) (h : Fin 8) (e : Fin 256)
    (t : Fin 1024) :
    codeAt x b h e ((start n).toNat + t.val) * scaleAt s b h ⟨e.val / 32, by omega⟩ ((start n).toNat + t.val) = cached x s b n t h e := by
  have hs : (start n).toNat ≤ 7168 := start_le n
  unfold codeAt scaleAt
  rw [dif_pos (by omega), dif_pos (by omega)]
  rfl

section
variable (n : Fin 4 → BitVec 32) (arg : Memref sig .tc .vmem S4x8x8x1152 .f32) (L : List (View.Piece (Elt Ideal) S4x8x8x1152 .f32))
  (s : S4x8192x8x8.Idx → EReal) (hL : ∀ p ∈ L, ∀ x : p.1.shape.Idx, p.2 x = srcS (lanes s) n (p.1.emb x))
  (hc : ∀ y : S4x8x8x1152.Idx, ∃ p ∈ L, y ∈ p.1.set)

include hL hc in
theorem ldS_eq (b : Fin 4) (i : Fin 9) (h g : Fin 8) (l : Fin 128) :
    ldS arg L b i (ix4 0 h g l) = scaleAt s b h g (colOf (start (n b)).toNat + 128 * i.val + l.val) := by
  rw [ldS_apply (lanes s) n arg L hL hc, lanes_apply]
  unfold scaleAt
  rw [dif_pos (by unfold colOf; omega)]

end

section
variable (n : Fin 4 → BitVec 32) (arg : Memref sig .tc .vmem S4x16384x128 .fp8e4m3) (L : List (View.Piece (Elt Ideal) S4x16384x128 .fp8e4m3))
  (x : S4x8192x8x256.Idx → EReal) (hL : ∀ p ∈ L, ∀ z : p.1.shape.Idx, p.2 z = srcC (rows x) n (p.1.emb z))
  (hc : ∀ y : S4x16384x128.Idx, ∃ p ∈ L, y ∈ p.1.set)

include hL hc in
theorem ldK_eq (b : Fin 4) (i : Fin 8) (l : Fin 128) (j : Fin 2) (h : Fin 8) (e : Fin 128) :
    ldK arg L b i (ix3 0 ⟨16 * l.val + 8 * j.val + h.val, by omega⟩ e) =
      codeAt x b h ⟨128 * j.val + e.val, by omega⟩ ((start (n b)).toNat + 128 * i.val + l.val) := by
  have hs : (start (n b)).toNat ≤ 7168 := start_le (n b)
  rw [ldK_apply (rows x) n arg L hL hc]
  unfold codeAt
  rw [dif_pos (by omega), ← rows_apply x b ⟨(start (n b)).toNat + 128 * i.val + l.val, by omega⟩ j h e]
  exact congrArg (fun k => rows x (ix3 b k e)) (Fin.ext (by dsimp only; omega))

include hL hc in
theorem ldV_eq (b : Fin 4) (i : Fin 16) (l : Fin 64) (j : Fin 2) (h : Fin 8) (e : Fin 128) :
    ldV arg L b i (ix3 0 ⟨16 * l.val + 8 * j.val + h.val, by omega⟩ e) =
      codeAt x b h ⟨128 * j.val + e.val, by omega⟩ ((start (n b)).toNat + 64 * i.val + l.val) := by
  have hs : (start (n b)).toNat ≤ 7168 := start_le (n b)
  rw [ldV_apply (rows x) n arg L hL hc]
  unfold codeAt
  rw [dif_pos (by omega), ← rows_apply x b ⟨(start (n b)).toNat + 64 * i.val + l.val, by omega⟩ j h e]
  exact congrArg (fun k => rows x (ix3 b k e)) (Fin.ext (by dsimp only; omega))

end

/-! ### The queries and the new rows -/

section
variable (arg1 : Memref sig .tc .vmem S4x1x32x256 .bf16) (harg1 : arg1.IsWhole) (x1 : Vec Ideal S4x1x32x256 .bf16)

theorem ldX_apply (b : Fin 4) (i : Fin 32) (e : Fin 256) : ldX arg1 harg1 x1 b (ix4 0 0 i e) = x1 (ix4 b 0 i e) := by
  unfold ldX
  rw [Memref.IsWhole.readAt_unread harg1]
  exact congrArg x1 (funext fun a => Fin.ext (match a with | ⟨0, _⟩ => rfl | ⟨1, _⟩ => rfl | ⟨2, _⟩ => by simp | ⟨3, _⟩ => by simp))

theorem qOf_apply (b : Fin 4) (i : Fin 32) (e : Fin 256) :
    qOf arg1 harg1 x1 (ix2 ⟨32 * b.val + i.val, by omega⟩ e) = x1 (ix4 b 0 i e) := by
  unfold qOf
  refine (queries_apply (fun b => ldX arg1 harg1 x1 b) _ e).trans ((ldX_apply arg1 harg1 x1 _ _ e).trans ?_)
  exact congrArg₂ (fun y z => x1 (ix4 y 0 z e)) (Fin.ext (by dsimp only; omega)) (Fin.ext (by dsimp only; omega))

end

section
variable (arg : Memref sig .tc .vmem S4x1x8x256 .bf16) (harg : arg.IsWhole) (x : Vec Ideal S4x1x8x256 .bf16) (ok : Ok x)
include ok

theorem widened_rows (b : Fin 4) (h : Fin 8) (d : Fin 256) :
    widened (rowsOf arg harg x) (ix2 ⟨8 * b.val + h.val, by omega⟩ d) = wide x b h d := by
  have e1 : (⟨(8 * b.val + h.val) / 8, by omega⟩ : Fin 4) = b := Fin.ext (by dsimp only; omega)
  have e2 : (⟨(8 * b.val + h.val) % 8, by omega⟩ : Fin 8) = h := Fin.ext (by dsimp only; omega)
  rw [widened_apply _ _ _ (by rw [rowTop_rows]; exact ok _ _ _), rowTop_rows, rowsOf_apply]
  dsimp only
  rw [e1, e2]
  unfold wide codesOf scalesOf
  refine congrArg₂ (· * ·) rfl (congrArg Exponent.rscale ?_)
  unfold rowTop
  refine congrArg top (funext fun k => ?_)
  have e3 : (⟨32 * (d.val / 32) + k.val, by omega⟩ : Fin 256) = ⟨32 * (32 * (d.val / 32) / 32) + k.val, by omega⟩ := Fin.ext (by dsimp only; omega)
  rw [e3]
  rfl

end

/-! ### A piece -/

section
variable (c : Dev nD) (arg0 : Memref sig .tc .smem S4 .i32) (harg0 : arg0.IsWhole)
    (arg1 : Memref sig .tc .vmem S4x1x32x256 .bf16) (harg1 : arg1.IsWhole)
    (arg2 : Memref sig .tc .vmem S4x1x8x256 .bf16) (harg2 : arg2.IsWhole)
    (arg3 : Memref sig .tc .vmem S4x1x8x256 .bf16) (harg3 : arg3.IsWhole)
    (arg13 : Memref sig .tc .vmem S4x16384x128 .fp8e4m3) (arg14 : Memref sig .tc .vmem S4x8x8x1152 .f32)
    (arg15 : Memref sig .tc .vmem S4x16384x128 .fp8e4m3) (arg16 : Memref sig .tc .vmem S4x8x8x1152 .f32)
    (x0 : Vec Ideal S4 .i32) (x1 : Vec Ideal S4x1x32x256 .bf16) (x2 x3 : Vec Ideal S4x1x8x256 .bf16)

theorem len_apply (b : Fin 4) : len arg0 harg0 x0 b = x0 (ix1 b) := by
  unfold len
  rw [Memref.IsWhole.readAt_unread harg0]
  exact congrArg x0 (funext fun a => Fin.ext (match a with | ⟨0, _⟩ => rfl))

variable (kc vc : S4x8192x8x256.Idx → EReal) (ks vs : S4x8192x8x8.Idx → EReal)

theorem eOf_apply (b : Fin 4) (q : Fin 2) (hh r : Fin 4) (t : Fin 1024) :
    eOf c arg0 harg0 arg1 harg1 arg13 arg14 x0 x1 (rows kc) (lanes ks) b q (ix2 ⟨hh.val * 4 + r.val, by omega⟩ t) =
      weight (counts (len arg0 harg0 x0 b) t.val) (∑ e : Fin 256, x1 (ix4 b 0 ⟨(4 * q.val + hh.val) * 4 + r.val, by omega⟩ e) *
        cached kc ks b (len arg0 harg0 x0 b) t ⟨4 * q.val + hh.val, by omega⟩ e) := by
  unfold eOf
  rw [quadWeights_apply (len arg0 harg0 x0 b) (scaleAt ks b) _
    (ldS_eq (len arg0 harg0 x0) arg14 _ ks (ksPieces c arg0 harg0 x0 (lanes ks)) (ksCover c arg0 harg0 x0 (lanes ks)) b) (codeAt kc b) _
    (ldK_eq (len arg0 harg0 x0) arg13 _ kc (kcPieces c arg0 harg0 x0 (rows kc)) (kcCover c arg0 harg0 x0 (rows kc)) b)]
  refine congrArg (weight _) (Finset.sum_congr rfl fun e _ => ?_)
  rw [cached_eq, quadQ_apply]
  refine congrArg (· * _) (Eq.trans ?_ (qOf_apply arg1 harg1 x1 b ⟨(4 * q.val + hh.val) * 4 + r.val, by omega⟩ e))
  exact congrArg (fun k => qOf arg1 harg1 x1 (ix2 k e)) (Fin.ext (by dsimp only; omega))

theorem enew_apply (ok2 : Ok x2) (b : Fin 4) (q : Fin 2) (hh r : Fin 4) :
    quadE b q (enew arg1 harg1 arg2 harg2 x1 x2) (ix2 ⟨hh.val * 4 + r.val, by omega⟩ 0) =
      Ideal.exp (capped (∑ e : Fin 256, x1 (ix4 b 0 ⟨(4 * q.val + hh.val) * 4 + r.val, by omega⟩ e) * wide x2 b ⟨4 * q.val + hh.val, by omega⟩ e)) := by
  rw [quadE_apply]
  unfold enew
  rw [newWeight_apply, newScore_apply, cap_eq]
  unfold capped
  refine congrArg (fun z => Ideal.exp (c50 * Ideal.tanh (z * ((1 / 800 : ℝ) : EReal)))) (Finset.sum_congr rfl fun e _ => congrArg₂ (· * ·) ?_ ?_)
  · refine Eq.trans ?_ (qOf_apply arg1 harg1 x1 b ⟨(4 * q.val + hh.val) * 4 + r.val, by omega⟩ e)
    exact congrArg (fun k => qOf arg1 harg1 x1 (ix2 k e)) (Fin.ext (by dsimp only; omega))
  · refine Eq.trans ?_ (widened_rows arg2 harg2 x2 ok2 b ⟨4 * q.val + hh.val, by omega⟩ e)
    exact congrArg (fun k => widened (rowsOf arg2 harg2 x2) (ix2 k e)) (Fin.ext (by dsimp only; omega))

theorem vnew_apply (ok3 : Ok x3) (b : Fin 4) (q : Fin 2) (hh r : Fin 4) (d : Fin 256) :
    quadV b q (newValue (widened (rowsOf arg3 harg3 x3))) (ix2 ⟨hh.val * 4 + r.val, by omega⟩ d) = wide x3 b ⟨4 * q.val + hh.val, by omega⟩ d := by
  rw [quadV_apply, newValue_apply]
  refine Eq.trans ?_ (widened_rows arg3 harg3 x3 ok3 b ⟨4 * q.val + hh.val, by omega⟩ d)
  exact congrArg (fun k => widened (rowsOf arg3 harg3 x3) (ix2 k d)) (Fin.ext (by dsimp only; omega))

theorem pieceOf_apply (ok2 : Ok x2) (ok3 : Ok x3) (b : Fin 4) (q : Fin 2) (hh r : Fin 4) (d : Fin 256) :
    Pieces.pieceOf c arg0 harg0 arg1 harg1 arg2 harg2 arg3 harg3 arg13 arg14 arg15 x0 x1 x2 x3 (rows kc) (lanes ks) (rows vc) b q
      (wOf c arg0 harg0 arg16 x0 (lanes vs) b q) (ix4 0 0 ⟨hh.val * 4 + r.val, by omega⟩ d) =
      outAt (x0 (ix1 b)) x1 x2 x3 kc ks vc vs b ⟨4 * q.val + hh.val, by omega⟩ r d := by
  unfold Pieces.pieceOf wOf
  rw [outPiece_apply (len arg0 harg0 x0 b) (scaleAt vs b) _
    (ldS_eq (len arg0 harg0 x0) arg16 _ vs (vsPieces c arg0 harg0 x0 (lanes vs)) (vsCover c arg0 harg0 x0 (lanes vs)) b) (codeAt vc b) _
    (ldV_eq (len arg0 harg0 x0) arg15 _ vc (vcPieces c arg0 harg0 x0 (rows vc)) (vcCover c arg0 harg0 x0 (rows vc)) b)]
  simp only [eOf_apply, cached_eq]
  rw [enew_apply arg1 harg1 arg2 harg2 x1 x2 ok2, vnew_apply arg3 harg3 x3 ok3, len_apply]
  rfl

end

end Cert.Proof.KPiece
-- ==== Proof.KOut.lean ====
module
public import proofs.«01_k».proof.Proof.KPiece
public import proofs.«01_k».proof.Proof.Arrays

@[expose] public section

/-! What the output holds after the kernel's run: attention over the window of the arguments and the widened new rows. -/

noncomputable section

namespace Cert.Proof.KOut

open Idealize.ShloMosaic Idealize.ShloMosaic.Pointwise Idealize.SL.Sem
open Idealize.ShloMosaic.TcCoe
open Cert.KernelIdeal Cert.KernelIdeal.Gen Cert.Proof.Pieces Cert.Proof.KWindow Cert.Proof.KHost Cert.Proof.KPiece
open Cert.Proof.Stored (Ok blk0 blk1 blk2 blk3)
open Cert.Proof.RefOut (outAt outArr)

set_option maxRecDepth 16384

/-- A property of eight pieces, piece by piece. -/
theorem of_eight {α : Type*} {Q : α → Prop} {a b c d e f g h : α} (ha : Q a) (hb : Q b) (hc : Q c) (hd : Q d) (he : Q e) (hf : Q f)
    (hg : Q g) (hh : Q h) : ∀ p ∈ [a, b, c, d, e, f, g, h], Q p := by
  intro p hp
  simp only [List.mem_cons, List.not_mem_nil, or_false] at hp
  rcases hp with rfl | rfl | rfl | rfl | rfl | rfl | rfl | rfl <;> assumption

section
variable (c : Dev nD) (arg0 : Memref sig .tc .smem S4 .i32) (harg0 : arg0.IsWhole)
    (arg16 : Memref sig .tc .vmem S4x8x8x1152 .f32) (arg17 : Memref sig .tc .vmem S2x256x128 .bf16)
    (x0 : Vec Ideal S4 .i32) (fh3 : HbBuf0 (F := Ideal) c hbM0_3)

theorem ws00 : ldW arg17 (kernelRun0_A.sl.HS4_2 c arg0 harg0 arg16 x0 fh3) 0 = wOf c arg0 harg0 arg16 x0 fh3 0 0 :=
  (ldW_zero arg17 _ _ _ _ _).trans (w00 c arg0 harg0 arg16 x0 fh3)
theorem ws01 : ldW arg17 (kernelRun0_A.sl.HS4_2 c arg0 harg0 arg16 x0 fh3) 1 = wOf c arg0 harg0 arg16 x0 fh3 0 1 :=
  (ldW_one arg17 _ _ _).trans (w01 c arg0 harg0 arg16 x0 fh3)
theorem ws10 : ldW arg17 (kernelRun0_A.sl.HS4_4 c arg0 harg0 arg16 x0 fh3) 0 = wOf c arg0 harg0 arg16 x0 fh3 1 0 :=
  (ldW_zero arg17 _ _ _ _ _).trans (w10 c arg0 harg0 arg16 x0 fh3)
theorem ws11 : ldW arg17 (kernelRun0_A.sl.HS4_4 c arg0 harg0 arg16 x0 fh3) 1 = wOf c arg0 harg0 arg16 x0 fh3 1 1 :=
  (ldW_one arg17 _ _ _).trans (w11 c arg0 harg0 arg16 x0 fh3)
theorem ws20 : ldW arg17 (kernelRun0_A.sl.HS4_6 c arg0 harg0 arg16 x0 fh3) 0 = wOf c arg0 harg0 arg16 x0 fh3 2 0 :=
  (ldW_zero arg17 _ _ _ _ _).trans (w20 c arg0 harg0 arg16 x0 fh3)
theorem ws21 : ldW arg17 (kernelRun0_A.sl.HS4_6 c arg0 harg0 arg16 x0 fh3) 1 = wOf c arg0 harg0 arg16 x0 fh3 2 1 :=
  (ldW_one arg17 _ _ _).trans (w21 c arg0 harg0 arg16 x0 fh3)
theorem ws30 : ldW arg17 (kernelRun0_A.sl.HS4_8 c arg0 harg0 arg16 x0 fh3) 0 = wOf c arg0 harg0 arg16 x0 fh3 3 0 :=
  (ldW_zero arg17 _ _ _ _ _).trans (w30 c arg0 harg0 arg16 x0 fh3)
theorem ws31 : ldW arg17 (kernelRun0_A.sl.HS4_8 c arg0 harg0 arg16 x0 fh3) 1 = wOf c arg0 harg0 arg16 x0 fh3 3 1 :=
  (ldW_one arg17 _ _ _).trans (w31 c arg0 harg0 arg16 x0 fh3)

end

section
variable (c : Dev nD) (arg0 : Memref sig .tc .smem S4 .i32) (harg0 : arg0.IsWhole)
    (arg1 : Memref sig .tc .vmem S4x1x32x256 .bf16) (harg1 : arg1.IsWhole)
    (arg2 : Memref sig .tc .vmem S4x1x8x256 .bf16) (harg2 : arg2.IsWhole)
    (arg3 : Memref sig .tc .vmem S4x1x8x256 .bf16) (harg3 : arg3.IsWhole)
    (arg13 : Memref sig .tc .vmem S4x16384x128 .fp8e4m3) (arg14 : Memref sig .tc .vmem S4x8x8x1152 .f32)
    (arg15 : Memref sig .tc .vmem S4x16384x128 .fp8e4m3) (arg16 : Memref sig .tc .vmem S4x8x8x1152 .f32)
    (x0 : Vec Ideal S4 .i32) (x1 : Vec Ideal S4x1x32x256 .bf16) (x2 x3 : Vec Ideal S4x1x8x256 .bf16)
    (kc vc : S4x8192x8x256.Idx → EReal) (ks vs : S4x8192x8x8.Idx → EReal) (ok2 : Ok x2) (ok3 : Ok x3)
include ok2 ok3

theorem piece_tile (b : Fin 4) (q : Fin 2) (p : Fin 4 → ℕ) (hp : p = ![b.val, 0, 16 * q.val, 0]) (inb) (z : S1x1x16x256.Idx) :
    Pieces.pieceOf c arg0 harg0 arg1 harg1 arg2 harg2 arg3 harg3 arg13 arg14 arg15 x0 x1 x2 x3 (rows kc) (lanes ks) (rows vc) b q
      (wOf c arg0 harg0 arg16 x0 (lanes vs) b q) z =
      outArr x0 x1 x2 x3 kc ks vc vs ((Rect.unit (s := S4x1x32x256) p S1x1x16x256.size inb).emb z) := by
  subst hp
  obtain ⟨i, d, rfl⟩ : ∃ (i : Fin 16) (d : Fin 256), z = ix4 0 0 i d := ⟨z 2, z 3, funext fun a => Fin.ext (match a with
    | ⟨0, _⟩ => Nat.lt_one_iff.mp (z 0).isLt | ⟨1, _⟩ => Nat.lt_one_iff.mp (z 1).isLt | ⟨2, _⟩ => rfl | ⟨3, _⟩ => rfl)⟩
  have hi : i = ⟨(⟨i.val / 4, by omega⟩ : Fin 4).val * 4 + (⟨i.val % 4, by omega⟩ : Fin 4).val, by dsimp only; omega⟩ := Fin.ext (by dsimp only; omega)
  have e : (Rect.unit (s := S4x1x32x256) ![b.val, 0, 16 * q.val, 0] S1x1x16x256.size inb).emb (ix4 0 0 i d) = ix4 b 0 ⟨16 * q.val + i.val, by omega⟩ d :=
    funext fun a => Fin.ext (match a with
      | ⟨0, _⟩ => show b.val + 1 * 0 = b.val by omega
      | ⟨1, _⟩ => rfl
      | ⟨2, _⟩ => show 16 * q.val + 1 * i.val = 16 * q.val + i.val by omega
      | ⟨3, _⟩ => show 0 + 1 * d.val = d.val by omega)
  rw [e]
  refine (congrArg (fun i => Pieces.pieceOf c arg0 harg0 arg1 harg1 arg2 harg2 arg3 harg3 arg13 arg14 arg15 x0 x1 x2 x3 (rows kc) (lanes ks) (rows vc) b q
    (wOf c arg0 harg0 arg16 x0 (lanes vs) b q) (ix4 0 0 i d)) hi).trans ?_
  rw [pieceOf_apply c arg0 harg0 arg1 harg1 arg2 harg2 arg3 harg3 arg13 arg14 arg15 arg16 x0 x1 x2 x3 kc vc ks vs ok2 ok3]
  unfold outArr
  exact congrArg₂ (fun h r => outAt (x0 (ix1 b)) x1 x2 x3 kc ks vc vs b h r d)
    (Fin.ext (show 4 * q.val + i.val / 4 = (16 * q.val + i.val) / 4 by omega)) (Fin.ext (show i.val % 4 = (16 * q.val + i.val) % 4 by omega))

variable (arg17 : Memref sig .tc .vmem S2x256x128 .bf16)

theorem t00 (inb) (z : S1x1x16x256.Idx) :
    (kernelRun0_A.sl.v4177 c arg0 harg0 arg1 harg1 arg2 harg2 arg3 harg3 arg13 arg14 arg15 arg16 arg17 x0 x1 x2 x3 (rows kc) (lanes ks) (rows vc) (lanes vs)) z =
      outArr x0 x1 x2 x3 kc ks vc vs ((Rect.unit (s := S4x1x32x256) ![0, 0, 0, 0] S1x1x16x256.size inb).emb z) := by
  rw [p00, ws00]
  exact piece_tile c arg0 harg0 arg1 harg1 arg2 harg2 arg3 harg3 arg13 arg14 arg15 arg16 x0 x1 x2 x3 kc vc ks vs ok2 ok3 0 0 _ rfl inb z

theorem t01 (inb) (z : S1x1x16x256.Idx) :
    (kernelRun0_A.sl.v4517 c arg0 harg0 arg1 harg1 arg2 harg2 arg3 harg3 arg13 arg14 arg15 arg16 arg17 x0 x1 x2 x3 (rows kc) (lanes ks) (rows vc) (lanes vs)) z =
      outArr x0 x1 x2 x3 kc ks vc vs ((Rect.unit (s := S4x1x32x256) ![0, 0, 16, 0] S1x1x16x256.size inb).emb z) := by
  rw [p01, ws01]
  exact piece_tile c arg0 harg0 arg1 harg1 arg2 harg2 arg3 harg3 arg13 arg14 arg15 arg16 x0 x1 x2 x3 kc vc ks vs ok2 ok3 0 1 _ rfl inb z

theorem t10 (inb) (z : S1x1x16x256.Idx) :
    (kernelRun0_A.sl.v5453 c arg0 harg0 arg1 harg1 arg2 harg2 arg3 harg3 arg13 arg14 arg15 arg16 arg17 x0 x1 x2 x3 (rows kc) (lanes ks) (rows vc) (lanes vs)) z =
      outArr x0 x1 x2 x3 kc ks vc vs ((Rect.unit (s := S4x1x32x256) ![1, 0, 0, 0] S1x1x16x256.size inb).emb z) := by
  rw [p10, ws10]
  exact piece_tile c arg0 harg0 arg1 harg1 arg2 harg2 arg3 harg3 arg13 arg14 arg15 arg16 x0 x1 x2 x3 kc vc ks vs ok2 ok3 1 0 _ rfl inb z

theorem t11 (inb) (z : S1x1x16x256.Idx) :
    (kernelRun0_A.sl.v5793 c arg0 harg0 arg1 harg1 arg2 harg2 arg3 harg3 arg13 arg14 arg15 arg16 arg17 x0 x1 x2 x3 (rows kc) (lanes ks) (rows vc) (lanes vs)) z =
      outArr x0 x1 x2 x3 kc ks vc vs ((Rect.unit (s := S4x1x32x256) ![1, 0, 16, 0] S1x1x16x256.size inb).emb z) := by
  rw [p11, ws11]
  exact piece_tile c arg0 harg0 arg1 harg1 arg2 harg2 arg3 harg3 arg13 arg14 arg15 arg16 x0 x1 x2 x3 kc vc ks vs ok2 ok3 1 1 _ rfl inb z

theorem t20 (inb) (z : S1x1x16x256.Idx) :
    (kernelRun0_A.sl.v6729 c arg0 harg0 arg1 harg1 arg2 harg2 arg3 harg3 arg13 arg14 arg15 arg16 arg17 x0 x1 x2 x3 (rows kc) (lanes ks) (rows vc) (lanes vs)) z =
      outArr x0 x1 x2 x3 kc ks vc vs ((Rect.unit (s := S4x1x32x256) ![2, 0, 0, 0] S1x1x16x256.size inb).emb z) := by
  rw [p20, ws20]
  exact piece_tile c arg0 harg0 arg1 harg1 arg2 harg2 arg3 harg3 arg13 arg14 arg15 arg16 x0 x1 x2 x3 kc vc ks vs ok2 ok3 2 0 _ rfl inb z

theorem t21 (inb) (z : S1x1x16x256.Idx) :
    (kernelRun0_A.sl.v7069 c arg0 harg0 arg1 harg1 arg2 harg2 arg3 harg3 arg13 arg14 arg15 arg16 arg17 x0 x1 x2 x3 (rows kc) (lanes ks) (rows vc) (lanes vs)) z =
      outArr x0 x1 x2 x3 kc ks vc vs ((Rect.unit (s := S4x1x32x256) ![2, 0, 16, 0] S1x1x16x256.size inb).emb z) := by
  rw [p21, ws21]
  exact piece_tile c arg0 harg0 arg1 harg1 arg2 harg2 arg3 harg3 arg13 arg14 arg15 arg16 x0 x1 x2 x3 kc vc ks vs ok2 ok3 2 1 _ rfl inb z

theorem t30 (inb) (z : S1x1x16x256.Idx) :
    (k0_pay735 (kernelRun0_A.sl.r_4 c arg3 harg3 x3) (kernelRun0_A.sl.v7350 c arg0 harg0 arg1 harg1 arg2 harg2 arg13 arg14 x0 x1 x2 (rows kc) (lanes ks)) (kernelRun0_A.sl.v7678 c arg0 harg0 arg1 harg1 arg2 harg2 arg13 arg14 x0 x1 x2 (rows kc) (lanes ks)) (kernelRun0_A.sl.r_29 c arg0 harg0 arg1 harg1 arg2 harg2 arg13 arg14 arg15 arg16 arg17 x0 x1 x2 (rows kc) (lanes ks) (rows vc) (lanes vs)) (kernelRun0_A.sl.r_30 c arg0 harg0 arg15 x0 (rows vc)) (kernelRun0_A.sl.r_31 c arg0 harg0 arg15 x0 (rows vc)) (kernelRun0_A.sl.r_32 c arg0 harg0 arg16 arg17 x0 (lanes vs)) (kernelRun0_A.sl.v7978 c arg0 harg0 arg15 x0 (rows vc)) (kernelRun0_A.sl.v7886 c arg0 harg0 arg16 arg17 x0 (lanes vs))) z =
      outArr x0 x1 x2 x3 kc ks vc vs ((Rect.unit (s := S4x1x32x256) ![3, 0, 0, 0] S1x1x16x256.size inb).emb z) := by
  rw [p30, ws30]
  exact piece_tile c arg0 harg0 arg1 harg1 arg2 harg2 arg3 harg3 arg13 arg14 arg15 arg16 x0 x1 x2 x3 kc vc ks vs ok2 ok3 3 0 _ rfl inb z

theorem t31 (inb) (z : S1x1x16x256.Idx) :
    (k0_pay1 (kernelRun0_A.sl.r_4 c arg3 harg3 x3) (kernelRun0_A.sl.r_25 c arg0 harg0 arg1 harg1 arg2 harg2 arg13 arg14 x0 x1 x2 (rows kc) (lanes ks)) (kernelRun0_A.sl.r_34 c arg0 harg0 arg1 harg1 arg2 harg2 arg13 arg14 x0 x1 x2 (rows kc) (lanes ks)) (kernelRun0_A.sl.r_49 c arg0 harg0 arg1 harg1 arg2 harg2 arg13 arg14 arg15 arg16 arg17 x0 x1 x2 (rows kc) (lanes ks) (rows vc) (lanes vs)) (kernelRun0_A.sl.r_50 c arg0 harg0 arg15 x0 (rows vc)) (kernelRun0_A.sl.r_51 c arg0 harg0 arg15 x0 (rows vc)) (kernelRun0_A.sl.v8326 c arg0 harg0 arg16 arg17 x0 (lanes vs))) z =
      outArr x0 x1 x2 x3 kc ks vc vs ((Rect.unit (s := S4x1x32x256) ![3, 0, 16, 0] S1x1x16x256.size inb).emb z) := by
  rw [p31, ws31]
  exact piece_tile c arg0 harg0 arg1 harg1 arg2 harg2 arg3 harg3 arg13 arg14 arg15 arg16 x0 x1 x2 x3 kc vc ks vs ok2 ok3 3 1 _ rfl inb z

end

section
variable (c : Dev nD) (arg0 : Memref sig .tc .smem S4 .i32) (harg0 : arg0.IsWhole) (arg1 : Memref sig .tc .vmem S4x1x32x256 .bf16) (harg1 : arg1.IsWhole) (arg2 : Memref sig .tc .vmem S4x1x8x256 .bf16) (harg2 : arg2.IsWhole) (arg3 : Memref sig .tc .vmem S4x1x8x256 .bf16) (harg3 : arg3.IsWhole) (arg8 : Memref sig .tc .vmem S4x1x32x256 .bf16) (harg8 : arg8.IsWhole) (arg9 : Memref sig .tc .vmem S4x1x8x256 .fp8e4m3) (harg9 : arg9.IsWhole) (arg10 : Memref sig .tc .vmem S4x1x8x8 .f32) (harg10 : arg10.IsWhole) (arg11 : Memref sig .tc .vmem S4x1x8x256 .fp8e4m3) (harg11 : arg11.IsWhole) (arg12 : Memref sig .tc .vmem S4x1x8x8 .f32) (harg12 : arg12.IsWhole) (arg13 : Memref sig .tc .vmem S4x16384x128 .fp8e4m3) (harg13 : arg13.IsWhole) (arg14 : Memref sig .tc .vmem S4x8x8x1152 .f32) (harg14 : arg14.IsWhole) (arg15 : Memref sig .tc .vmem S4x16384x128 .fp8e4m3) (harg15 : arg15.IsWhole) (arg16 : Memref sig .tc .vmem S4x8x8x1152 .f32) (harg16 : arg16.IsWhole) (arg17 : Memref sig .tc .vmem S2x256x128 .bf16) (harg17 : arg17.IsWhole) (x0 : Vec Ideal S4 .i32) (x1 : Vec Ideal S4x1x32x256 .bf16) (x2 : Vec Ideal S4x1x8x256 .bf16) (x3 : Vec Ideal S4x1x8x256 .bf16)

section
variable (fh0 : HbBuf0 (F := Ideal) c hbM0_0) (fh1 : HbBuf0 (F := Ideal) c hbM0_1) (fh2 : HbBuf0 (F := Ideal) c hbM0_2) (fh3 : HbBuf0 (F := Ideal) c hbM0_3)

theorem pieces4 : (kernelRun0_A c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 fh0 fh1 fh2 fh3).1 =
    [⟨Rect.unit (s := S4x1x32x256) ![3, 0, 16, 0] S1x1x16x256.size (by decide), k0_pay1 (kernelRun0_A.sl.r_4 c arg3 harg3 x3) (kernelRun0_A.sl.r_25 c arg0 harg0 arg1 harg1 arg2 harg2 arg13 arg14 x0 x1 x2 fh0 fh1) (kernelRun0_A.sl.r_34 c arg0 harg0 arg1 harg1 arg2 harg2 arg13 arg14 x0 x1 x2 fh0 fh1) (kernelRun0_A.sl.r_49 c arg0 harg0 arg1 harg1 arg2 harg2 arg13 arg14 arg15 arg16 arg17 x0 x1 x2 fh0 fh1 fh2 fh3) (kernelRun0_A.sl.r_50 c arg0 harg0 arg15 x0 fh2) (kernelRun0_A.sl.r_51 c arg0 harg0 arg15 x0 fh2) (kernelRun0_A.sl.v8326 c arg0 harg0 arg16 arg17 x0 fh3)⟩,
      ⟨Rect.unit (s := S4x1x32x256) ![3, 0, 0, 0] S1x1x16x256.size (by decide), k0_pay735 (kernelRun0_A.sl.r_4 c arg3 harg3 x3) (kernelRun0_A.sl.v7350 c arg0 harg0 arg1 harg1 arg2 harg2 arg13 arg14 x0 x1 x2 fh0 fh1) (kernelRun0_A.sl.v7678 c arg0 harg0 arg1 harg1 arg2 harg2 arg13 arg14 x0 x1 x2 fh0 fh1) (kernelRun0_A.sl.r_29 c arg0 harg0 arg1 harg1 arg2 harg2 arg13 arg14 arg15 arg16 arg17 x0 x1 x2 fh0 fh1 fh2 fh3) (kernelRun0_A.sl.r_30 c arg0 harg0 arg15 x0 fh2) (kernelRun0_A.sl.r_31 c arg0 harg0 arg15 x0 fh2) (kernelRun0_A.sl.r_32 c arg0 harg0 arg16 arg17 x0 fh3) (kernelRun0_A.sl.v7978 c arg0 harg0 arg15 x0 fh2) (kernelRun0_A.sl.v7886 c arg0 harg0 arg16 arg17 x0 fh3)⟩,
      ⟨Rect.unit (s := S4x1x32x256) ![2, 0, 16, 0] S1x1x16x256.size (by decide), kernelRun0_A.sl.v7069 c arg0 harg0 arg1 harg1 arg2 harg2 arg3 harg3 arg13 arg14 arg15 arg16 arg17 x0 x1 x2 x3 fh0 fh1 fh2 fh3⟩,
      ⟨Rect.unit (s := S4x1x32x256) ![2, 0, 0, 0] S1x1x16x256.size (by decide), kernelRun0_A.sl.v6729 c arg0 harg0 arg1 harg1 arg2 harg2 arg3 harg3 arg13 arg14 arg15 arg16 arg17 x0 x1 x2 x3 fh0 fh1 fh2 fh3⟩,
      ⟨Rect.unit (s := S4x1x32x256) ![1, 0, 16, 0] S1x1x16x256.size (by decide), kernelRun0_A.sl.v5793 c arg0 harg0 arg1 harg1 arg2 harg2 arg3 harg3 arg13 arg14 arg15 arg16 arg17 x0 x1 x2 x3 fh0 fh1 fh2 fh3⟩,
      ⟨Rect.unit (s := S4x1x32x256) ![1, 0, 0, 0] S1x1x16x256.size (by decide), kernelRun0_A.sl.v5453 c arg0 harg0 arg1 harg1 arg2 harg2 arg3 harg3 arg13 arg14 arg15 arg16 arg17 x0 x1 x2 x3 fh0 fh1 fh2 fh3⟩,
      ⟨Rect.unit (s := S4x1x32x256) ![0, 0, 16, 0] S1x1x16x256.size (by decide), kernelRun0_A.sl.v4517 c arg0 harg0 arg1 harg1 arg2 harg2 arg3 harg3 arg13 arg14 arg15 arg16 arg17 x0 x1 x2 x3 fh0 fh1 fh2 fh3⟩,
      ⟨Rect.unit (s := S4x1x32x256) ![0, 0, 0, 0] S1x1x16x256.size (by decide), kernelRun0_A.sl.v4177 c arg0 harg0 arg1 harg1 arg2 harg2 arg3 harg3 arg13 arg14 arg15 arg16 arg17 x0 x1 x2 x3 fh0 fh1 fh2 fh3⟩] := (rfl)

end

theorem out4_eq (kc vc : S4x8192x8x256.Idx → EReal) (ks vs : S4x8192x8x8.Idx → EReal) (ok2 : Ok x2) (ok3 : Ok x3) :
    out0_A_4 c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 (rows kc) (lanes ks) (rows vc) (lanes vs) =
      outArr x0 x1 x2 x3 kc ks vc vs := by
  funext y
  unfold out0_A_4
  rw [View.read_writes_junk_eq_canon]
  refine View.canon_apply_of_pieces (outArr x0 x1 x2 x3 kc ks vc vs) _ ?_ y (cover0_A_4 c arg0 harg0 arg1 harg1 arg2 harg2 arg3 harg3 arg8 harg8 arg9 harg9 arg10 harg10 arg11 harg11 arg12 harg12 arg13 harg13 arg14 harg14 arg15 harg15 arg16 harg16 arg17 harg17 x0 x1 x2 x3 (rows kc) (lanes ks) (rows vc) (lanes vs) y)
  rw [pieces4]
  exact of_eight (Q := fun p : View.Piece (Elt Ideal) S4x1x32x256 .bf16 => ∀ x : p.1.shape.Idx, p.2 x = outArr x0 x1 x2 x3 kc ks vc vs (p.1.emb x))
    (t31 c arg0 harg0 arg1 harg1 arg2 harg2 arg3 harg3 arg13 arg14 arg15 arg16 x0 x1 x2 x3 kc vc ks vs ok2 ok3 arg17 (by decide))
    (t30 c arg0 harg0 arg1 harg1 arg2 harg2 arg3 harg3 arg13 arg14 arg15 arg16 x0 x1 x2 x3 kc vc ks vs ok2 ok3 arg17 (by decide))
    (t21 c arg0 harg0 arg1 harg1 arg2 harg2 arg3 harg3 arg13 arg14 arg15 arg16 x0 x1 x2 x3 kc vc ks vs ok2 ok3 arg17 (by decide))
    (t20 c arg0 harg0 arg1 harg1 arg2 harg2 arg3 harg3 arg13 arg14 arg15 arg16 x0 x1 x2 x3 kc vc ks vs ok2 ok3 arg17 (by decide))
    (t11 c arg0 harg0 arg1 harg1 arg2 harg2 arg3 harg3 arg13 arg14 arg15 arg16 x0 x1 x2 x3 kc vc ks vs ok2 ok3 arg17 (by decide))
    (t10 c arg0 harg0 arg1 harg1 arg2 harg2 arg3 harg3 arg13 arg14 arg15 arg16 x0 x1 x2 x3 kc vc ks vs ok2 ok3 arg17 (by decide))
    (t01 c arg0 harg0 arg1 harg1 arg2 harg2 arg3 harg3 arg13 arg14 arg15 arg16 x0 x1 x2 x3 kc vc ks vs ok2 ok3 arg17 (by decide))
    (t00 c arg0 harg0 arg1 harg1 arg2 harg2 arg3 harg3 arg13 arg14 arg15 arg16 x0 x1 x2 x3 kc vc ks vs ok2 ok3 arg17 (by decide))

end

section
variable (m : (ℓ : Loc nD τ sig) → Buf (Elt Ideal) ℓ) (c : Dev nD)

theorem outs4 (X0 : Vec Ideal S4 .i32) (X1 : Vec Ideal S4x1x32x256 .bf16) (X2 X3 : Vec Ideal S4x1x8x256 .bf16)
    (h0 : iblk m c 0 t0_0 = X0) (h1 : iblk m c 1 t0_0 = X1) (h2 : iblk m c 2 t0_0 = X2) (h3 : iblk m c 3 t0_0 = X3)
    (kc vc : S4x8192x8x256.Idx → EReal) (ks vs : S4x8192x8x8.Idx → EReal)
    (g0 : V m c main_v2 = rows kc) (g1 : V m c main_v3 = lanes ks) (g2 : V m c main_v6 = rows vc) (g3 : V m c main_v7 = lanes vs)
    (ok2 : Ok X2) (ok3 : Ok X3) :
    (outsAt0 m c t0_0).1 = outArr X0 X1 X2 X3 kc ks vc vs := by
  subst h0 h1 h2 h3
  dsimp only [outsAt0]
  rw [g0, g1, g2, g3]
  exact out4_eq c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) scM0_2 (Memref.isWhole_whole _) scM0_3 (Memref.isWhole_whole _) scM0_4 (Memref.isWhole_whole _) (iblk m c 0 t0_0) (iblk m c 1 t0_0) (iblk m c 2 t0_0) (iblk m c 3 t0_0) kc vc ks vs ok2 ok3

theorem arr4 (ok2 : Ok (m ((c : Thread nD τ).loc main_arg1))) (ok3 : Ok (m ((c : Thread nD τ).loc main_arg2))) :
    (dats m 0 c).arrAt 4 cfg0.N = outArr (m ((c : Thread nD τ).loc main_arg7)) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_after_last 4 t0_0 (by decide +kernel) _ fun j => ?_
  blk_simp
  rw [after0_4]
  exact congrFun (outs4 m c _ _ _ _ (blk0 m c) (blk1 m c) (blk2 m c) (blk3 m c) _ _ _ _ (v2 m c) (v3 m c) (v6 m c) (v7 m c) ok2 ok3) j

end
end Cert.Proof.KOut
-- ==== Proof.InRange.lean ====
module
public import proofs.«01_k».proof.Pre_in_range
public import proofs.«01_k».proof.Proof.Stored
public import proofs.«01_k».proof.Proof.RefQuantise
public import Idealize.ShloMosaic.Lib.ReduceAll
public import Idealize.ShloMosaic.Lib.TopK.HostRounds
@[expose] public section

/-! The precondition, read off: every group of the new rows has a largest magnitude that is zero or in the normal range. -/

noncomputable section

namespace Cert.Proof.InRange

open Idealize.ShloMosaic Idealize.ShloMosaic.Pointwise
open Cert.Pre_in_range Cert.Proof.Quantise

set_option maxRecDepth 16384

instance facts : Cert.Pre_in_range.Facts where
  bitsLt_bf16_f32 := by decide
  shapeCasts_S4x1x8x256_S4x1x8x8x32 := by decide
  reducesTo_S4x1x8x8x32_S4x1x8x8_d4 := by decide
  h_S_ := by decide
  bcast_S_S4x1x8x8 := by decide
  reducesTo_S4x1x8x8_S_d0_1_2_3 := by decide

/-- The groups' largest magnitudes, as the predicate computes them. -/
def gtop (x : FVec Ideal S4x1x8x256 .bf16) : FVec Ideal S4x1x8x8 .f32 :=
  Host.reduce FloatOps.maximumf (Host.absf (shapeCast S4x1x8x8x32 (extf .f32 x Facts.bitsLt_bf16_f32) Facts.shapeCasts_S4x1x8x256_S4x1x8x8x32))
    (constant S_ .f32 0xFF800000#32) Facts.reducesTo_S4x1x8x8x32_S4x1x8x8_d4 Facts.h_S_

theorem gtop_apply (x : FVec Ideal S4x1x8x256 .bf16) (b : Fin 4) (h g : Fin 8) :
    gtop x (ix4 b 0 h g) = rowTop (fun m => x (ix4 b 0 h m)) ⟨32 * g.val, by omega⟩ := by
  have e := hostReduce_maximumf_eq_multiReduction (u := S_) (Host.absf (shapeCast S4x1x8x8x32 (extf .f32 x Facts.bitsLt_bf16_f32) Facts.shapeCasts_S4x1x8x256_S4x1x8x8x32))
    0xFF800000#32 Facts.reducesTo_S4x1x8x8x32_S4x1x8x8_d4 Facts.h_S_ (by decide) (.inl rfl) rfl
  refine (congrFun e _).trans ?_
  pointwise
  unfold rowTop top
  rw [show Ideal.ofBits FTy.f32 4286578688#32 = (⊥ : EReal) by simp [Ideal.ofBits, Ideal.ieee]]
  refine congrArg (fun f => Finset.fold max ⊥ f Finset.univ) (funext fun k => ?_)
  have e : (⟨32 * (32 * g.val / 32) + k.val, by omega⟩ : Fin 256) = ⟨g.val * 32 + k.val, by omega⟩ := Fin.ext (by dsimp only; omega)
  dsimp only
  rw [e]
  rfl

theorem ofBits_lo : Ideal.ofBits .f32 0x05000000#32 = (((2:ℝ)^(-117:ℤ):ℝ):EReal) := by
  have := Exponent.pow2_normal 10 (by omega) (by omega)
  have e : Exponent.pow2 (BitVec.ofNat 32 10) = Ideal.ofBits .f32 0x05000000#32 := rfl
  rw [← e, this]; norm_num

theorem ofBits_hi : Ideal.ofBits .f32 0x7E800000#32 = (((2:ℝ)^(126:ℤ):ℝ):EReal) := by
  have := Exponent.pow2_normal 253 (by omega) (by omega)
  have e : Exponent.pow2 (BitVec.ofNat 32 253) = Ideal.ofBits .f32 0x7E800000#32 := rfl
  rw [← e, this]; norm_num

/-- One group's test. -/
theorem test_one (a : EReal)
    (h : IntOp.ori (FloatOps.cmpf (F := Ideal) (φ := .f32) .oeq a (Ideal.ofBits .f32 0x00000000#32))
      (IntOp.andi (FloatOps.cmpf (F := Ideal) (φ := .f32) .oge a (Ideal.ofBits .f32 0x05000000#32))
        (FloatOps.cmpf (F := Ideal) (φ := .f32) .ole a (Ideal.ofBits .f32 0x7E800000#32))) = 1#1) : InRange a := by
  have hor : ∀ p q r : BitVec 1, IntOp.ori p (IntOp.andi q r) = 1#1 → p = 1#1 ∨ (q = 1#1 ∧ r = 1#1) := by decide
  rw [ofBits_lo, ofBits_hi, Ideal.ofBits_zero_f32] at h
  rcases hor _ _ _ h with h | ⟨h1, h2⟩
  · refine Or.inl ?_
    by_contra hne
    change Ideal.cmp .oeq a _ = 1#1 at h
    simp only [Ideal.cmp, hne, decide_false] at h
    exact absurd h (by decide)
  · refine Or.inr ⟨?_, ?_⟩
    · by_contra hne
      change Ideal.cmp .oge a _ = 1#1 at h1
      simp only [Ideal.cmp, ge_iff_le, hne, decide_false] at h1
      exact absurd h1 (by decide)
    · by_contra hne
      change Ideal.cmp .ole a _ = 1#1 at h2
      simp only [Ideal.cmp, hne, decide_false] at h2
      exact absurd h2 (by decide)

theorem ok_of (a0 a1 a2 a3 a4 a5 a6 a7) (h : Cert.Pre_in_range.fn (F := Ideal) a0 a1 a2 a3 a4 a5 a6 a7 = fun _ => 1#1) :
    Stored.Ok a1 ∧ Stored.Ok a2 := by
  have h0 := congrFun h (Shape.Idx.first (by decide))
  unfold Cert.Pre_in_range.fn Cert.Pre_in_range.fn_part1 at h0
  have h0 := IntOp.andi_eq_one.mp h0
  have : Subsingleton S_.Idx := ⟨fun a b => funext fun i => i.elim0⟩
  refine ⟨fun b h d => ?_, fun b h d => ?_⟩
  · have := Host.reduce_andi_all _ _ _ _ _ h0.1 (ix4 b 0 h ⟨d.val / 32, by omega⟩)
    have := test_one (gtop a1 (ix4 b 0 h ⟨d.val / 32, by omega⟩)) this
    rw [gtop_apply] at this
    dsimp only at this
    rwa [RefQuantise.rowTop_group] at this
  · have := Host.reduce_andi_all _ _ _ _ _ h0.2 (ix4 b 0 h ⟨d.val / 32, by omega⟩)
    have := test_one (gtop a2 (ix4 b 0 h ⟨d.val / 32, by omega⟩)) this
    rw [gtop_apply] at this
    dsimp only at this
    rwa [RefQuantise.rowTop_group] at this
end Cert.Proof.InRange
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Value
public import proofs.«01_k».proof.Proof.Arrays
public import proofs.«01_k».proof.Proof.RefArrays
public import proofs.«01_k».proof.Proof.RefOut
public import proofs.«01_k».proof.Proof.KOut
public import proofs.«01_k».proof.Proof.InRange

@[expose] public section

open Idealize.ShloMosaic Idealize.SL.Sem
open Idealize.ShloMosaic.TcCoe

namespace Cert.Proof

/-- The precondition gives the working range of both new rows. -/
theorem ok_of_pre (m : (ℓ : Loc Cert.KernelIdeal.nD Cert.KernelIdeal.τ Cert.KernelIdeal.sig) → Buf (Elt Ideal) ℓ)
    (h : Cert.Pre_KernelIdeal_in_range m) (c : Dev Cert.KernelIdeal.nD) :
    Stored.Ok (m ((c : Thread Cert.KernelIdeal.nD Cert.KernelIdeal.τ).loc Cert.KernelIdeal.main_arg1))
      ∧ Stored.Ok (m ((c : Thread Cert.KernelIdeal.nD Cert.KernelIdeal.τ).loc Cert.KernelIdeal.main_arg2)) :=
  InRange.ok_of _ _ _ _ _ _ _ _ (h c)

/-- All five results: both programs store the quantiser applied to the new rows, and attention over the window of the
arguments and the widened new rows. -/
theorem algebraic : Cert.algebraic_KernelIdeal_ReferenceIdeal_pre_in_range := by
  intro m g m' g' hpre hag
  refine ⟨fun c => RefOut.outArr (m ((c.tc : Thread Cert.KernelIdeal.nD Cert.KernelIdeal.τ).loc Cert.KernelIdeal.main_arg7)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Stored.codesOf (m ((c.tc : Thread Cert.KernelIdeal.nD Cert.KernelIdeal.τ).loc Cert.KernelIdeal.main_arg1)),
    fun c => Stored.scalesOf (m ((c.tc : Thread Cert.KernelIdeal.nD Cert.KernelIdeal.τ).loc Cert.KernelIdeal.main_arg1)),
    fun c => Stored.codesOf (m ((c.tc : Thread Cert.KernelIdeal.nD Cert.KernelIdeal.τ).loc Cert.KernelIdeal.main_arg2)),
    fun c => Stored.scalesOf (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Value.run_blocks (F := Ideal) m g)
    have ok := ok_of_pre m hpre c
    obtain ⟨h0, h1, h2, h3, h4, hk⟩ := h c
    refine ⟨?_, ?_, ?_, ?_, ?_, hk⟩
    · exact h0.trans (KOut.arr4 m c ok.1 ok.2)
    · exact h1.trans (Stored.arr5 m c ok.1)
    · exact h2.trans (Stored.arr6 m c ok.1)
    · exact h3.trans (Stored.arr7 m c ok.2)
    · exact h4.trans (Stored.arr8 m c ok.2)
  · refine (θ_run Cert.ReferenceIdeal.defs _ _).mono (fun r h c => ?_) (Cert.ReferenceIdeal.Value.run_blocks (F := Ideal) m' g')
    obtain ⟨a0, a1, a2, a3, a4, a5, a6, a7⟩ := hag c
    obtain ⟨h0, h1, h2, h3, h4, hk⟩ := h c
    refine ⟨?_, ?_, ?_, ?_, ?_, hk⟩
    · refine (h0.trans (RefOut.arr8 m' c)).trans ?_
      rw [a0, a1, a2, a3, a4, a5, a6, a7]
    · exact (h1.trans (RefStored.arr9 m' c)).trans (congrArg Stored.codesOf a1)
    · exact (h2.trans (RefStored.arr10 m' c)).trans (congrArg Stored.scalesOf a1)
    · exact (h3.trans (RefStored.arr11 m' c)).trans (congrArg Stored.codesOf a2)
    · exact (h4.trans (RefStored.arr12 m' c)).trans (congrArg Stored.scalesOf a2)

theorem claim : Cert.Claim :=
  ⟨Cert.Kernel.Gen.facts, Cert.KernelIdeal.Gen.facts, Cert.ReferenceIdeal.Gen.facts, InRange.facts,
   fun m ρ _ => Cert.Kernel.Gen.frame m ρ, fun m ρ _ => Cert.KernelIdeal.Gen.frame m ρ,
   fun m ρ _ => Cert.KernelIdeal.Gen.frame m ρ,
   fun m ρ _ => Cert.ReferenceIdeal.Gen.frame m ρ, fun m ρ _ => Cert.ReferenceIdeal.Gen.frame m ρ,
   IdealRules.named_const.statement Cert.KernelIdeal.κ "cap_scale" .f32 0x3AA3D70A#32 ((1 / 800 : ℝ) : EReal) rfl,
   algebraic⟩

end Cert.Proof
